-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v19) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v8_0)) (v1 : (c : Dev Cert.Kernel9Ideal.nD) → Buf (Elt Ideal) ((c.tc : Thread Cert.Kernel9Ideal.nD Cert.Kernel9Ideal.τ).loc Cert.Kernel9Ideal.main_v8_1)) (v2 : (c : Dev Cert.Kernel9Ideal.nD) → Buf (Elt Ideal) ((c.tc : Thread Cert.Kernel9Ideal.nD Cert.Kernel9Ideal.τ).loc Cert.Kernel9Ideal.main_v8_2)) (v3 : (c : Dev Cert.Kernel9Ideal.nD) → Buf (Elt Ideal) ((c.tc : Thread Cert.Kernel9Ideal.nD Cert.Kernel9Ideal.τ).loc Cert.Kernel9Ideal.main_v8_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_v8_1) = v1 c
          ∧ r.2.mem ((c.tc : Thread Cert.Kernel9Ideal.nD Cert.Kernel9Ideal.τ).loc Cert.Kernel9Ideal.main_v8_2) = v2 c
          ∧ r.2.mem ((c.tc : Thread Cert.Kernel9Ideal.nD Cert.Kernel9Ideal.τ).loc Cert.Kernel9Ideal.main_v8_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v40) = v0 c
          ∧ r.2.mem ((c.tc : Thread Cert.Reference9Ideal.nD Cert.Reference9Ideal.τ).loc Cert.Reference9Ideal.main_v41) = v1 c
          ∧ r.2.mem ((c.tc : Thread Cert.Reference9Ideal.nD Cert.Reference9Ideal.τ).loc Cert.Reference9Ideal.main_v43) = v2 c
          ∧ r.2.mem ((c.tc : Thread Cert.Reference9Ideal.nD Cert.Reference9Ideal.τ).loc Cert.Reference9Ideal.main_v45) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
-- ==== Pre_finite.lean ====
abbrev S8192x2048 : Shape := ⟨2, ![8192, 2048]⟩
abbrev S4x2048x11264 : Shape := ⟨3, ![4, 2048, 11264]⟩
abbrev S4x3x11264 : Shape := ⟨3, ![4, 3, 11264]⟩
abbrev S4x5632x2048 : Shape := ⟨3, ![4, 5632, 2048]⟩
abbrev S_ : Shape := ⟨0, ![]⟩

class Facts : Prop where
  bcast_S_S8192x2048 : S_.BroadcastsInDim S8192x2048 (![] : Fin 0 → Fin S8192x2048.rank)
  bcast_S_S4x2048x11264 : S_.BroadcastsInDim S4x2048x11264 (![] : Fin 0 → Fin S4x2048x11264.rank)
  bcast_S_S4x3x11264 : S_.BroadcastsInDim S4x3x11264 (![] : Fin 0 → Fin S4x3x11264.rank)

variable [Facts]

def fn {F : FTy → Type} [FloatOps F] (main_arg0 : FVec F S8192x2048 .bf16) (main_arg1 : FVec F S4x2048x11264 .f32) (main_arg2 : FVec F S4x3x11264 .f32) (main_arg3 : FVec F S4x5632x2048 .f32) : IVec S8192x2048 1 × IVec S4x2048x11264 1 × IVec S4x3x11264 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_v3 : FVec F S4x2048x11264 .f32 := Host.absf main_arg1
  let main_cst_0 : FVec F S_ .f32 := constant S_ .f32 0x7F800000#32
  let main_v4 : FVec F S4x2048x11264 .f32 := broadcastInDim S4x2048x11264 ![] bcast_S_S4x2048x11264 main_cst_0
  let main_v5 : IVec S4x2048x11264 1 := cmpf .olt main_v3 main_v4
  let main_v6 : FVec F S4x3x11264 .f32 := Host.absf main_arg2
  let main_cst_1 : FVec F S_ .f32 := constant S_ .f32 0x7F800000#32
  let main_v7 : FVec F S4x3x11264 .f32 := broadcastInDim S4x3x11264 ![] bcast_S_S4x3x11264 main_cst_1
  let main_v8 : IVec S4x3x11264 1 := cmpf .olt main_v6 main_v7
  (main_v2, main_v5, main_v8)
-- ==== Kernel.lean ====
abbrev S8192x9216 : Shape := ⟨2, ![8192, 9216]⟩
abbrev S8192x2048 : Shape := ⟨2, ![8192, 2048]⟩
abbrev S4x2048x9232 : Shape := ⟨3, ![4, 2048, 9232]⟩
abbrev S4x4x3072 : Shape := ⟨3, ![4, 4, 3072]⟩
abbrev S4x8 : Shape := ⟨2, ![4, 8]⟩
abbrev S4x128 : Shape := ⟨2, ![4, 128]⟩
abbrev S4x9232x2048 : Shape := ⟨3, ![4, 9232, 2048]⟩
abbrev S1x4x3072 : Shape := ⟨3, ![1, 4, 3072]⟩
abbrev S4x3072 : Shape := ⟨2, ![4, 3072]⟩
abbrev S1x8 : Shape := ⟨2, ![1, 8]⟩
abbrev S8 : Shape := ⟨1, ![8]⟩
abbrev S1x128 : Shape := ⟨2, ![1, 128]⟩
abbrev S128 : Shape := ⟨1, ![128]⟩
abbrev S_ : Shape := ⟨0, ![]⟩
abbrev S1 : Shape := ⟨1, ![1]⟩
abbrev S2 : Shape := ⟨1, ![2]⟩
abbrev S8192x1024 : Shape := ⟨2, ![8192, 1024]⟩
abbrev S256x1024 : Shape := ⟨2, ![256, 1024]⟩
abbrev S256x2048 : Shape := ⟨2, ![256, 2048]⟩
abbrev S1x16x2048 : Shape := ⟨3, ![1, 16, 2048]⟩
abbrev S264x3072 : Shape := ⟨2, ![264, 3072]⟩
abbrev S256x3072 : Shape := ⟨2, ![256, 3072]⟩
abbrev S256x128 : Shape := ⟨2, ![256, 128]⟩
abbrev S8x128x128 : Shape := ⟨3, ![8, 128, 128]⟩
abbrev S128x2048 : Shape := ⟨2, ![128, 2048]⟩
abbrev S8x3072 : Shape := ⟨2, ![8, 3072]⟩
abbrev S16x2048 : Shape := ⟨2, ![16, 2048]⟩
abbrev S264x128 : Shape := ⟨2, ![264, 128]⟩
abbrev S64x128 : Shape := ⟨2, ![64, 128]⟩
abbrev S64x64 : Shape := ⟨2, ![64, 64]⟩
abbrev S128x128 : Shape := ⟨2, ![128, 128]⟩
abbrev S64 : Shape := ⟨1, ![64]⟩
abbrev S64x1 : Shape := ⟨2, ![64, 1]⟩
abbrev S1x1 : Shape := ⟨2, ![1, 1]⟩
abbrev S64x256 : Shape := ⟨2, ![64, 256]⟩
abbrev S128x256 : Shape := ⟨2, ![128, 256]⟩
abbrev S64x512 : Shape := ⟨2, ![64, 512]⟩
abbrev S128x512 : Shape := ⟨2, ![128, 512]⟩
abbrev S1x128x128 : Shape := ⟨3, ![1, 128, 128]⟩

abbrev nBuf : Space → Nat
  | .hbm => 32
  | .vmem => 22
  | .smem => 0
  | _ => 0

abbrev bufTy : (tb : Table) → Fin (tcTables nBuf tb) → BufTy
  | .hbm, ⟨0, _⟩ => ⟨S8192x9216, .f32⟩
  | .hbm, ⟨1, _⟩ => ⟨S8192x2048, .bf16⟩
  | .hbm, ⟨2, _⟩ => ⟨S4x2048x9232, .f32⟩
  | .hbm, ⟨3, _⟩ => ⟨S4x4x3072, .f32⟩
  | .hbm, ⟨4, _⟩ => ⟨S4x8, .f32⟩
  | .hbm, ⟨5, _⟩ => ⟨S4x8, .f32⟩
  | .hbm, ⟨6, _⟩ => ⟨S4x128, .f32⟩
  | .hbm, ⟨7, _⟩ => ⟨S4x9232x2048, .f32⟩
  | .hbm, ⟨8, _⟩ => ⟨S1x4x3072, .f32⟩
  | .hbm, ⟨9, _⟩ => ⟨S4x3072, .f32⟩
  | .hbm, ⟨10, _⟩ => ⟨S1x8, .f32⟩
  | .hbm, ⟨11, _⟩ => ⟨S8, .f32⟩
  | .hbm, ⟨12, _⟩ => ⟨S1x8, .f32⟩
  | .hbm, ⟨13, _⟩ => ⟨S8, .f32⟩
  | .hbm, ⟨14, _⟩ => ⟨S1x128, .f32⟩
  | .hbm, ⟨15, _⟩ => ⟨S128, .f32⟩
  | .hbm, ⟨16, _⟩ => ⟨S_, .f32⟩
  | .hbm, ⟨17, _⟩ => ⟨S1x128, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S1x128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S1x128, .f32⟩
  | .hbm, ⟨30, _⟩ => ⟨S1x128, .f32⟩
  | .hbm, ⟨31, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x2048, .bf16⟩
  | .local _ .vmem, ⟨9, _⟩ => ⟨S256x2048, .bf16⟩
  | .local _ .vmem, ⟨10, _⟩ => ⟨S1x16x2048, .f32⟩
  | .local _ .vmem, ⟨11, _⟩ => ⟨S4x3072, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S256x1024, .bf16⟩
  | .local _ .vmem, ⟨16, _⟩ => ⟨S256x1024, .bf16⟩
  | .local _ .vmem, ⟨17, _⟩ => ⟨S264x3072, .f32⟩
  | .local _ .vmem, ⟨18, _⟩ => ⟨S256x3072, .f32⟩
  | .local _ .vmem, ⟨19, _⟩ => ⟨S256x128, .f32⟩
  | .local _ .vmem, ⟨20, _⟩ => ⟨S8x128x128, .f32⟩
  | .local _ .vmem, ⟨21, _⟩ => ⟨S128x2048, .bf16⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c5120_i32 : BitVec 32 := 5120#32
  let c0_i32 : BitVec 32 := 0#32
  let c0_i32_0 : BitVec 32 := 0#32
  ![c1_i32.toNat, c5120_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8192x9216 : Shape := ⟨2, ![8192, 9216]⟩
abbrev S8192x2048 : Shape := ⟨2, ![8192, 2048]⟩
abbrev S4x2048x9232 : Shape := ⟨3, ![4, 2048, 9232]⟩
abbrev S4x4x3072 : Shape := ⟨3, ![4, 4, 3072]⟩
abbrev S4x8 : Shape := ⟨2, ![4, 8]⟩
abbrev S4x128 : Shape := ⟨2, ![4, 128]⟩
abbrev S8192x3072 : Shape := ⟨2, ![8192, 3072]⟩
abbrev S1x2048x16 : Shape := ⟨3, ![1, 2048, 16]⟩
abbrev S2048x16 : Shape := ⟨2, ![2048, 16]⟩
abbrev S8192x16 : Shape := ⟨2, ![8192, 16]⟩
abbrev S8192x8 : Shape := ⟨2, ![8192, 8]⟩
abbrev S_ : Shape := ⟨0, ![]⟩
abbrev S3x3072 : Shape := ⟨2, ![3, 3072]⟩
abbrev S8195x3072 : Shape := ⟨2, ![8195, 3072]⟩
abbrev S1x1x3072 : Shape := ⟨3, ![1, 1, 3072]⟩
abbrev S3072 : Shape := ⟨1, ![3072]⟩
abbrev S1x3072 : Shape := ⟨2, ![1, 3072]⟩
abbrev S8192x1024 : Shape := ⟨2, ![8192, 1024]⟩
abbrev S8192x8x128 : Shape := ⟨3, ![8192, 8, 128]⟩
abbrev S8192x8x1 : Shape := ⟨3, ![8192, 8, 1]⟩
abbrev S1x8 : Shape := ⟨2, ![1, 8]⟩
abbrev S8 : Shape := ⟨1, ![8]⟩
abbrev S8x128x128 : Shape := ⟨3, ![8, 128, 128]⟩
abbrev S1x8x128 : Shape := ⟨3, ![1, 8, 128]⟩
abbrev S8x128 : Shape := ⟨2, ![8, 128]⟩
abbrev S8x1x1 : Shape := ⟨3, ![8, 1, 1]⟩
abbrev S8x128x1 : Shape := ⟨3, ![8, 128, 1]⟩
abbrev S8x1 : Shape := ⟨2, ![8, 1]⟩
abbrev S8x1x128 : Shape := ⟨3, ![8, 1, 128]⟩
abbrev S1x128 : Shape := ⟨2, ![1, 128]⟩
abbrev S128 : Shape := ⟨1, ![128]⟩
abbrev S1x1x128 : Shape := ⟨3, ![1, 1, 128]⟩

abbrev nBuf : Space → Nat
  | .hbm => 211
  | .vmem => 0
  | .smem => 0
  | _ => 0

abbrev hbmTy0_0 (i : Nat) : BufTy := match i % 128 with
  | 0 => ⟨S8192x9216, .f32⟩
  | 1 => ⟨S8192x2048, .bf16⟩
  | 2 => ⟨S4x2048x9232, .f32⟩
  | 3 => ⟨S4x4x3072, .f32⟩
  | 4 => ⟨S4x8, .f32⟩
  | 5 => ⟨S4x8, .f32⟩
  | 6 => ⟨S4x128, .f32⟩
  | 7 => ⟨S8192x3072, .f32⟩
  | 8 => ⟨S8192x2048, .f32⟩
  | 9 => ⟨S1x2048x16, .f32⟩
  | 10 => ⟨S2048x16, .f32⟩
  | 11 => ⟨S8192x16, .f32⟩
  | 12 => ⟨S8192x8, .f32⟩
  | 13 => ⟨S8192x8, .f32⟩
  | 14 => ⟨S_, .f32⟩
  | 15 => ⟨S3x3072, .f32⟩
  | 16 => ⟨S8195x3072, .f32⟩
  | 17 => ⟨S1x1x3072, .f32⟩
  | 18 => ⟨S3072, .f32⟩
  | 19 => ⟨S8192x3072, .f32⟩
  | 20 => ⟨S1x3072, .f32⟩
  | 21 => ⟨S8192x3072, .f32⟩
  | 22 => ⟨S8192x3072, .f32⟩
  | 23 => ⟨S1x1x3072, .f32⟩
  | 24 => ⟨S3072, .f32⟩
  | 25 => ⟨S8192x3072, .f32⟩
  | 26 => ⟨S1x3072, .f32⟩
  | 27 => ⟨S8192x3072, .f32⟩
  | 28 => ⟨S8192x3072, .f32⟩
  | 29 => ⟨S8192x3072, .f32⟩
  | 30 => ⟨S1x1x3072, .f32⟩
  | 31 => ⟨S3072, .f32⟩
  | 32 => ⟨S8192x3072, .f32⟩
  | 33 => ⟨S1x3072, .f32⟩
  | 34 => ⟨S8192x3072, .f32⟩
  | 35 => ⟨S8192x3072, .f32⟩
  | 36 => ⟨S8192x3072, .f32⟩
  | 37 => ⟨S1x1x3072, .f32⟩
  | 38 => ⟨S3072, .f32⟩
  | 39 => ⟨S8192x3072, .f32⟩
  | 40 => ⟨S1x3072, .f32⟩
  | 41 => ⟨S8192x3072, .f32⟩
  | 42 => ⟨S8192x3072, .f32⟩
  | 43 => ⟨S8192x3072, .f32⟩
  | 44 => ⟨S8192x3072, .f32⟩
  | 45 => ⟨S8192x3072, .f32⟩
  | 46 => ⟨S_, .f32⟩
  | 47 => ⟨S8192x3072, .f32⟩
  | 48 => ⟨S8192x3072, .f32⟩
  | 49 => ⟨S_, .f32⟩
  | 50 => ⟨S8192x3072, .f32⟩
  | 51 => ⟨S8192x3072, .f32⟩
  | 52 => ⟨S8192x3072, .f32⟩
  | 53 => ⟨S8192x1024, .f32⟩
  | 54 => ⟨S8192x1024, .f32⟩
  | 55 => ⟨S8192x1024, .f32⟩
  | 56 => ⟨S8192x8x128, .f32⟩
  | 57 => ⟨S8192x8x128, .f32⟩
  | 58 => ⟨S_, .f32⟩
  | 59 => ⟨S8192x8, .f32⟩
  | 60 => ⟨S8192x8x1, .f32⟩
  | 61 => ⟨S_, .f32⟩
  | 62 => ⟨S8192x8x1, .f32⟩
  | 63 => ⟨S8192x8x1, .f32⟩
  | 64 => ⟨S8192x8x1, .f32⟩
  | 65 => ⟨S8192x8x128, .f32⟩
  | 66 => ⟨S8192x8x128, .f32⟩
  | 67 => ⟨S_, .f32⟩
  | 68 => ⟨S8192x8x128, .f32⟩
  | 69 => ⟨S8192x8x128, .f32⟩
  | 70 => ⟨S8192x8x128, .f32⟩
  | 71 => ⟨S8192x8x128, .f32⟩
  | 72 => ⟨S_, .f32⟩
  | 73 => ⟨S8192x8, .f32⟩
  | 74 => ⟨S8192x8x1, .f32⟩
  | 75 => ⟨S_, .f32⟩
  | 76 => ⟨S8192x8x1, .f32⟩
  | 77 => ⟨S8192x8x1, .f32⟩
  | 78 => ⟨S8192x8x1, .f32⟩
  | 79 => ⟨S8192x8x128, .f32⟩
  | 80 => ⟨S8192x8x128, .f32⟩
  | 81 => ⟨S8192x8x128, .f32⟩
  | 82 => ⟨S8192x8, .f32⟩
  | 83 => ⟨S8192x8, .f32⟩
  | 84 => ⟨S_, .f32⟩
  | 85 => ⟨S8192x8, .f32⟩
  | 86 => ⟨S8192x8, .f32⟩
  | 87 => ⟨S_, .f32⟩
  | 88 => ⟨S8192x8, .f32⟩
  | 89 => ⟨S8192x8, .f32⟩
  | 90 => ⟨S1x8, .f32⟩
  | 91 => ⟨S8, .f32⟩
  | 92 => ⟨S8, .f32⟩
  | 93 => ⟨S8, .f32⟩
  | 94 => ⟨S1x8, .f32⟩
  | 95 => ⟨S8, .f32⟩
  | 96 => ⟨S1x8, .f32⟩
  | 97 => ⟨S8192x8, .f32⟩
  | 98 => ⟨S8192x8, .f32⟩
  | 99 => ⟨S_, .f32⟩
  | 100 => ⟨S8192x8, .f32⟩
  | 101 => ⟨S8192x8, .f32⟩
  | 102 => ⟨S8192x8, .f32⟩
  | 103 => ⟨S8192x8, .f32⟩
  | 104 => ⟨S8192x8, .i1⟩
  | 105 => ⟨S8192x8, .f32⟩
  | 106 => ⟨S8192x8, .f32⟩
  | 107 => ⟨S8192x8, .f32⟩
  | 108 => ⟨S8192x8, .f32⟩
  | 109 => ⟨S8192x8, .f32⟩
  | 110 => ⟨S8192x8, .f32⟩
  | 111 => ⟨S8192x8, .f32⟩
  | 112 => ⟨S8192x8, .f32⟩
  | 113 => ⟨S1x8, .f32⟩
  | 114 => ⟨S8192x8, .f32⟩
  | 115 => ⟨S8192x8, .f32⟩
  | 116 => ⟨S_, .f32⟩
  | 117 => ⟨S8x128x128, .f32⟩
  | 118 => ⟨S_, .f32⟩
  | 119 => ⟨S8192x8x128, .f32⟩
  | 120 => ⟨S_, .i32⟩
  | 121 => ⟨S8192x8x128, .f32⟩
  | 122 => ⟨S8192x8x128, .f32⟩
  | 123 => ⟨S8192x8x128, .f32⟩
  | 124 => ⟨S8192x8, .f32⟩
  | 125 => ⟨S8192x8, .f32⟩
  | 126 => ⟨S_, .i32⟩
  | 127 => ⟨S8x128x128, .f32⟩
  | _ => ⟨S8192x9216, .f32⟩

abbrev hbmTy0_1 (i : Nat) : BufTy := match i % 128 with
  | 0 => ⟨S8192x8x128, .f32⟩
  | 1 => ⟨S_, .i32⟩
  | 2 => ⟨S_, .i1⟩
  | 3 => ⟨S_, .i32⟩
  | 4 => ⟨S_, .i32⟩
  | 5 => ⟨S1x8x128, .f32⟩
  | 6 => ⟨S8x128, .f32⟩
  | 7 => ⟨S_, .i32⟩
  | 8 => ⟨S_, .i32⟩
  | 9 => ⟨S1x8x128, .f32⟩
  | 10 => ⟨S8x128, .f32⟩
  | 11 => ⟨S_, .i32⟩
  | 12 => ⟨S_, .i32⟩
  | 13 => ⟨S1x8x128, .f32⟩
  | 14 => ⟨S8x128, .f32⟩
  | 15 => ⟨S_, .i32⟩
  | 16 => ⟨S1x8, .f32⟩
  | 17 => ⟨S8, .f32⟩
  | 18 => ⟨S_, .i32⟩
  | 19 => ⟨S1x8, .f32⟩
  | 20 => ⟨S8, .f32⟩
  | 21 => ⟨S8, .f32⟩
  | 22 => ⟨S8x1x1, .f32⟩
  | 23 => ⟨S8x128x128, .f32⟩
  | 24 => ⟨S8x128x128, .f32⟩
  | 25 => ⟨S8x128x1, .f32⟩
  | 26 => ⟨S8x128x128, .f32⟩
  | 27 => ⟨S8x128x128, .f32⟩
  | 28 => ⟨S_, .f32⟩
  | 29 => ⟨S8x128, .f32⟩
  | 30 => ⟨S8x128, .f32⟩
  | 31 => ⟨S8x1, .f32⟩
  | 32 => ⟨S8x128, .f32⟩
  | 33 => ⟨S8x128, .f32⟩
  | 34 => ⟨S8x128x1, .f32⟩
  | 35 => ⟨S8x1x128, .f32⟩
  | 36 => ⟨S8x128x128, .f32⟩
  | 37 => ⟨S8x128x128, .f32⟩
  | 38 => ⟨S8x128x128, .f32⟩
  | 39 => ⟨S8x128x128, .f32⟩
  | 40 => ⟨S8x128x1, .f32⟩
  | 41 => ⟨S8x128x128, .f32⟩
  | 42 => ⟨S8x128x128, .f32⟩
  | 43 => ⟨S_, .f32⟩
  | 44 => ⟨S8x128, .f32⟩
  | 45 => ⟨S1x8x128, .f32⟩
  | 46 => ⟨S_, .i32⟩
  | 47 => ⟨S_, .i32⟩
  | 48 => ⟨S8192x8x128, .f32⟩
  | 49 => ⟨S_, .i32⟩
  | 50 => ⟨S_, .i32⟩
  | 51 => ⟨S8192x8x128, .f32⟩
  | 52 => ⟨S_, .f32⟩
  | 53 => ⟨S8192x8, .f32⟩
  | 54 => ⟨S8192x8x1, .f32⟩
  | 55 => ⟨S_, .f32⟩
  | 56 => ⟨S8192x8x1, .f32⟩
  | 57 => ⟨S8192x8x1, .f32⟩
  | 58 => ⟨S_, .f32⟩
  | 59 => ⟨S8192x8x1, .f32⟩
  | 60 => ⟨S8192x8x1, .f32⟩
  | 61 => ⟨S8192x8x1, .f32⟩
  | 62 => ⟨S8192x8x128, .f32⟩
  | 63 => ⟨S8192x8x128, .f32⟩
  | 64 => ⟨S1x128, .f32⟩
  | 65 => ⟨S128, .f32⟩
  | 66 => ⟨S1x1x128, .f32⟩
  | 67 => ⟨S8192x8x128, .f32⟩
  | 68 => ⟨S8192x8x128, .f32⟩
  | 69 => ⟨S8192x1024, .f32⟩
  | 70 => ⟨S8192x8x128, .f32⟩
  | 71 => ⟨S8192x8x128, .f32⟩
  | 72 => ⟨S8192x8x128, .f32⟩
  | 73 => ⟨S_, .f32⟩
  | 74 => ⟨S8192x8x128, .f32⟩
  | 75 => ⟨S8192x8x128, .f32⟩
  | 76 => ⟨S_, .f32⟩
  | 77 => ⟨S8192x8x128, .f32⟩
  | 78 => ⟨S8192x8x128, .f32⟩
  | 79 => ⟨S8192x8x128, .f32⟩
  | 80 => ⟨S8192x8x128, .f32⟩
  | 81 => ⟨S8192x1024, .f32⟩
  | 82 => ⟨S8192x1024, .bf16⟩
  | _ => ⟨S8192x9216, .f32⟩

abbrev hbmTy (i : Nat) : BufTy := match i / 128 with
  | 0 => hbmTy0_0 i
  | 1 => hbmTy0_1 i
  | _ => ⟨S8192x9216, .f32⟩

abbrev bufTy : (tb : Table) → Fin (tcTables nBuf tb) → BufTy
  | .hbm, ⟨i, _⟩ => hbmTy i
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_0 : Ref sig .tc := ⟨.hbm, 46, rfl⟩
abbrev main_v38 : Ref sig .tc := ⟨.hbm, 47, rfl⟩
abbrev main_v39 : Ref sig .tc := ⟨.hbm, 48, rfl⟩
abbrev main_cst_1 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_2 : Ref sig .tc := ⟨.hbm, 58, rfl⟩
abbrev main_v48 : Ref sig .tc := ⟨.hbm, 59, rfl⟩
abbrev main_v49 : Ref sig .tc := ⟨.hbm, 60, rfl⟩
abbrev main_cst_3 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_4 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_5 : Ref sig .tc := ⟨.hbm, 72, rfl⟩
abbrev main_v59 : Ref sig .tc := ⟨.hbm, 73, rfl⟩
abbrev main_v60 : Ref sig .tc := ⟨.hbm, 74, rfl⟩
abbrev main_cst_6 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_7 : Ref sig .tc := ⟨.hbm, 84, rfl⟩
abbrev main_v69 : Ref sig .tc := ⟨.hbm, 85, rfl⟩
abbrev main_v70 : Ref sig .tc := ⟨.hbm, 86, rfl⟩
abbrev main_cst_8 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_call0_cst : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_v5 : Ref sig .tc := ⟨.hbm, 105, rfl⟩
abbrev main_call0_v6 : Ref sig .tc := ⟨.hbm, 106, rfl⟩
abbrev main_call0_v7 : Ref sig .tc := ⟨.hbm, 107, rfl⟩
abbrev main_call0_v8 : Ref sig .tc := ⟨.hbm, 108, rfl⟩
abbrev main_call0_v9 : Ref sig .tc := ⟨.hbm, 109, rfl⟩
abbrev main_call0_v10 : Ref sig .tc := ⟨.hbm, 110, rfl⟩
abbrev main_call0_v11 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_9 : Ref sig .tc := ⟨.hbm, 116, rfl⟩
abbrev main_v86 : Ref sig .tc := ⟨.hbm, 117, rfl⟩
abbrev main_cst_10 : Ref sig .tc := ⟨.hbm, 118, rfl⟩
abbrev main_v87 : Ref sig .tc := ⟨.hbm, 119, rfl⟩
abbrev main_c : Ref sig .tc := ⟨.hbm, 120, rfl⟩
abbrev main_v88_0 : Ref sig .tc := ⟨.hbm, 121, rfl⟩
abbrev main_v88_1 : Ref sig .tc := ⟨.hbm, 122, rfl⟩
abbrev main_v88_2 : Ref sig .tc := ⟨.hbm, 123, rfl⟩
abbrev main_v88_3 : Ref sig .tc := ⟨.hbm, 124, rfl⟩
abbrev main_v88_4 : Ref sig .tc := ⟨.hbm, 125, rfl⟩
abbrev main_v88_5 : Ref sig .tc := ⟨.hbm, 126, rfl⟩
abbrev main_v88_6 : Ref sig .tc := ⟨.hbm, 127, rfl⟩
abbrev main_v88_7 : Ref sig .tc := ⟨.hbm, 128, rfl⟩
abbrev main_while0c_c_23 : Ref sig .tc := ⟨.hbm, 129, rfl⟩
abbrev main_while0c_v116 : Ref sig .tc := ⟨.hbm, 130, rfl⟩
abbrev main_while0b_call1_c : Ref sig .tc := ⟨.hbm, 131, rfl⟩
abbrev main_while0b_call1_c_0 : Ref sig .tc := ⟨.hbm, 132, rfl⟩
abbrev main_while0b_call1_v0 : Ref sig .tc := ⟨.hbm, 133, rfl⟩
abbrev main_while0b_v116 : Ref sig .tc := ⟨.hbm, 134, rfl⟩
abbrev main_while0b_call2_c : Ref sig .tc := ⟨.hbm, 135, rfl⟩
abbrev main_while0b_call2_c_0 : Ref sig .tc := ⟨.hbm, 136, rfl⟩
abbrev main_while0b_call2_v0 : Ref sig .tc := ⟨.hbm, 137, rfl⟩
abbrev main_while0b_v117 : Ref sig .tc := ⟨.hbm, 138, rfl⟩
abbrev main_while0b_call3_c : Ref sig .tc := ⟨.hbm, 139, rfl⟩
abbrev main_while0b_call3_c_0 : Ref sig .tc := ⟨.hbm, 140, rfl⟩
abbrev main_while0b_call3_v0 : Ref sig .tc := ⟨.hbm, 141, rfl⟩
abbrev main_while0b_v118 : Ref sig .tc := ⟨.hbm, 142, rfl⟩
abbrev main_while0b_call4_c : Ref sig .tc := ⟨.hbm, 143, rfl⟩
abbrev main_while0b_call4_v0 : Ref sig .tc := ⟨.hbm, 144, rfl⟩
abbrev main_while0b_v119 : Ref sig .tc := ⟨.hbm, 145, rfl⟩
abbrev main_while0b_call5_c : Ref sig .tc := ⟨.hbm, 146, rfl⟩
abbrev main_while0b_call5_v0 : Ref sig .tc := ⟨.hbm, 147, rfl⟩
abbrev main_while0b_v120 : Ref sig .tc := ⟨.hbm, 148, rfl⟩
abbrev main_while0b_v121 : Ref sig .tc := ⟨.hbm, 149, rfl⟩
abbrev main_while0b_v122 : Ref sig .tc := ⟨.hbm, 150, rfl⟩
abbrev main_while0b_v123 : Ref sig .tc := ⟨.hbm, 151, rfl⟩
abbrev main_while0b_v124 : Ref sig .tc := ⟨.hbm, 152, rfl⟩
abbrev main_while0b_v125 : Ref sig .tc := ⟨.hbm, 153, rfl⟩
abbrev main_while0b_v126 : Ref sig .tc := ⟨.hbm, 154, rfl⟩
abbrev main_while0b_v127 : Ref sig .tc := ⟨.hbm, 155, rfl⟩
abbrev main_while0b_cst_23 : Ref sig .tc := ⟨.hbm, 156, rfl⟩
abbrev main_while0b_v128 : Ref sig .tc := ⟨.hbm, 157, rfl⟩
abbrev main_while0b_v129 : Ref sig .tc := ⟨.hbm, 158, rfl⟩
abbrev main_while0b_v130 : Ref sig .tc := ⟨.hbm, 159, rfl⟩
abbrev main_while0b_v131 : Ref sig .tc := ⟨.hbm, 160, rfl⟩
abbrev main_while0b_v132 : Ref sig .tc := ⟨.hbm, 161, rfl⟩
abbrev main_while0b_v133 : Ref sig .tc := ⟨.hbm, 162, rfl⟩
abbrev main_while0b_v134 : Ref sig .tc := ⟨.hbm, 163, rfl⟩
abbrev main_while0b_v135 : Ref sig .tc := ⟨.hbm, 164, rfl⟩
abbrev main_while0b_v136 : Ref sig .tc := ⟨.hbm, 165, rfl⟩
abbrev main_while0b_v137 : Ref sig .tc := ⟨.hbm, 166, rfl⟩
abbrev main_while0b_v138 : Ref sig .tc := ⟨.hbm, 167, rfl⟩
abbrev main_while0b_v139 : Ref sig .tc := ⟨.hbm, 168, rfl⟩
abbrev main_while0b_v140 : Ref sig .tc := ⟨.hbm, 169, rfl⟩
abbrev main_while0b_v141 : Ref sig .tc := ⟨.hbm, 170, rfl⟩
abbrev main_while0b_cst_24 : Ref sig .tc := ⟨.hbm, 171, rfl⟩
abbrev main_while0b_v142 : Ref sig .tc := ⟨.hbm, 172, rfl⟩
abbrev main_while0b_call6_v0 : Ref sig .tc := ⟨.hbm, 173, rfl⟩
abbrev main_while0b_call6_c : Ref sig .tc := ⟨.hbm, 174, rfl⟩
abbrev main_while0b_call6_c_0 : Ref sig .tc := ⟨.hbm, 175, rfl⟩
abbrev main_while0b_v143 : Ref sig .tc := ⟨.hbm, 176, rfl⟩
abbrev main_while0b_c_25 : Ref sig .tc := ⟨.hbm, 177, rfl⟩
abbrev main_while0b_v144 : Ref sig .tc := ⟨.hbm, 178, rfl⟩
abbrev main_v89 : Ref sig .tc := ⟨.hbm, 179, rfl⟩
abbrev main_cst_11 : Ref sig .tc := ⟨.hbm, 180, rfl⟩
abbrev main_v90 : Ref sig .tc := ⟨.hbm, 181, rfl⟩
abbrev main_v91 : Ref sig .tc := ⟨.hbm, 182, rfl⟩
abbrev main_cst_12 : Ref sig .tc := ⟨.hbm, 183, rfl⟩
abbrev main_v92 : Ref sig .tc := ⟨.hbm, 184, rfl⟩
abbrev main_v93 : Ref sig .tc := ⟨.hbm, 185, rfl⟩
abbrev main_cst_13 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_cst_14 : Ref sig .tc := ⟨.hbm, 201, rfl⟩
abbrev main_v108 : Ref sig .tc := ⟨.hbm, 202, rfl⟩
abbrev main_v109 : Ref sig .tc := ⟨.hbm, 203, rfl⟩
abbrev main_cst_15 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S8192x2048 : Shape := ⟨2, ![8192, 2048]⟩
abbrev S4x2048x9232 : Shape := ⟨3, ![4, 2048, 9232]⟩
abbrev S4x9232x2048 : Shape := ⟨3, ![4, 9232, 2048]⟩
abbrev S8192x9216 : Shape := ⟨2, ![8192, 9216]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x9232, .f32⟩
  | .hbm, ⟨2, _⟩ => ⟨S4x9232x2048, .f32⟩
  | .hbm, ⟨3, _⟩ => ⟨S8192x9216, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 8], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  let c5_i32 : BitVec 32 := 5#32
  let v1 : BitVec 1 := Scalar.cmpi .sge arg0 c5_i32
  let c16_i32 : BitVec 32 := 16#32
  let c0_i32 : BitVec 32 := 0#32
  let v2 : BitVec 32 := Scalar.select v1 c16_i32 c0_i32
  let v3 : BitVec 32 := Scalar.addi v0 v2
  v3
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c5_i32 : BitVec 32 := 5#32
  let v1 : BitVec 1 := Scalar.cmpi .sge arg0 c5_i32
  let c16_i32 : BitVec 32 := 16#32
  let c0_i32 : BitVec 32 := 0#32
  let v2 : BitVec 32 := Scalar.select v1 c16_i32 c0_i32
  let v3 : BitVec 32 := Scalar.addi v0 v2
  let v4 : BitVec 32 := v3
  let c1_i32 : BitVec 32 := 1#32
  let c0_i32_0 : BitVec 32 := 0#32
  let c0_i32_1 : BitVec 32 := 0#32
  ![c1_i32.toNat, v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x2048 : Shape := ⟨2, ![8192, 2048]⟩
abbrev S4x2048x9232 : Shape := ⟨3, ![4, 2048, 9232]⟩
abbrev S1x2048x9232 : Shape := ⟨3, ![1, 2048, 9232]⟩
abbrev S2048x9232 : Shape := ⟨2, ![2048, 9232]⟩
abbrev S8192x9232 : Shape := ⟨2, ![8192, 9232]⟩
abbrev S8192x5120 : Shape := ⟨2, ![8192, 5120]⟩
abbrev S8192x4096 : Shape := ⟨2, ![8192, 4096]⟩
abbrev S8192x9216 : Shape := ⟨2, ![8192, 9216]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x9232, .f32⟩
  | .hbm, ⟨2, _⟩ => ⟨S8192x2048, .f32⟩
  | .hbm, ⟨3, _⟩ => ⟨S1x2048x9232, .f32⟩
  | .hbm, ⟨4, _⟩ => ⟨S2048x9232, .f32⟩
  | .hbm, ⟨5, _⟩ => ⟨S8192x9232, .f32⟩
  | .hbm, ⟨6, _⟩ => ⟨S8192x5120, .f32⟩
  | .hbm, ⟨7, _⟩ => ⟨S8192x4096, .f32⟩
  | .hbm, ⟨8, _⟩ => ⟨S8192x9216, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel3.lean ====
abbrev S8192x2048 : Shape := ⟨2, ![8192, 2048]⟩
abbrev S4x2048x11264 : Shape := ⟨3, ![4, 2048, 11264]⟩
abbrev S4x3x11264 : Shape := ⟨3, ![4, 3, 11264]⟩
abbrev S4x5632x2048 : Shape := ⟨3, ![4, 5632, 2048]⟩
abbrev S1x3x11264 : Shape := ⟨3, ![1, 3, 11264]⟩
abbrev S3x11264 : Shape := ⟨2, ![3, 11264]⟩
abbrev S8192x5632 : Shape := ⟨2, ![8192, 5632]⟩
abbrev S5632x2048 : Shape := ⟨2, ![5632, 2048]⟩
abbrev S1024x2048 : Shape := ⟨2, ![1024, 2048]⟩
abbrev S1x2048x512 : Shape := ⟨3, ![1, 2048, 512]⟩
abbrev S3x512 : Shape := ⟨2, ![3, 512]⟩
abbrev S1x64x2048 : Shape := ⟨3, ![1, 64, 2048]⟩
abbrev S1024x512 : Shape := ⟨2, ![1024, 512]⟩
abbrev S64x2048 : Shape := ⟨2, ![64, 2048]⟩
abbrev S8x1024 : Shape := ⟨2, ![8, 1024]⟩
abbrev S2048x1024 : Shape := ⟨2, ![2048, 1024]⟩
abbrev S2048x512 : Shape := ⟨2, ![2048, 512]⟩
abbrev S1024x1024 : Shape := ⟨2, ![1024, 1024]⟩
abbrev S3x1024 : Shape := ⟨2, ![3, 1024]⟩
abbrev S1x1024 : Shape := ⟨2, ![1, 1024]⟩
abbrev S1016x1024 : Shape := ⟨2, ![1016, 1024]⟩

abbrev nBuf : Space → Nat
  | .hbm => 8
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S4x2048x11264, .f32⟩
  | .hbm, ⟨2, _⟩ => ⟨S4x3x11264, .f32⟩
  | .hbm, ⟨3, _⟩ => ⟨S4x5632x2048, .f32⟩
  | .hbm, ⟨4, _⟩ => ⟨S1x3x11264, .f32⟩
  | .hbm, ⟨5, _⟩ => ⟨S3x11264, .f32⟩
  | .hbm, ⟨6, _⟩ => ⟨S8192x5632, .bf16⟩
  | .hbm, ⟨7, _⟩ => ⟨S5632x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x64x2048, .f32⟩
  | .local _ .vmem, ⟨11, _⟩ => ⟨S1x64x2048, .f32⟩
  | .local _ .vmem, ⟨12, _⟩ => ⟨S1024x512, .bf16⟩
  | .local _ .vmem, ⟨13, _⟩ => ⟨S1024x512, .bf16⟩
  | .local _ .vmem, ⟨14, _⟩ => ⟨S64x2048, .bf16⟩
  | .local _ .vmem, ⟨15, _⟩ => ⟨S64x2048, .bf16⟩
  | .local _ .vmem, ⟨16, _⟩ => ⟨S8x1024, .f32⟩
  | .local _ .vmem, ⟨17, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8192x2048 : Shape := ⟨2, ![8192, 2048]⟩
abbrev S4x2048x11264 : Shape := ⟨3, ![4, 2048, 11264]⟩
abbrev S4x3x11264 : Shape := ⟨3, ![4, 3, 11264]⟩
abbrev S4x5632x2048 : Shape := ⟨3, ![4, 5632, 2048]⟩
abbrev S1x2048x11264 : Shape := ⟨3, ![1, 2048, 11264]⟩
abbrev S2048x11264 : Shape := ⟨2, ![2048, 11264]⟩
abbrev S8192x11264 : Shape := ⟨2, ![8192, 11264]⟩
abbrev S_ : Shape := ⟨0, ![]⟩
abbrev S2x11264 : Shape := ⟨2, ![2, 11264]⟩
abbrev S8194x11264 : Shape := ⟨2, ![8194, 11264]⟩
abbrev S1x1x11264 : Shape := ⟨3, ![1, 1, 11264]⟩
abbrev S11264 : Shape := ⟨1, ![11264]⟩
abbrev S1x11264 : Shape := ⟨2, ![1, 11264]⟩
abbrev S8192x5632 : Shape := ⟨2, ![8192, 5632]⟩
abbrev S1x5632x2048 : Shape := ⟨3, ![1, 5632, 2048]⟩
abbrev S5632x2048 : Shape := ⟨2, ![5632, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x11264, .f32⟩
  | .hbm, ⟨2, _⟩ => ⟨S4x3x11264, .f32⟩
  | .hbm, ⟨3, _⟩ => ⟨S4x5632x2048, .f32⟩
  | .hbm, ⟨4, _⟩ => ⟨S8192x2048, .f32⟩
  | .hbm, ⟨5, _⟩ => ⟨S1x2048x11264, .f32⟩
  | .hbm, ⟨6, _⟩ => ⟨S2048x11264, .f32⟩
  | .hbm, ⟨7, _⟩ => ⟨S8192x11264, .f32⟩
  | .hbm, ⟨8, _⟩ => ⟨S_, .f32⟩
  | .hbm, ⟨9, _⟩ => ⟨S2x11264, .f32⟩
  | .hbm, ⟨10, _⟩ => ⟨S8194x11264, .f32⟩
  | .hbm, ⟨11, _⟩ => ⟨S1x1x11264, .f32⟩
  | .hbm, ⟨12, _⟩ => ⟨S11264, .f32⟩
  | .hbm, ⟨13, _⟩ => ⟨S8192x11264, .f32⟩
  | .hbm, ⟨14, _⟩ => ⟨S1x11264, .f32⟩
  | .hbm, ⟨15, _⟩ => ⟨S8192x11264, .f32⟩
  | .hbm, ⟨16, _⟩ => ⟨S8192x11264, .f32⟩
  | .hbm, ⟨17, _⟩ => ⟨S1x1x11264, .f32⟩
  | .hbm, ⟨18, _⟩ => ⟨S11264, .f32⟩
  | .hbm, ⟨19, _⟩ => ⟨S8192x11264, .f32⟩
  | .hbm, ⟨20, _⟩ => ⟨S1x11264, .f32⟩
  | .hbm, ⟨21, _⟩ => ⟨S8192x11264, .f32⟩
  | .hbm, ⟨22, _⟩ => ⟨S8192x11264, .f32⟩
  | .hbm, ⟨23, _⟩ => ⟨S8192x11264, .f32⟩
  | .hbm, ⟨24, _⟩ => ⟨S1x1x11264, .f32⟩
  | .hbm, ⟨25, _⟩ => ⟨S11264, .f32⟩
  | .hbm, ⟨26, _⟩ => ⟨S8192x11264, .f32⟩
  | .hbm, ⟨27, _⟩ => ⟨S1x11264, .f32⟩
  | .hbm, ⟨28, _⟩ => ⟨S8192x11264, .f32⟩
  | .hbm, ⟨29, _⟩ => ⟨S8192x11264, .f32⟩
  | .hbm, ⟨30, _⟩ => ⟨S8192x11264, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S_, .f32⟩
  | .hbm, ⟨36, _⟩ => ⟨S8192x5632, .f32⟩
  | .hbm, ⟨37, _⟩ => ⟨S8192x5632, .f32⟩
  | .hbm, ⟨38, _⟩ => ⟨S_, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S8192x5632, .bf16⟩
  | .hbm, ⟨44, _⟩ => ⟨S1x5632x2048, .f32⟩
  | .hbm, ⟨45, _⟩ => ⟨S5632x2048, .f32⟩
  | .hbm, ⟨46, _⟩ => ⟨S5632x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_0 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩

abbrev nD : Nat := 1
abbrev τ : Topo := Topo.v7x

variable {F : FTy → Type} [FloatOps F]
-- ==== Kernel4.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S1x2048 : Shape := ⟨2, ![1, 2048]⟩
abbrev S1024x512 : Shape := ⟨2, ![1024, 512]⟩
abbrev S512x2048 : Shape := ⟨2, ![512, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c10_i32 : BitVec 32 := 10#32
  let v6 : BitVec 1 := Scalar.cmpi .eq arg1 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S2048, .f32⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel5.lean ====
abbrev S8192x1024 : Shape := ⟨2, ![8192, 1024]⟩
abbrev S4x1024x4096 : Shape := ⟨3, ![4, 1024, 4096]⟩
abbrev S4x1024x2048 : Shape := ⟨3, ![4, 1024, 2048]⟩
abbrev S8192x9216 : Shape := ⟨2, ![8192, 9216]⟩
abbrev S8192x2048 : Shape := ⟨2, ![8192, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 6
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x1024x4096, .f32⟩
  | .hbm, ⟨3, _⟩ => ⟨S4x1024x2048, .f32⟩
  | .hbm, ⟨4, _⟩ => ⟨S8192x9216, .f32⟩
  | .hbm, ⟨5, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg0 c10_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi arg0 c14_i32
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S8192x1024 : Shape := ⟨2, ![8192, 1024]⟩
abbrev S4x1024x4096 : Shape := ⟨3, ![4, 1024, 4096]⟩
abbrev S4x1024x2048 : Shape := ⟨3, ![4, 1024, 2048]⟩
abbrev S8192x9216 : Shape := ⟨2, ![8192, 9216]⟩
abbrev S1x1024x4096 : Shape := ⟨3, ![1, 1024, 4096]⟩
abbrev S1024x4096 : Shape := ⟨2, ![1024, 4096]⟩
abbrev S8192x4096 : Shape := ⟨2, ![8192, 4096]⟩
abbrev S8192x2048 : Shape := ⟨2, ![8192, 2048]⟩
abbrev S_ : Shape := ⟨0, ![]⟩
abbrev S1x1024x2048 : Shape := ⟨3, ![1, 1024, 2048]⟩
abbrev S1024x2048 : Shape := ⟨2, ![1024, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x1024x4096, .f32⟩
  | .hbm, ⟨3, _⟩ => ⟨S4x1024x2048, .f32⟩
  | .hbm, ⟨4, _⟩ => ⟨S8192x9216, .f32⟩
  | .hbm, ⟨5, _⟩ => ⟨S8192x1024, .f32⟩
  | .hbm, ⟨6, _⟩ => ⟨S1x1024x4096, .f32⟩
  | .hbm, ⟨7, _⟩ => ⟨S1024x4096, .f32⟩
  | .hbm, ⟨8, _⟩ => ⟨S8192x4096, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x1024, .f32⟩
  | .hbm, ⟨21, _⟩ => ⟨S1x1024x2048, .f32⟩
  | .hbm, ⟨22, _⟩ => ⟨S1024x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel6.lean ====
abbrev S8192x2048 : Shape := ⟨2, ![8192, 2048]⟩
abbrev S4x2048x2048 : Shape := ⟨3, ![4, 2048, 2048]⟩
abbrev S4x2048 : Shape := ⟨2, ![4, 2048]⟩
abbrev S1x2048 : Shape := ⟨2, ![1, 2048]⟩
abbrev S2048 : Shape := ⟨1, ![2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .hbm, ⟨3, _⟩ => ⟨S4x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8192x2048 : Shape := ⟨2, ![8192, 2048]⟩
abbrev S4x2048x2048 : Shape := ⟨3, ![4, 2048, 2048]⟩
abbrev S4x2048 : Shape := ⟨2, ![4, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .hbm, ⟨3, _⟩ => ⟨S4x2048, .f32⟩
  | .hbm, ⟨4, _⟩ => ⟨S8192x2048, .f32⟩
  | .hbm, ⟨5, _⟩ => ⟨S1x2048x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S1x2048, .f32⟩
  | .hbm, ⟨10, _⟩ => ⟨S2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel7.lean ====
abbrev S8192x2048 : Shape := ⟨2, ![8192, 2048]⟩
abbrev S4x2048 : Shape := ⟨2, ![4, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S1x2048, .f32⟩
  | .hbm, ⟨3, _⟩ => ⟨S2048, .f32⟩
  | .hbm, ⟨4, _⟩ => ⟨S1x2048, .f32⟩
  | .hbm, ⟨5, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x2048 : Shape := ⟨2, ![8192, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S1x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel8.lean ====
abbrev S8192x5632 : Shape := ⟨2, ![8192, 5632]⟩
abbrev S5632x2048 : Shape := ⟨2, ![5632, 2048]⟩
abbrev S8192x2048 : Shape := ⟨2, ![8192, 2048]⟩
abbrev S4x2048 : Shape := ⟨2, ![4, 2048]⟩
abbrev S1x2048 : Shape := ⟨2, ![1, 2048]⟩
abbrev S2048 : Shape := ⟨1, ![2048]⟩
abbrev S1024x512 : Shape := ⟨2, ![1024, 512]⟩
abbrev S512x2048 : Shape := ⟨2, ![512, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S4x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | .local _ .vmem, ⟨10, _⟩ => ⟨S1024x2048, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c10_i32 : BitVec 32 := 10#32
  let v6 : BitVec 1 := Scalar.cmpi .eq arg1 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference8Ideal.lean ====
abbrev S8192x5632 : Shape := ⟨2, ![8192, 5632]⟩
abbrev S5632x2048 : Shape := ⟨2, ![5632, 2048]⟩
abbrev S8192x2048 : Shape := ⟨2, ![8192, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S4x2048, .f32⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .f32⟩
  | .hbm, ⟨8, _⟩ => ⟨S1x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel9.lean ====
abbrev S4x64 : Shape := ⟨2, ![4, 64]⟩
abbrev S4x64x64 : Shape := ⟨3, ![4, 64, 64]⟩
abbrev S4x64x64x16 : Shape := ⟨4, ![4, 64, 64, 16]⟩
abbrev S256x64x16 : Shape := ⟨3, ![256, 64, 16]⟩
abbrev S256x16x64 : Shape := ⟨3, ![256, 16, 64]⟩
abbrev S256x1x1 : Shape := ⟨3, ![256, 1, 1]⟩
abbrev S256x1x64 : Shape := ⟨3, ![256, 1, 64]⟩

abbrev nBuf : Space → Nat
  | .hbm => 17
  | .vmem => 9
  | .smem => 0
  | _ => 0

abbrev bufTy : (tb : Table) → Fin (tcTables nBuf tb) → BufTy
  | .hbm, ⟨0, _⟩ => ⟨S4x64, .f32⟩
  | .hbm, ⟨1, _⟩ => ⟨S4x64x64, .f32⟩
  | .hbm, ⟨2, _⟩ => ⟨S4x64x64, .f32⟩
  | .hbm, ⟨3, _⟩ => ⟨S4x64x64x16, .f32⟩
  | .hbm, ⟨4, _⟩ => ⟨S4x64x64x16, .f32⟩
  | .hbm, ⟨5, _⟩ => ⟨S256x64x16, .f32⟩
  | .hbm, ⟨6, _⟩ => ⟨S256x16x64, .f32⟩
  | .hbm, ⟨7, _⟩ => ⟨S256x64x16, .f32⟩
  | .hbm, ⟨8, _⟩ => ⟨S256x16x64, .f32⟩
  | .hbm, ⟨9, _⟩ => ⟨S256x1x1, .f32⟩
  | .hbm, ⟨10, _⟩ => ⟨S256x1x64, .f32⟩
  | .hbm, ⟨11, _⟩ => ⟨S256x1x64, .f32⟩
  | .hbm, ⟨12, _⟩ => ⟨S256x1x64, .f32⟩
  | .hbm, ⟨13, _⟩ => ⟨S256x1x64, .f32⟩
  | .hbm, ⟨14, _⟩ => ⟨S256x1x64, .f32⟩
  | .hbm, ⟨15, _⟩ => ⟨S256x16x64, .f32⟩
  | .hbm, ⟨16, _⟩ => ⟨S256x16x64, .f32⟩
  | .local _ .vmem, ⟨0, _⟩ => ⟨S256x1x64, .f32⟩
  | .local _ .vmem, ⟨1, _⟩ => ⟨S256x1x64, .f32⟩
  | .local _ .vmem, ⟨2, _⟩ => ⟨S256x1x64, .f32⟩
  | .local _ .vmem, ⟨3, _⟩ => ⟨S256x16x64, .f32⟩
  | .local _ .vmem, ⟨4, _⟩ => ⟨S256x16x64, .f32⟩
  | .local _ .vmem, ⟨5, _⟩ => ⟨S256x1x64, .f32⟩
  | .local _ .vmem, ⟨6, _⟩ => ⟨S256x1x64, .f32⟩
  | .local _ .vmem, ⟨7, _⟩ => ⟨S256x16x64, .f32⟩
  | .local _ .vmem, ⟨8, _⟩ => ⟨S256x16x64, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference9Ideal.lean ====
abbrev S4x64 : Shape := ⟨2, ![4, 64]⟩
abbrev S4x64x64 : Shape := ⟨3, ![4, 64, 64]⟩
abbrev S4x64x64x16 : Shape := ⟨4, ![4, 64, 64, 16]⟩
abbrev S4x64x1 : Shape := ⟨3, ![4, 64, 1]⟩
abbrev S_ : Shape := ⟨0, ![]⟩
abbrev S4x64x64x1 : Shape := ⟨4, ![4, 64, 64, 1]⟩
abbrev S256x1x64 : Shape := ⟨3, ![256, 1, 64]⟩
abbrev S4x64x16x64 : Shape := ⟨4, ![4, 64, 16, 64]⟩
abbrev S256x16x64 : Shape := ⟨3, ![256, 16, 64]⟩

abbrev nBuf : Space → Nat
  | .hbm => 52
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S4x64x64, .f32⟩
  | .hbm, ⟨2, _⟩ => ⟨S4x64x64, .f32⟩
  | .hbm, ⟨3, _⟩ => ⟨S4x64x64x16, .f32⟩
  | .hbm, ⟨4, _⟩ => ⟨S4x64x64x16, .f32⟩
  | .hbm, ⟨5, _⟩ => ⟨S4x64, .f32⟩
  | .hbm, ⟨6, _⟩ => ⟨S4x64x1, .f32⟩
  | .hbm, ⟨7, _⟩ => ⟨S4x64x64, .f32⟩
  | .hbm, ⟨8, _⟩ => ⟨S4x64x64, .f32⟩
  | .hbm, ⟨9, _⟩ => ⟨S4x64x64, .f32⟩
  | .hbm, ⟨10, _⟩ => ⟨S4x64x64, .f32⟩
  | .hbm, ⟨11, _⟩ => ⟨S4x64x64, .f32⟩
  | .hbm, ⟨12, _⟩ => ⟨S4x64x64, .f32⟩
  | .hbm, ⟨13, _⟩ => ⟨S4x64x64, .f32⟩
  | .hbm, ⟨14, _⟩ => ⟨S4x64x64, .f32⟩
  | .hbm, ⟨15, _⟩ => ⟨S4x64x64, .f32⟩
  | .hbm, ⟨16, _⟩ => ⟨S4x64x64, .f32⟩
  | .hbm, ⟨17, _⟩ => ⟨S4x64x64, .f32⟩
  | .hbm, ⟨18, _⟩ => ⟨S4x64x64, .f32⟩
  | .hbm, ⟨19, _⟩ => ⟨S4x64x64, .f32⟩
  | .hbm, ⟨20, _⟩ => ⟨S4x64x64, .f32⟩
  | .hbm, ⟨21, _⟩ => ⟨S_, .f32⟩
  | .hbm, ⟨22, _⟩ => ⟨S4x64x64, .f32⟩
  | .hbm, ⟨23, _⟩ => ⟨S4x64x64, .f32⟩
  | .hbm, ⟨24, _⟩ => ⟨S4x64x64, .f32⟩
  | .hbm, ⟨25, _⟩ => ⟨S4x64x64, .f32⟩
  | .hbm, ⟨26, _⟩ => ⟨S4x64x64, .f32⟩
  | .hbm, ⟨27, _⟩ => ⟨S4x64x64, .f32⟩
  | .hbm, ⟨28, _⟩ => ⟨S4x64x64, .f32⟩
  | .hbm, ⟨29, _⟩ => ⟨S4x64x64, .f32⟩
  | .hbm, ⟨30, _⟩ => ⟨S4x64x64, .f32⟩
  | .hbm, ⟨31, _⟩ => ⟨S4x64x64, .f32⟩
  | .hbm, ⟨32, _⟩ => ⟨S4x64x64x1, .f32⟩
  | .hbm, ⟨33, _⟩ => ⟨S4x64x64x16, .f32⟩
  | .hbm, ⟨34, _⟩ => ⟨S4x64x64x16, .f32⟩
  | .hbm, ⟨35, _⟩ => ⟨S4x64x64x1, .f32⟩
  | .hbm, ⟨36, _⟩ => ⟨S4x64x64x16, .f32⟩
  | .hbm, ⟨37, _⟩ => ⟨S4x64x64x16, .f32⟩
  | .hbm, ⟨38, _⟩ => ⟨S4x64x64x16, .f32⟩
  | .hbm, ⟨39, _⟩ => ⟨S4x64x64x1, .f32⟩
  | .hbm, ⟨40, _⟩ => ⟨S4x64x64x16, .f32⟩
  | .hbm, ⟨41, _⟩ => ⟨S4x64x64x16, .f32⟩
  | .hbm, ⟨42, _⟩ => ⟨S4x64x64x1, .f32⟩
  | .hbm, ⟨43, _⟩ => ⟨S4x64x64x16, .f32⟩
  | .hbm, ⟨44, _⟩ => ⟨S4x64x64x16, .f32⟩
  | .hbm, ⟨45, _⟩ => ⟨S4x64x64x16, .f32⟩
  | .hbm, ⟨46, _⟩ => ⟨S256x1x64, .f32⟩
  | .hbm, ⟨47, _⟩ => ⟨S256x1x64, .f32⟩
  | .hbm, ⟨48, _⟩ => ⟨S4x64x16x64, .f32⟩
  | .hbm, ⟨49, _⟩ => ⟨S256x16x64, .f32⟩
  | .hbm, ⟨50, _⟩ => ⟨S4x64x16x64, .f32⟩
  | .hbm, ⟨51, _⟩ => ⟨S256x16x64, .f32⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩

abbrev nD : Nat := 1
abbrev τ : Topo := Topo.v7x

variable {F : FTy → Type} [FloatOps F]
-- ==== Kernel10.lean ====
abbrev S8192x9216 : Shape := ⟨2, ![8192, 9216]⟩
abbrev S256x1x64 : Shape := ⟨3, ![256, 1, 64]⟩
abbrev S256x16x64 : Shape := ⟨3, ![256, 16, 64]⟩
abbrev S4x64x16x64 : Shape := ⟨4, ![4, 64, 16, 64]⟩
abbrev S4x1024 : Shape := ⟨2, ![4, 1024]⟩
abbrev S4x1x4096 : Shape := ⟨3, ![4, 1, 4096]⟩
abbrev S4x8x4096 : Shape := ⟨3, ![4, 8, 4096]⟩
abbrev S4x8x128x64 : Shape := ⟨4, ![4, 8, 128, 64]⟩
abbrev S1x4x1x8x1x128x1x64 : Shape := ⟨8, ![1, 4, 1, 8, 1, 128, 1, 64]⟩
abbrev S1x4x1x8x1x128x8x64 : Shape := ⟨8, ![1, 4, 1, 8, 1, 128, 8, 64]⟩
abbrev S4x8x128x512 : Shape := ⟨4, ![4, 8, 128, 512]⟩
abbrev S_ : Shape := ⟨0, ![]⟩
abbrev S4x8x128x1024 : Shape := ⟨4, ![4, 8, 128, 1024]⟩
abbrev S4x64x64x16 : Shape := ⟨4, ![4, 64, 64, 16]⟩
abbrev S4x8x512x16 : Shape := ⟨4, ![4, 8, 512, 16]⟩
abbrev S1x4x1x8x1x512x1x16 : Shape := ⟨8, ![1, 4, 1, 8, 1, 512, 1, 16]⟩
abbrev S1x4x1x8x1x512x8x16 : Shape := ⟨8, ![1, 4, 1, 8, 1, 512, 8, 16]⟩
abbrev S4x8x512x128 : Shape := ⟨4, ![4, 8, 512, 128]⟩
abbrev S4x8x1024x128 : Shape := ⟨4, ![4, 8, 1024, 128]⟩
abbrev S256x256 : Shape := ⟨2, ![256, 256]⟩
abbrev S8x1024x9216 : Shape := ⟨3, ![8, 1024, 9216]⟩
abbrev S4x1x1024 : Shape := ⟨3, ![4, 1, 1024]⟩
abbrev S8x1024x1024 : Shape := ⟨3, ![8, 1024, 1024]⟩
abbrev S8x32x1024 : Shape := ⟨3, ![8, 32, 1024]⟩
abbrev S1x8x128x1024 : Shape := ⟨4, ![1, 8, 128, 1024]⟩
abbrev S1x8x4096 : Shape := ⟨3, ![1, 8, 4096]⟩
abbrev S1x8x1024x128 : Shape := ⟨4, ![1, 8, 1024, 128]⟩
abbrev S1x1x1024 : Shape := ⟨3, ![1, 1, 1024]⟩
abbrev S256x8192 : Shape := ⟨2, ![256, 8192]⟩
abbrev S8x4096 : Shape := ⟨2, ![8, 4096]⟩
abbrev S256x1024 : Shape := ⟨2, ![256, 1024]⟩
abbrev S256x128 : Shape := ⟨2, ![256, 128]⟩
abbrev S1x1x128x1024 : Shape := ⟨4, ![1, 1, 128, 1024]⟩
abbrev S128x1024 : Shape := ⟨2, ![128, 1024]⟩
abbrev S1x8x512 : Shape := ⟨3, ![1, 8, 512]⟩
abbrev S8x512 : Shape := ⟨2, ![8, 512]⟩
abbrev S1x1x1024x128 : Shape := ⟨4, ![1, 1, 1024, 128]⟩
abbrev S1024x128 : Shape := ⟨2, ![1024, 128]⟩
abbrev S1x1024 : Shape := ⟨2, ![1, 1024]⟩
abbrev S8192x1024 : Shape := ⟨2, ![8192, 1024]⟩

abbrev nBuf : Space → Nat
  | .hbm => 256
  | .vmem => 15
  | .smem => 0
  | _ => 0

abbrev hbmTy0_0 (i : Nat) : BufTy := match i % 128 with
  | 0 => ⟨S8192x9216, .f32⟩
  | 1 => ⟨S256x1x64, .f32⟩
  | 2 => ⟨S256x1x64, .f32⟩
  | 3 => ⟨S256x16x64, .f32⟩
  | 4 => ⟨S256x16x64, .f32⟩
  | 5 => ⟨S4x64x16x64, .f32⟩
  | 6 => ⟨S4x64x16x64, .f32⟩
  | 7 => ⟨S4x1024, .f32⟩
  | 8 => ⟨S4x1x4096, .f32⟩
  | 9 => ⟨S4x8x4096, .f32⟩
  | 10 => ⟨S4x1x4096, .f32⟩
  | 11 => ⟨S4x8x4096, .f32⟩
  | 12 => ⟨S4x8x128x64, .f32⟩
  | 13 => ⟨S4x8x128x64, .f32⟩
  | 14 => ⟨S1x4x1x8x1x128x1x64, .f32⟩
  | 15 => ⟨S1x4x1x8x1x128x8x64, .f32⟩
  | 16 => ⟨S4x8x128x512, .f32⟩
  | 17 => ⟨S4x8x128x512, .i32⟩
  | 18 => ⟨S_, .i32⟩
  | 19 => ⟨S_, .i32⟩
  | 20 => ⟨S4x8x128x512, .i32⟩
  | 21 => ⟨S4x8x128x512, .i32⟩
  | 22 => ⟨S4x8x128x512, .i32⟩
  | 23 => ⟨S_, .i32⟩
  | 24 => ⟨S4x8x128x512, .i32⟩
  | 25 => ⟨S4x8x128x512, .i1⟩
  | 26 => ⟨S4x8x128x512, .i32⟩
  | 27 => ⟨S4x8x128x512, .i32⟩
  | 28 => ⟨S_, .i32⟩
  | 29 => ⟨S4x8x128x512, .i32⟩
  | 30 => ⟨S4x8x128x512, .i1⟩
  | 31 => ⟨S4x8x128x512, .i1⟩
  | 32 => ⟨S_, .i32⟩
  | 33 => ⟨S4x8x128x512, .i32⟩
  | 34 => ⟨S4x8x128x512, .i32⟩
  | 35 => ⟨S4x8x128x512, .i32⟩
  | 36 => ⟨S4x8x128x512, .i32⟩
  | 37 => ⟨S_, .i32⟩
  | 38 => ⟨S_, .i32⟩
  | 39 => ⟨S4x8x128x512, .i32⟩
  | 40 => ⟨S4x8x128x512, .i32⟩
  | 41 => ⟨S4x8x128x512, .i32⟩
  | 42 => ⟨S_, .i32⟩
  | 43 => ⟨S4x8x128x512, .i32⟩
  | 44 => ⟨S4x8x128x512, .i1⟩
  | 45 => ⟨S4x8x128x512, .i32⟩
  | 46 => ⟨S4x8x128x512, .i32⟩
  | 47 => ⟨S_, .i32⟩
  | 48 => ⟨S4x8x128x512, .i32⟩
  | 49 => ⟨S4x8x128x512, .i1⟩
  | 50 => ⟨S4x8x128x512, .i1⟩
  | 51 => ⟨S_, .i32⟩
  | 52 => ⟨S4x8x128x512, .i32⟩
  | 53 => ⟨S4x8x128x512, .i32⟩
  | 54 => ⟨S4x8x128x512, .i32⟩
  | 55 => ⟨S4x8x128x512, .i1⟩
  | 56 => ⟨S_, .f32⟩
  | 57 => ⟨S4x8x128x512, .f32⟩
  | 58 => ⟨S4x8x128x512, .f32⟩
  | 59 => ⟨S1x4x1x8x1x128x1x64, .f32⟩
  | 60 => ⟨S1x4x1x8x1x128x8x64, .f32⟩
  | 61 => ⟨S4x8x128x512, .f32⟩
  | 62 => ⟨S4x8x128x512, .i32⟩
  | 63 => ⟨S_, .i32⟩
  | 64 => ⟨S_, .i32⟩
  | 65 => ⟨S4x8x128x512, .i32⟩
  | 66 => ⟨S4x8x128x512, .i32⟩
  | 67 => ⟨S4x8x128x512, .i32⟩
  | 68 => ⟨S_, .i32⟩
  | 69 => ⟨S4x8x128x512, .i32⟩
  | 70 => ⟨S4x8x128x512, .i1⟩
  | 71 => ⟨S4x8x128x512, .i32⟩
  | 72 => ⟨S4x8x128x512, .i32⟩
  | 73 => ⟨S_, .i32⟩
  | 74 => ⟨S4x8x128x512, .i32⟩
  | 75 => ⟨S4x8x128x512, .i1⟩
  | 76 => ⟨S4x8x128x512, .i1⟩
  | 77 => ⟨S_, .i32⟩
  | 78 => ⟨S4x8x128x512, .i32⟩
  | 79 => ⟨S4x8x128x512, .i32⟩
  | 80 => ⟨S4x8x128x512, .i32⟩
  | 81 => ⟨S4x8x128x512, .i32⟩
  | 82 => ⟨S_, .i32⟩
  | 83 => ⟨S_, .i32⟩
  | 84 => ⟨S4x8x128x512, .i32⟩
  | 85 => ⟨S4x8x128x512, .i32⟩
  | 86 => ⟨S4x8x128x512, .i32⟩
  | 87 => ⟨S_, .i32⟩
  | 88 => ⟨S4x8x128x512, .i32⟩
  | 89 => ⟨S4x8x128x512, .i1⟩
  | 90 => ⟨S4x8x128x512, .i32⟩
  | 91 => ⟨S4x8x128x512, .i32⟩
  | 92 => ⟨S_, .i32⟩
  | 93 => ⟨S4x8x128x512, .i32⟩
  | 94 => ⟨S4x8x128x512, .i1⟩
  | 95 => ⟨S4x8x128x512, .i1⟩
  | 96 => ⟨S_, .i32⟩
  | 97 => ⟨S4x8x128x512, .i32⟩
  | 98 => ⟨S4x8x128x512, .i32⟩
  | 99 => ⟨S4x8x128x512, .i32⟩
  | 100 => ⟨S4x8x128x512, .i1⟩
  | 101 => ⟨S_, .f32⟩
  | 102 => ⟨S4x8x128x512, .f32⟩
  | 103 => ⟨S4x8x128x512, .f32⟩
  | 104 => ⟨S4x8x128x1024, .f32⟩
  | 105 => ⟨S4x8x128x1024, .bf16⟩
  | 106 => ⟨S4x64x64x16, .f32⟩
  | 107 => ⟨S4x8x512x16, .f32⟩
  | 108 => ⟨S4x64x64x16, .f32⟩
  | 109 => ⟨S4x8x512x16, .f32⟩
  | 110 => ⟨S1x4x1x8x1x512x1x16, .f32⟩
  | 111 => ⟨S1x4x1x8x1x512x8x16, .f32⟩
  | 112 => ⟨S4x8x512x128, .f32⟩
  | 113 => ⟨S4x8x512x128, .i32⟩
  | 114 => ⟨S_, .i32⟩
  | 115 => ⟨S_, .i32⟩
  | 116 => ⟨S4x8x512x128, .i32⟩
  | 117 => ⟨S4x8x512x128, .i32⟩
  | 118 => ⟨S4x8x512x128, .i32⟩
  | 119 => ⟨S_, .i32⟩
  | 120 => ⟨S4x8x512x128, .i32⟩
  | 121 => ⟨S4x8x512x128, .i1⟩
  | 122 => ⟨S4x8x512x128, .i32⟩
  | 123 => ⟨S4x8x512x128, .i32⟩
  | 124 => ⟨S_, .i32⟩
  | 125 => ⟨S4x8x512x128, .i32⟩
  | 126 => ⟨S4x8x512x128, .i1⟩
  | 127 => ⟨S4x8x512x128, .i1⟩
  | _ => ⟨S8192x9216, .f32⟩

abbrev hbmTy0_1 (i : Nat) : BufTy := match i % 128 with
  | 0 => ⟨S_, .i32⟩
  | 1 => ⟨S4x8x512x128, .i32⟩
  | 2 => ⟨S4x8x512x128, .i32⟩
  | 3 => ⟨S4x8x512x128, .i32⟩
  | 4 => ⟨S4x8x512x128, .i32⟩
  | 5 => ⟨S_, .i32⟩
  | 6 => ⟨S_, .i32⟩
  | 7 => ⟨S4x8x512x128, .i32⟩
  | 8 => ⟨S4x8x512x128, .i32⟩
  | 9 => ⟨S4x8x512x128, .i32⟩
  | 10 => ⟨S_, .i32⟩
  | 11 => ⟨S4x8x512x128, .i32⟩
  | 12 => ⟨S4x8x512x128, .i1⟩
  | 13 => ⟨S4x8x512x128, .i32⟩
  | 14 => ⟨S4x8x512x128, .i32⟩
  | 15 => ⟨S_, .i32⟩
  | 16 => ⟨S4x8x512x128, .i32⟩
  | 17 => ⟨S4x8x512x128, .i1⟩
  | 18 => ⟨S4x8x512x128, .i1⟩
  | 19 => ⟨S_, .i32⟩
  | 20 => ⟨S4x8x512x128, .i32⟩
  | 21 => ⟨S4x8x512x128, .i32⟩
  | 22 => ⟨S4x8x512x128, .i32⟩
  | 23 => ⟨S4x8x512x128, .i1⟩
  | 24 => ⟨S_, .f32⟩
  | 25 => ⟨S4x8x512x128, .f32⟩
  | 26 => ⟨S4x8x512x128, .f32⟩
  | 27 => ⟨S1x4x1x8x1x512x1x16, .f32⟩
  | 28 => ⟨S1x4x1x8x1x512x8x16, .f32⟩
  | 29 => ⟨S4x8x512x128, .f32⟩
  | 30 => ⟨S4x8x512x128, .i32⟩
  | 31 => ⟨S_, .i32⟩
  | 32 => ⟨S_, .i32⟩
  | 33 => ⟨S4x8x512x128, .i32⟩
  | 34 => ⟨S4x8x512x128, .i32⟩
  | 35 => ⟨S4x8x512x128, .i32⟩
  | 36 => ⟨S_, .i32⟩
  | 37 => ⟨S4x8x512x128, .i32⟩
  | 38 => ⟨S4x8x512x128, .i1⟩
  | 39 => ⟨S4x8x512x128, .i32⟩
  | 40 => ⟨S4x8x512x128, .i32⟩
  | 41 => ⟨S_, .i32⟩
  | 42 => ⟨S4x8x512x128, .i32⟩
  | 43 => ⟨S4x8x512x128, .i1⟩
  | 44 => ⟨S4x8x512x128, .i1⟩
  | 45 => ⟨S_, .i32⟩
  | 46 => ⟨S4x8x512x128, .i32⟩
  | 47 => ⟨S4x8x512x128, .i32⟩
  | 48 => ⟨S4x8x512x128, .i32⟩
  | 49 => ⟨S4x8x512x128, .i32⟩
  | 50 => ⟨S_, .i32⟩
  | 51 => ⟨S_, .i32⟩
  | 52 => ⟨S4x8x512x128, .i32⟩
  | 53 => ⟨S4x8x512x128, .i32⟩
  | 54 => ⟨S4x8x512x128, .i32⟩
  | 55 => ⟨S_, .i32⟩
  | 56 => ⟨S4x8x512x128, .i32⟩
  | 57 => ⟨S4x8x512x128, .i1⟩
  | 58 => ⟨S4x8x512x128, .i32⟩
  | 59 => ⟨S4x8x512x128, .i32⟩
  | 60 => ⟨S_, .i32⟩
  | 61 => ⟨S4x8x512x128, .i32⟩
  | 62 => ⟨S4x8x512x128, .i1⟩
  | 63 => ⟨S4x8x512x128, .i1⟩
  | 64 => ⟨S_, .i32⟩
  | 65 => ⟨S4x8x512x128, .i32⟩
  | 66 => ⟨S4x8x512x128, .i32⟩
  | 67 => ⟨S4x8x512x128, .i32⟩
  | 68 => ⟨S4x8x512x128, .i1⟩
  | 69 => ⟨S_, .f32⟩
  | 70 => ⟨S4x8x512x128, .f32⟩
  | 71 => ⟨S4x8x512x128, .f32⟩
  | 72 => ⟨S4x8x512x128, .f32⟩
  | 73 => ⟨S4x8x1024x128, .f32⟩
  | 74 => ⟨S4x8x1024x128, .bf16⟩
  | 75 => ⟨S256x256, .i32⟩
  | 76 => ⟨S256x256, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S256x256, .i32⟩
  | 84 => ⟨S256x256, .i32⟩
  | 85 => ⟨S_, .i32⟩
  | 86 => ⟨S256x256, .i32⟩
  | 87 => ⟨S256x256, .i1⟩
  | 88 => ⟨S_, .i32⟩
  | 89 => ⟨S256x256, .i32⟩
  | 90 => ⟨S256x256, .i1⟩
  | 91 => ⟨S_, .i32⟩
  | 92 => ⟨S_, .i1⟩
  | 93 => ⟨S256x256, .i1⟩
  | 94 => ⟨S256x256, .i1⟩
  | 95 => ⟨S256x256, .i1⟩
  | 96 => ⟨S256x256, .i32⟩
  | 97 => ⟨S256x256, .i32⟩
  | 98 => ⟨S256x256, .i32⟩
  | 99 => ⟨S_, .i32⟩
  | 100 => ⟨S256x256, .i32⟩
  | 101 => ⟨S256x256, .i32⟩
  | 102 => ⟨S_, .i32⟩
  | 103 => ⟨S_, .i32⟩
  | 104 => ⟨S256x256, .i32⟩
  | 105 => ⟨S256x256, .i32⟩
  | 106 => ⟨S256x256, .i32⟩
  | 107 => ⟨S_, .i32⟩
  | 108 => ⟨S256x256, .i32⟩
  | 109 => ⟨S256x256, .i1⟩
  | 110 => ⟨S256x256, .i32⟩
  | 111 => ⟨S256x256, .i32⟩
  | 112 => ⟨S_, .i32⟩
  | 113 => ⟨S256x256, .i32⟩
  | 114 => ⟨S256x256, .i1⟩
  | 115 => ⟨S256x256, .i1⟩
  | 116 => ⟨S_, .i32⟩
  | 117 => ⟨S256x256, .i32⟩
  | 118 => ⟨S256x256, .i32⟩
  | 119 => ⟨S256x256, .i32⟩
  | 120 => ⟨S256x256, .i32⟩
  | 121 => ⟨S256x256, .i1⟩
  | 122 => ⟨S256x256, .bf16⟩
  | 123 => ⟨S256x256, .bf16⟩
  | 124 => ⟨S8x1024x9216, .f32⟩
  | 125 => ⟨S4x1x1024, .f32⟩
  | 126 => ⟨S8x1024x1024, .bf16⟩
  | 127 => ⟨S8192x1024, .bf16⟩
  | _ => ⟨S8192x9216, .f32⟩

abbrev hbmTy (i : Nat) : BufTy := match i / 128 with
  | 0 => hbmTy0_0 i
  | 1 => hbmTy0_1 i
  | _ => ⟨S8192x9216, .f32⟩

abbrev bufTy : (tb : Table) → Fin (tcTables nBuf tb) → BufTy
  | .hbm, ⟨i, _⟩ => hbmTy i
  | .local _ .vmem, ⟨0, _⟩ => ⟨S8x32x1024, .f32⟩
  | .local _ .vmem, ⟨1, _⟩ => ⟨S8x32x1024, .f32⟩
  | .local _ .vmem, ⟨2, _⟩ => ⟨S256x256, .bf16⟩
  | .local _ .vmem, ⟨3, _⟩ => ⟨S256x256, .bf16⟩
  | .local _ .vmem, ⟨4, _⟩ => ⟨S1x8x128x1024, .bf16⟩
  | .local _ .vmem, ⟨5, _⟩ => ⟨S1x8x4096, .f32⟩
  | .local _ .vmem, ⟨6, _⟩ => ⟨S1x8x4096, .f32⟩
  | .local _ .vmem, ⟨7, _⟩ => ⟨S1x8x1024x128, .bf16⟩
  | .local _ .vmem, ⟨8, _⟩ => ⟨S1x1x1024, .f32⟩
  | .local _ .vmem, ⟨9, _⟩ => ⟨S8x32x1024, .bf16⟩
  | .local _ .vmem, ⟨10, _⟩ => ⟨S8x32x1024, .bf16⟩
  | .local _ .vmem, ⟨11, _⟩ => ⟨S256x8192, .f32⟩
  | .local _ .vmem, ⟨12, _⟩ => ⟨S256x8192, .f32⟩
  | .local _ .vmem, ⟨13, _⟩ => ⟨S8x4096, .f32⟩
  | .local _ .vmem, ⟨14, _⟩ => ⟨S8x4096, .f32⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v10 : Ref sig .tc := ⟨.hbm, 35, rfl⟩
abbrev main_v11 : Ref sig .tc := ⟨.hbm, 36, rfl⟩
abbrev main_c_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v12 : Ref sig .tc := ⟨.hbm, 54, rfl⟩
abbrev main_v13 : Ref sig .tc := ⟨.hbm, 55, rfl⟩
abbrev main_cst : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_c_1 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_c : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_0 : Ref sig .tc := ⟨.hbm, 77, rfl⟩
abbrev main_call3_v12 : Ref sig .tc := ⟨.hbm, 78, rfl⟩
abbrev main_call3_v13 : Ref sig .tc := ⟨.hbm, 79, rfl⟩
abbrev main_v20 : Ref sig .tc := ⟨.hbm, 80, rfl⟩
abbrev main_v21 : Ref sig .tc := ⟨.hbm, 81, rfl⟩
abbrev main_c_2 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_call4_v5 : Ref sig .tc := ⟨.hbm, 88, rfl⟩
abbrev main_call4_v6 : Ref sig .tc := ⟨.hbm, 89, rfl⟩
abbrev main_call4_v7 : Ref sig .tc := ⟨.hbm, 90, rfl⟩
abbrev main_call4_v8 : Ref sig .tc := ⟨.hbm, 91, rfl⟩
abbrev main_call4_c : Ref sig .tc := ⟨.hbm, 92, rfl⟩
abbrev main_call4_v9 : Ref sig .tc := ⟨.hbm, 93, rfl⟩
abbrev main_call4_v10 : Ref sig .tc := ⟨.hbm, 94, rfl⟩
abbrev main_call4_v11 : Ref sig .tc := ⟨.hbm, 95, rfl⟩
abbrev main_call4_c_0 : Ref sig .tc := ⟨.hbm, 96, rfl⟩
abbrev main_call4_v12 : Ref sig .tc := ⟨.hbm, 97, rfl⟩
abbrev main_call4_v13 : Ref sig .tc := ⟨.hbm, 98, rfl⟩
abbrev main_v22 : Ref sig .tc := ⟨.hbm, 99, rfl⟩
abbrev main_v23 : Ref sig .tc := ⟨.hbm, 100, rfl⟩
abbrev main_cst_3 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_c_4 : Ref sig .tc := ⟨.hbm, 114, rfl⟩
abbrev main_call6_v0 : Ref sig .tc := ⟨.hbm, 115, rfl⟩
abbrev main_call6_v1 : Ref sig .tc := ⟨.hbm, 116, rfl⟩
abbrev main_call6_v2 : Ref sig .tc := ⟨.hbm, 117, rfl⟩
abbrev main_call6_v3 : Ref sig .tc := ⟨.hbm, 118, rfl⟩
abbrev main_call6_v4 : Ref sig .tc := ⟨.hbm, 119, rfl⟩
abbrev main_call6_v5 : Ref sig .tc := ⟨.hbm, 120, rfl⟩
abbrev main_call6_v6 : Ref sig .tc := ⟨.hbm, 121, rfl⟩
abbrev main_call6_v7 : Ref sig .tc := ⟨.hbm, 122, rfl⟩
abbrev main_call6_v8 : Ref sig .tc := ⟨.hbm, 123, rfl⟩
abbrev main_call6_c : Ref sig .tc := ⟨.hbm, 124, rfl⟩
abbrev main_call6_v9 : Ref sig .tc := ⟨.hbm, 125, rfl⟩
abbrev main_call6_v10 : Ref sig .tc := ⟨.hbm, 126, rfl⟩
abbrev main_call6_v11 : Ref sig .tc := ⟨.hbm, 127, rfl⟩
abbrev main_call6_c_0 : Ref sig .tc := ⟨.hbm, 128, rfl⟩
abbrev main_call6_v12 : Ref sig .tc := ⟨.hbm, 129, rfl⟩
abbrev main_call6_v13 : Ref sig .tc := ⟨.hbm, 130, rfl⟩
abbrev main_v36 : Ref sig .tc := ⟨.hbm, 131, rfl⟩
abbrev main_v37 : Ref sig .tc := ⟨.hbm, 132, rfl⟩
abbrev main_c_5 : Ref sig .tc := ⟨.hbm, 133, rfl⟩
abbrev main_call7_v0 : Ref sig .tc := ⟨.hbm, 134, rfl⟩
abbrev main_call7_v1 : Ref sig .tc := ⟨.hbm, 135, rfl⟩
abbrev main_call7_v2 : Ref sig .tc := ⟨.hbm, 136, rfl⟩
abbrev main_call7_v3 : Ref sig .tc := ⟨.hbm, 137, rfl⟩
abbrev main_call7_v4 : Ref sig .tc := ⟨.hbm, 138, rfl⟩
abbrev main_call7_v5 : Ref sig .tc := ⟨.hbm, 139, rfl⟩
abbrev main_call7_v6 : Ref sig .tc := ⟨.hbm, 140, rfl⟩
abbrev main_call7_v7 : Ref sig .tc := ⟨.hbm, 141, rfl⟩
abbrev main_call7_v8 : Ref sig .tc := ⟨.hbm, 142, rfl⟩
abbrev main_call7_c : Ref sig .tc := ⟨.hbm, 143, rfl⟩
abbrev main_call7_v9 : Ref sig .tc := ⟨.hbm, 144, rfl⟩
abbrev main_call7_v10 : Ref sig .tc := ⟨.hbm, 145, rfl⟩
abbrev main_call7_v11 : Ref sig .tc := ⟨.hbm, 146, rfl⟩
abbrev main_call7_c_0 : Ref sig .tc := ⟨.hbm, 147, rfl⟩
abbrev main_call7_v12 : Ref sig .tc := ⟨.hbm, 148, rfl⟩
abbrev main_call7_v13 : Ref sig .tc := ⟨.hbm, 149, rfl⟩
abbrev main_v38 : Ref sig .tc := ⟨.hbm, 150, rfl⟩
abbrev main_v39 : Ref sig .tc := ⟨.hbm, 151, rfl⟩
abbrev main_cst_6 : Ref sig .tc := ⟨.hbm, 152, rfl⟩
abbrev main_v40 : Ref sig .tc := ⟨.hbm, 153, rfl⟩
abbrev main_v41 : Ref sig .tc := ⟨.hbm, 154, rfl⟩
abbrev main_v42 : Ref sig .tc := ⟨.hbm, 155, rfl⟩
abbrev main_v43 : Ref sig .tc := ⟨.hbm, 156, rfl⟩
abbrev main_v44 : Ref sig .tc := ⟨.hbm, 157, rfl⟩
abbrev main_v45 : Ref sig .tc := ⟨.hbm, 158, rfl⟩
abbrev main_c_7 : Ref sig .tc := ⟨.hbm, 159, rfl⟩
abbrev main_call9_v0 : Ref sig .tc := ⟨.hbm, 160, rfl⟩
abbrev main_call9_v1 : Ref sig .tc := ⟨.hbm, 161, rfl⟩
abbrev main_call9_v2 : Ref sig .tc := ⟨.hbm, 162, rfl⟩
abbrev main_call9_v3 : Ref sig .tc := ⟨.hbm, 163, rfl⟩
abbrev main_call9_v4 : Ref sig .tc := ⟨.hbm, 164, rfl⟩
abbrev main_call9_v5 : Ref sig .tc := ⟨.hbm, 165, rfl⟩
abbrev main_call9_v6 : Ref sig .tc := ⟨.hbm, 166, rfl⟩
abbrev main_call9_v7 : Ref sig .tc := ⟨.hbm, 167, rfl⟩
abbrev main_call9_v8 : Ref sig .tc := ⟨.hbm, 168, rfl⟩
abbrev main_call9_c : Ref sig .tc := ⟨.hbm, 169, rfl⟩
abbrev main_call9_v9 : Ref sig .tc := ⟨.hbm, 170, rfl⟩
abbrev main_call9_v10 : Ref sig .tc := ⟨.hbm, 171, rfl⟩
abbrev main_call9_v11 : Ref sig .tc := ⟨.hbm, 172, rfl⟩
abbrev main_call9_c_0 : Ref sig .tc := ⟨.hbm, 173, rfl⟩
abbrev main_call9_v12 : Ref sig .tc := ⟨.hbm, 174, rfl⟩
abbrev main_call9_v13 : Ref sig .tc := ⟨.hbm, 175, rfl⟩
abbrev main_v46 : Ref sig .tc := ⟨.hbm, 176, rfl⟩
abbrev main_v47 : Ref sig .tc := ⟨.hbm, 177, rfl⟩
abbrev main_c_8 : Ref sig .tc := ⟨.hbm, 178, rfl⟩
abbrev main_call10_v0 : Ref sig .tc := ⟨.hbm, 179, rfl⟩
abbrev main_call10_v1 : Ref sig .tc := ⟨.hbm, 180, rfl⟩
abbrev main_call10_v2 : Ref sig .tc := ⟨.hbm, 181, rfl⟩
abbrev main_call10_v3 : Ref sig .tc := ⟨.hbm, 182, rfl⟩
abbrev main_call10_v4 : Ref sig .tc := ⟨.hbm, 183, rfl⟩
abbrev main_call10_v5 : Ref sig .tc := ⟨.hbm, 184, rfl⟩
abbrev main_call10_v6 : Ref sig .tc := ⟨.hbm, 185, rfl⟩
abbrev main_call10_v7 : Ref sig .tc := ⟨.hbm, 186, rfl⟩
abbrev main_call10_v8 : Ref sig .tc := ⟨.hbm, 187, rfl⟩
abbrev main_call10_c : Ref sig .tc := ⟨.hbm, 188, rfl⟩
abbrev main_call10_v9 : Ref sig .tc := ⟨.hbm, 189, rfl⟩
abbrev main_call10_v10 : Ref sig .tc := ⟨.hbm, 190, rfl⟩
abbrev main_call10_v11 : Ref sig .tc := ⟨.hbm, 191, rfl⟩
abbrev main_call10_c_0 : Ref sig .tc := ⟨.hbm, 192, rfl⟩
abbrev main_call10_v12 : Ref sig .tc := ⟨.hbm, 193, rfl⟩
abbrev main_call10_v13 : Ref sig .tc := ⟨.hbm, 194, rfl⟩
abbrev main_v48 : Ref sig .tc := ⟨.hbm, 195, rfl⟩
abbrev main_v49 : Ref sig .tc := ⟨.hbm, 196, rfl⟩
abbrev main_cst_9 : Ref sig .tc := ⟨.hbm, 197, rfl⟩
abbrev main_v50 : Ref sig .tc := ⟨.hbm, 198, rfl⟩
abbrev main_v51 : Ref sig .tc := ⟨.hbm, 199, rfl⟩
abbrev main_v52 : Ref sig .tc := ⟨.hbm, 200, rfl⟩
abbrev main_v53 : Ref sig .tc := ⟨.hbm, 201, rfl⟩
abbrev main_v54 : Ref sig .tc := ⟨.hbm, 202, rfl⟩
abbrev main_v55 : Ref sig .tc := ⟨.hbm, 203, rfl⟩
abbrev main_v56 : Ref sig .tc := ⟨.hbm, 204, rfl⟩
abbrev main_c_10 : Ref sig .tc := ⟨.hbm, 205, rfl⟩
abbrev main_call12_v0 : Ref sig .tc := ⟨.hbm, 206, rfl⟩
abbrev main_call12_c : Ref sig .tc := ⟨.hbm, 207, rfl⟩
abbrev main_call12_v1 : Ref sig .tc := ⟨.hbm, 208, rfl⟩
abbrev main_call12_c_0 : Ref sig .tc := ⟨.hbm, 209, rfl⟩
abbrev main_call12_v2 : Ref sig .tc := ⟨.hbm, 210, rfl⟩
abbrev main_call12_v3 : Ref sig .tc := ⟨.hbm, 211, rfl⟩
abbrev main_call12_v4 : Ref sig .tc := ⟨.hbm, 212, rfl⟩
abbrev main_call12_c_1 : Ref sig .tc := ⟨.hbm, 213, rfl⟩
abbrev main_call12_v5 : Ref sig .tc := ⟨.hbm, 214, rfl⟩
abbrev main_call12_v6 : Ref sig .tc := ⟨.hbm, 215, rfl⟩
abbrev main_call12_c_2 : Ref sig .tc := ⟨.hbm, 216, rfl⟩
abbrev main_call12_v7 : Ref sig .tc := ⟨.hbm, 217, rfl⟩
abbrev main_call12_v8 : Ref sig .tc := ⟨.hbm, 218, rfl⟩
abbrev main_call12_c_3 : Ref sig .tc := ⟨.hbm, 219, rfl⟩
abbrev main_call12_v9 : Ref sig .tc := ⟨.hbm, 220, rfl⟩
abbrev main_call12_v10 : Ref sig .tc := ⟨.hbm, 221, rfl⟩
abbrev main_call12_v11 : Ref sig .tc := ⟨.hbm, 222, rfl⟩
abbrev main_call12_v12 : Ref sig .tc := ⟨.hbm, 223, rfl⟩
abbrev main_call12_v13 : Ref sig .tc := ⟨.hbm, 224, rfl⟩
abbrev main_call12_v14 : Ref sig .tc := ⟨.hbm, 225, rfl⟩
abbrev main_v57 : Ref sig .tc := ⟨.hbm, 226, rfl⟩
abbrev main_c_11 : Ref sig .tc := ⟨.hbm, 227, rfl⟩
abbrev main_v58 : Ref sig .tc := ⟨.hbm, 228, rfl⟩
abbrev main_v59 : Ref sig .tc := ⟨.hbm, 229, rfl⟩
abbrev main_c_12 : Ref sig .tc := ⟨.hbm, 230, rfl⟩
abbrev main_call13_v0 : Ref sig .tc := ⟨.hbm, 231, rfl⟩
abbrev main_call13_v1 : Ref sig .tc := ⟨.hbm, 232, rfl⟩
abbrev main_call13_v2 : Ref sig .tc := ⟨.hbm, 233, rfl⟩
abbrev main_call13_v3 : Ref sig .tc := ⟨.hbm, 234, rfl⟩
abbrev main_call13_v4 : Ref sig .tc := ⟨.hbm, 235, rfl⟩
abbrev main_call13_v5 : Ref sig .tc := ⟨.hbm, 236, rfl⟩
abbrev main_call13_v6 : Ref sig .tc := ⟨.hbm, 237, rfl⟩
abbrev main_call13_v7 : Ref sig .tc := ⟨.hbm, 238, rfl⟩
abbrev main_call13_v8 : Ref sig .tc := ⟨.hbm, 239, rfl⟩
abbrev main_call13_c : Ref sig .tc := ⟨.hbm, 240, rfl⟩
abbrev main_call13_v9 : Ref sig .tc := ⟨.hbm, 241, rfl⟩
abbrev main_call13_v10 : Ref sig .tc := ⟨.hbm, 242, rfl⟩
abbrev main_call13_v11 : Ref sig .tc := ⟨.hbm, 243, rfl⟩
abbrev main_call13_c_0 : Ref sig .tc := ⟨.hbm, 244, rfl⟩
abbrev main_call13_v12 : Ref sig .tc := ⟨.hbm, 245, rfl⟩
abbrev main_call13_v13 : Ref sig .tc := ⟨.hbm, 246, rfl⟩
abbrev main_v60 : Ref sig .tc := ⟨.hbm, 247, rfl⟩
abbrev main_v61 : Ref sig .tc := ⟨.hbm, 248, rfl⟩
abbrev main_v62 : Ref sig .tc := ⟨.hbm, 249, rfl⟩
abbrev main_v63 : Ref sig .tc := ⟨.hbm, 250, rfl⟩
abbrev main_v64 : Ref sig .tc := ⟨.hbm, 251, rfl⟩
abbrev main_v65 : Ref sig .tc := ⟨.hbm, 252, rfl⟩
abbrev main_v66 : Ref sig .tc := ⟨.hbm, 253, rfl⟩
abbrev main_v67 : Ref sig .tc := ⟨.hbm, 254, rfl⟩
abbrev main_v68 : Ref sig .tc := ⟨.hbm, 255, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![2, 32], ![false, false]⟩

def k0_cond3 (i : grid0.Coords) : BitVec 1 :=
  let arg0 : BitVec 32 := BitVec.ofNat 32 (i 0).val
  let c0_i32_50 : BitVec 32 := 0#32
  let v74 : BitVec 1 := Scalar.cmpi .eq arg0 c0_i32_50
  let v75 : BitVec 32 := Scalar.extui v74
  let c0_i32_51 : BitVec 32 := 0#32
  let v76 : BitVec 1 := Scalar.cmpi .ne v75 c0_i32_51
  v76

@[reducible] def k0_t1_loop : Scf.Loop 32 :=
  let c0_i32_64 : BitVec 32 := 0#32
  let c32_i32 : BitVec 32 := 32#32
  let v86 : BitVec 32 := Scalar.addi c0_i32_64 c32_i32
  let c1_i32_65 : BitVec 32 := 1#32
  ⟨c0_i32_64, v86, c1_i32_65⟩
def k0_mult1 (k0_t1 : Fin k0_t1_loop.trips) : BitVec 32 :=
  let c0_i32_64 : BitVec 32 := 0#32
  let c1_i32_65 : BitVec 32 := 1#32
  let arg15 : BitVec 32 := Scf.iv c0_i32_64 c1_i32_65 k0_t1
  let c8_i32 : BitVec 32 := 8#32
  let v192 : BitVec 32 := Scalar.muli arg15 c8_i32
  v192
def k0_off1 (k0_t1 : Fin k0_t1_loop.trips) : Fin 2 → Nat :=
  let c0_i32_64 : BitVec 32 := 0#32
  let c1_i32_65 : BitVec 32 := 1#32
  let arg15 : BitVec 32 := Scf.iv c0_i32_64 c1_i32_65 k0_t1
  let c8_i32 : BitVec 32 := 8#32
  let v192 : BitVec 32 := Scalar.muli arg15 c8_i32
  let v193 : BitVec 32 := v192
  let v194 : Index := Scalar.indexCast v193
  let c0_193 : Index := 0#32
  ![v194.toNat, 0]
def k0_off2 (k0_t1 : Fin k0_t1_loop.trips) : Fin 2 → Nat :=
  let c0_i32_64 : BitVec 32 := 0#32
  let c1_i32_65 : BitVec 32 := 1#32
  let arg15 : BitVec 32 := Scf.iv c0_i32_64 c1_i32_65 k0_t1
  let c8_i32 : BitVec 32 := 8#32
  let v192 : BitVec 32 := Scalar.muli arg15 c8_i32
  let v193 : BitVec 32 := v192
  let v196 : Index := Scalar.indexCast v193
  let c512_194 : Index := 512#32
  ![v196.toNat, 512]
@[reducible] def k0_t2_loop : Scf.Loop 32 :=
  let c0_i32_80 : BitVec 32 := 0#32
  let c32_i32_81 : BitVec 32 := 32#32
  let v100 : BitVec 32 := Scalar.addi c0_i32_80 c32_i32_81
  let c1_i32_82 : BitVec 32 := 1#32
  ⟨c0_i32_80, v100, c1_i32_82⟩
def k0_mult2 (k0_t2 : Fin k0_t2_loop.trips) : BitVec 32 :=
  let c0_i32_80 : BitVec 32 := 0#32
  let c1_i32_82 : BitVec 32 := 1#32
  let arg15 : BitVec 32 := Scf.iv c0_i32_80 c1_i32_82 k0_t2
  let c8_i32 : BitVec 32 := 8#32
  let v192 : BitVec 32 := Scalar.muli arg15 c8_i32
  v192
def k0_off3 (k0_t2 : Fin k0_t2_loop.trips) : Fin 2 → Nat :=
  let c0_i32_80 : BitVec 32 := 0#32
  let c1_i32_82 : BitVec 32 := 1#32
  let arg15 : BitVec 32 := Scf.iv c0_i32_80 c1_i32_82 k0_t2
  let c8_i32 : BitVec 32 := 8#32
  let v192 : BitVec 32 := Scalar.muli arg15 c8_i32
  let v193 : BitVec 32 := v192
  let v194 : Index := Scalar.indexCast v193
  let c1024_193 : Index := 1024#32
  ![v194.toNat, 1024]
def k0_off4 (k0_t2 : Fin k0_t2_loop.trips) : Fin 2 → Nat :=
  let c0_i32_80 : BitVec 32 := 0#32
  let c1_i32_82 : BitVec 32 := 1#32
  let arg15 : BitVec 32 := Scf.iv c0_i32_80 c1_i32_82 k0_t2
  let c8_i32 : BitVec 32 := 8#32
  let v192 : BitVec 32 := Scalar.muli arg15 c8_i32
  let v193 : BitVec 32 := v192
  let v196 : Index := Scalar.indexCast v193
  let c1536_194 : Index := 1536#32
  ![v196.toNat, 1536]
@[reducible] def k0_t3_loop : Scf.Loop 32 :=
  let c0_i32_98 : BitVec 32 := 0#32
  let c32_i32_99 : BitVec 32 := 32#32
  let v114 : BitVec 32 := Scalar.addi c0_i32_98 c32_i32_99
  let c1_i32_100 : BitVec 32 := 1#32
  ⟨c0_i32_98, v114, c1_i32_100⟩
def k0_mult3 (k0_t3 : Fin k0_t3_loop.trips) : BitVec 32 :=
  let c0_i32_98 : BitVec 32 := 0#32
  let c1_i32_100 : BitVec 32 := 1#32
  let arg15 : BitVec 32 := Scf.iv c0_i32_98 c1_i32_100 k0_t3
  let c8_i32 : BitVec 32 := 8#32
  let v192 : BitVec 32 := Scalar.muli arg15 c8_i32
  v192
def k0_off5 (k0_t3 : Fin k0_t3_loop.trips) : Fin 2 → Nat :=
  let c0_i32_98 : BitVec 32 := 0#32
  let c1_i32_100 : BitVec 32 := 1#32
  let arg15 : BitVec 32 := Scf.iv c0_i32_98 c1_i32_100 k0_t3
  let c8_i32 : BitVec 32 := 8#32
  let v192 : BitVec 32 := Scalar.muli arg15 c8_i32
  let v193 : BitVec 32 := v192
  let v194 : Index := Scalar.indexCast v193
  let c2048_193 : Index := 2048#32
  ![v194.toNat, 2048]
def k0_off6 (k0_t3 : Fin k0_t3_loop.trips) : Fin 2 → Nat :=
  let c0_i32_98 : BitVec 32 := 0#32
  let c1_i32_100 : BitVec 32 := 1#32
  let arg15 : BitVec 32 := Scf.iv c0_i32_98 c1_i32_100 k0_t3
  let c8_i32 : BitVec 32 := 8#32
  let v192 : BitVec 32 := Scalar.muli arg15 c8_i32
  let v193 : BitVec 32 := v192
  let v196 : Index := Scalar.indexCast v193
  let c2560_194 : Index := 2560#32
  ![v196.toNat, 2560]
@[reducible] def k0_t4_loop : Scf.Loop 32 :=
  let c0_i32_115 : BitVec 32 := 0#32
  let c32_i32_116 : BitVec 32 := 32#32
  let v128 : BitVec 32 := Scalar.addi c0_i32_115 c32_i32_116
  let c1_i32_117 : BitVec 32 := 1#32
  ⟨c0_i32_115, v128, c1_i32_117⟩
def k0_mult4 (k0_t4 : Fin k0_t4_loop.trips) : BitVec 32 :=
  let c0_i32_115 : BitVec 32 := 0#32
  let c1_i32_117 : BitVec 32 := 1#32
  let arg15 : BitVec 32 := Scf.iv c0_i32_115 c1_i32_117 k0_t4
  let c8_i32 : BitVec 32 := 8#32
  let v192 : BitVec 32 := Scalar.muli arg15 c8_i32
  v192
def k0_off7 (k0_t4 : Fin k0_t4_loop.trips) : Fin 2 → Nat :=
  let c0_i32_115 : BitVec 32 := 0#32
  let c1_i32_117 : BitVec 32 := 1#32
  let arg15 : BitVec 32 := Scf.iv c0_i32_115 c1_i32_117 k0_t4
  let c8_i32 : BitVec 32 := 8#32
  let v192 : BitVec 32 := Scalar.muli arg15 c8_i32
  let v193 : BitVec 32 := v192
  let v194 : Index := Scalar.indexCast v193
  let c3072_193 : Index := 3072#32
  ![v194.toNat, 3072]
def k0_off8 (k0_t4 : Fin k0_t4_loop.trips) : Fin 2 → Nat :=
  let c0_i32_115 : BitVec 32 := 0#32
  let c1_i32_117 : BitVec 32 := 1#32
  let arg15 : BitVec 32 := Scf.iv c0_i32_115 c1_i32_117 k0_t4
  let c8_i32 : BitVec 32 := 8#32
  let v192 : BitVec 32 := Scalar.muli arg15 c8_i32
  let v193 : BitVec 32 := v192
  let v196 : Index := Scalar.indexCast v193
  let c3584_194 : Index := 3584#32
  ![v196.toNat, 3584]
@[reducible] def k0_t5_loop : Scf.Loop 32 :=
  let c0_i32_133 : BitVec 32 := 0#32
  let c32_i32_134 : BitVec 32 := 32#32
  let v142 : BitVec 32 := Scalar.addi c0_i32_133 c32_i32_134
  let c1_i32_135 : BitVec 32 := 1#32
  ⟨c0_i32_133, v142, c1_i32_135⟩
def k0_mult5 (k0_t5 : Fin k0_t5_loop.trips) : BitVec 32 :=
  let c0_i32_133 : BitVec 32 := 0#32
  let c1_i32_135 : BitVec 32 := 1#32
  let arg15 : BitVec 32 := Scf.iv c0_i32_133 c1_i32_135 k0_t5
  let c8_i32 : BitVec 32 := 8#32
  let v192 : BitVec 32 := Scalar.muli arg15 c8_i32
  v192
def k0_off9 (k0_t5 : Fin k0_t5_loop.trips) : Fin 2 → Nat :=
  let c0_i32_133 : BitVec 32 := 0#32
  let c1_i32_135 : BitVec 32 := 1#32
  let arg15 : BitVec 32 := Scf.iv c0_i32_133 c1_i32_135 k0_t5
  let c8_i32 : BitVec 32 := 8#32
  let v192 : BitVec 32 := Scalar.muli arg15 c8_i32
  let v193 : BitVec 32 := v192
  let v194 : Index := Scalar.indexCast v193
  let c4096_193 : Index := 4096#32
  ![v194.toNat, 4096]
def k0_off10 (k0_t5 : Fin k0_t5_loop.trips) : Fin 2 → Nat :=
  let c0_i32_133 : BitVec 32 := 0#32
  let c1_i32_135 : BitVec 32 := 1#32
  let arg15 : BitVec 32 := Scf.iv c0_i32_133 c1_i32_135 k0_t5
  let c8_i32 : BitVec 32 := 8#32
  let v192 : BitVec 32 := Scalar.muli arg15 c8_i32
  let v193 : BitVec 32 := v192
  let v196 : Index := Scalar.indexCast v193
  let c4608 : Index := 4608#32
  ![v196.toNat, 4608]
@[reducible] def k0_t6_loop : Scf.Loop 32 :=
  let c0_i32_150 : BitVec 32 := 0#32
  let c32_i32_151 : BitVec 32 := 32#32
  let v156 : BitVec 32 := Scalar.addi c0_i32_150 c32_i32_151
  let c1_i32_152 : BitVec 32 := 1#32
  ⟨c0_i32_150, v156, c1_i32_152⟩
def k0_mult6 (k0_t6 : Fin k0_t6_loop.trips) : BitVec 32 :=
  let c0_i32_150 : BitVec 32 := 0#32
  let c1_i32_152 : BitVec 32 := 1#32
  let arg15 : BitVec 32 := Scf.iv c0_i32_150 c1_i32_152 k0_t6
  let c8_i32 : BitVec 32 := 8#32
  let v192 : BitVec 32 := Scalar.muli arg15 c8_i32
  v192
def k0_off11 (k0_t6 : Fin k0_t6_loop.trips) : Fin 2 → Nat :=
  let c0_i32_150 : BitVec 32 := 0#32
  let c1_i32_152 : BitVec 32 := 1#32
  let arg15 : BitVec 32 := Scf.iv c0_i32_150 c1_i32_152 k0_t6
  let c8_i32 : BitVec 32 := 8#32
  let v192 : BitVec 32 := Scalar.muli arg15 c8_i32
  let v193 : BitVec 32 := v192
  let v194 : Index := Scalar.indexCast v193
  let c5120_193 : Index := 5120#32
  ![v194.toNat, 5120]
def k0_off12 (k0_t6 : Fin k0_t6_loop.trips) : Fin 2 → Nat :=
  let c0_i32_150 : BitVec 32 := 0#32
  let c1_i32_152 : BitVec 32 := 1#32
  let arg15 : BitVec 32 := Scf.iv c0_i32_150 c1_i32_152 k0_t6
  let c8_i32 : BitVec 32 := 8#32
  let v192 : BitVec 32 := Scalar.muli arg15 c8_i32
  let v193 : BitVec 32 := v192
  let v196 : Index := Scalar.indexCast v193
  let c5632 : Index := 5632#32
  ![v196.toNat, 5632]
@[reducible] def k0_t7_loop : Scf.Loop 32 :=
  let c0_i32_168 : BitVec 32 := 0#32
  let c32_i32_169 : BitVec 32 := 32#32
  let v170 : BitVec 32 := Scalar.addi c0_i32_168 c32_i32_169
  let c1_i32_170 : BitVec 32 := 1#32
  ⟨c0_i32_168, v170, c1_i32_170⟩
def k0_mult7 (k0_t7 : Fin k0_t7_loop.trips) : BitVec 32 :=
  let c0_i32_168 : BitVec 32 := 0#32
  let c1_i32_170 : BitVec 32 := 1#32
  let arg15 : BitVec 32 := Scf.iv c0_i32_168 c1_i32_170 k0_t7
  let c8_i32 : BitVec 32 := 8#32
  let v192 : BitVec 32 := Scalar.muli arg15 c8_i32
  v192
def k0_off13 (k0_t7 : Fin k0_t7_loop.trips) : Fin 2 → Nat :=
  let c0_i32_168 : BitVec 32 := 0#32
  let c1_i32_170 : BitVec 32 := 1#32
  let arg15 : BitVec 32 := Scf.iv c0_i32_168 c1_i32_170 k0_t7
  let c8_i32 : BitVec 32 := 8#32
  let v192 : BitVec 32 := Scalar.muli arg15 c8_i32
  let v193 : BitVec 32 := v192
  let v194 : Index := Scalar.indexCast v193
  let c6144_193 : Index := 6144#32
  ![v194.toNat, 6144]
def k0_off14 (k0_t7 : Fin k0_t7_loop.trips) : Fin 2 → Nat :=
  let c0_i32_168 : BitVec 32 := 0#32
  let c1_i32_170 : BitVec 32 := 1#32
  let arg15 : BitVec 32 := Scf.iv c0_i32_168 c1_i32_170 k0_t7
  let c8_i32 : BitVec 32 := 8#32
  let v192 : BitVec 32 := Scalar.muli arg15 c8_i32
  let v193 : BitVec 32 := v192
  let v196 : Index := Scalar.indexCast v193
  let c6656 : Index := 6656#32
  ![v196.toNat, 6656]
@[reducible] def k0_t8_loop : Scf.Loop 32 :=
  let c0_i32_185 : BitVec 32 := 0#32
  let c32_i32_186 : BitVec 32 := 32#32
  let v184 : BitVec 32 := Scalar.addi c0_i32_185 c32_i32_186
  let c1_i32_187 : BitVec 32 := 1#32
  ⟨c0_i32_185, v184, c1_i32_187⟩
def k0_mult8 (k0_t8 : Fin k0_t8_loop.trips) : BitVec 32 :=
  let c0_i32_185 : BitVec 32 := 0#32
  let c1_i32_187 : BitVec 32 := 1#32
  let arg15 : BitVec 32 := Scf.iv c0_i32_185 c1_i32_187 k0_t8
  let c8_i32 : BitVec 32 := 8#32
  let v192 : BitVec 32 := Scalar.muli arg15 c8_i32
  v192
def k0_off15 (k0_t8 : Fin k0_t8_loop.trips) : Fin 2 → Nat :=
  let c0_i32_185 : BitVec 32 := 0#32
  let c1_i32_187 : BitVec 32 := 1#32
  let arg15 : BitVec 32 := Scf.iv c0_i32_185 c1_i32_187 k0_t8
  let c8_i32 : BitVec 32 := 8#32
  let v192 : BitVec 32 := Scalar.muli arg15 c8_i32
  let v193 : BitVec 32 := v192
  let v194 : Index := Scalar.indexCast v193
  let c7168_193 : Index := 7168#32
  ![v194.toNat, 7168]
def k0_off16 (k0_t8 : Fin k0_t8_loop.trips) : Fin 2 → Nat :=
  let c0_i32_185 : BitVec 32 := 0#32
  let c1_i32_187 : BitVec 32 := 1#32
  let arg15 : BitVec 32 := Scf.iv c0_i32_185 c1_i32_187 k0_t8
  let c8_i32 : BitVec 32 := 8#32
  let v192 : BitVec 32 := Scalar.muli arg15 c8_i32
  let v193 : BitVec 32 := v192
  let v196 : Index := Scalar.indexCast v193
  let c7680 : Index := 7680#32
  ![v196.toNat, 7680]
def k0_cond4 (i : grid0.Coords) : BitVec 1 :=
  let arg0 : BitVec 32 := BitVec.ofNat 32 (i 0).val
  let c1_i32_52 : BitVec 32 := 1#32
  let v77 : BitVec 1 := Scalar.cmpi .eq arg0 c1_i32_52
  let v78 : BitVec 32 := Scalar.extui v77
  let c0_i32_53 : BitVec 32 := 0#32
  let v79 : BitVec 1 := Scalar.cmpi .ne v78 c0_i32_53
  v79

@[reducible] def k0_t9_loop : Scf.Loop 32 :=
  let c0_i32_64 : BitVec 32 := 0#32
  let c32_i32 : BitVec 32 := 32#32
  let v86 : BitVec 32 := Scalar.addi c0_i32_64 c32_i32
  let c1_i32_65 : BitVec 32 := 1#32
  ⟨c0_i32_64, v86, c1_i32_65⟩
def k0_mult9 (k0_t9 : Fin k0_t9_loop.trips) : BitVec 32 :=
  let c0_i32_64 : BitVec 32 := 0#32
  let c1_i32_65 : BitVec 32 := 1#32
  let arg15 : BitVec 32 := Scf.iv c0_i32_64 c1_i32_65 k0_t9
  let c8_i32 : BitVec 32 := 8#32
  let v258 : BitVec 32 := Scalar.muli arg15 c8_i32
  v258
def k0_off17 (k0_t9 : Fin k0_t9_loop.trips) : Fin 2 → Nat :=
  let c0_i32_64 : BitVec 32 := 0#32
  let c1_i32_65 : BitVec 32 := 1#32
  let arg15 : BitVec 32 := Scf.iv c0_i32_64 c1_i32_65 k0_t9
  let c8_i32 : BitVec 32 := 8#32
  let v258 : BitVec 32 := Scalar.muli arg15 c8_i32
  let v259 : BitVec 32 := v258
  let v260 : Index := Scalar.indexCast v259
  let c0_262 : Index := 0#32
  ![v260.toNat, 0]
def k0_off18 (k0_t9 : Fin k0_t9_loop.trips) : Fin 2 → Nat :=
  let c0_i32_64 : BitVec 32 := 0#32
  let c1_i32_65 : BitVec 32 := 1#32
  let arg15 : BitVec 32 := Scf.iv c0_i32_64 c1_i32_65 k0_t9
  let c8_i32 : BitVec 32 := 8#32
  let v258 : BitVec 32 := Scalar.muli arg15 c8_i32
  let v259 : BitVec 32 := v258
  let v262 : Index := Scalar.indexCast v259
  let c512_263 : Index := 512#32
  ![v262.toNat, 512]
@[reducible] def k0_t10_loop : Scf.Loop 32 :=
  let c0_i32_80 : BitVec 32 := 0#32
  let c32_i32_81 : BitVec 32 := 32#32
  let v100 : BitVec 32 := Scalar.addi c0_i32_80 c32_i32_81
  let c1_i32_82 : BitVec 32 := 1#32
  ⟨c0_i32_80, v100, c1_i32_82⟩
def k0_mult10 (k0_t10 : Fin k0_t10_loop.trips) : BitVec 32 :=
  let c0_i32_80 : BitVec 32 := 0#32
  let c1_i32_82 : BitVec 32 := 1#32
  let arg15 : BitVec 32 := Scf.iv c0_i32_80 c1_i32_82 k0_t10
  let c8_i32 : BitVec 32 := 8#32
  let v258 : BitVec 32 := Scalar.muli arg15 c8_i32
  v258
def k0_off19 (k0_t10 : Fin k0_t10_loop.trips) : Fin 2 → Nat :=
  let c0_i32_80 : BitVec 32 := 0#32
  let c1_i32_82 : BitVec 32 := 1#32
  let arg15 : BitVec 32 := Scf.iv c0_i32_80 c1_i32_82 k0_t10
  let c8_i32 : BitVec 32 := 8#32
  let v258 : BitVec 32 := Scalar.muli arg15 c8_i32
  let v259 : BitVec 32 := v258
  let v260 : Index := Scalar.indexCast v259
  let c1024_262 : Index := 1024#32
  ![v260.toNat, 1024]
def k0_off20 (k0_t10 : Fin k0_t10_loop.trips) : Fin 2 → Nat :=
  let c0_i32_80 : BitVec 32 := 0#32
  let c1_i32_82 : BitVec 32 := 1#32
  let arg15 : BitVec 32 := Scf.iv c0_i32_80 c1_i32_82 k0_t10
  let c8_i32 : BitVec 32 := 8#32
  let v258 : BitVec 32 := Scalar.muli arg15 c8_i32
  let v259 : BitVec 32 := v258
  let v262 : Index := Scalar.indexCast v259
  let c1536_263 : Index := 1536#32
  ![v262.toNat, 1536]
@[reducible] def k0_t11_loop : Scf.Loop 32 :=
  let c0_i32_98 : BitVec 32 := 0#32
  let c32_i32_99 : BitVec 32 := 32#32
  let v114 : BitVec 32 := Scalar.addi c0_i32_98 c32_i32_99
  let c1_i32_100 : BitVec 32 := 1#32
  ⟨c0_i32_98, v114, c1_i32_100⟩
def k0_mult11 (k0_t11 : Fin k0_t11_loop.trips) : BitVec 32 :=
  let c0_i32_98 : BitVec 32 := 0#32
  let c1_i32_100 : BitVec 32 := 1#32
  let arg15 : BitVec 32 := Scf.iv c0_i32_98 c1_i32_100 k0_t11
  let c8_i32 : BitVec 32 := 8#32
  let v258 : BitVec 32 := Scalar.muli arg15 c8_i32
  v258
def k0_off21 (k0_t11 : Fin k0_t11_loop.trips) : Fin 2 → Nat :=
  let c0_i32_98 : BitVec 32 := 0#32
  let c1_i32_100 : BitVec 32 := 1#32
  let arg15 : BitVec 32 := Scf.iv c0_i32_98 c1_i32_100 k0_t11
  let c8_i32 : BitVec 32 := 8#32
  let v258 : BitVec 32 := Scalar.muli arg15 c8_i32
  let v259 : BitVec 32 := v258
  let v260 : Index := Scalar.indexCast v259
  let c2048_262 : Index := 2048#32
  ![v260.toNat, 2048]
def k0_off22 (k0_t11 : Fin k0_t11_loop.trips) : Fin 2 → Nat :=
  let c0_i32_98 : BitVec 32 := 0#32
  let c1_i32_100 : BitVec 32 := 1#32
  let arg15 : BitVec 32 := Scf.iv c0_i32_98 c1_i32_100 k0_t11
  let c8_i32 : BitVec 32 := 8#32
  let v258 : BitVec 32 := Scalar.muli arg15 c8_i32
  let v259 : BitVec 32 := v258
  let v262 : Index := Scalar.indexCast v259
  let c2560_263 : Index := 2560#32
  ![v262.toNat, 2560]
@[reducible] def k0_t12_loop : Scf.Loop 32 :=
  let c0_i32_115 : BitVec 32 := 0#32
  let c32_i32_116 : BitVec 32 := 32#32
  let v128 : BitVec 32 := Scalar.addi c0_i32_115 c32_i32_116
  let c1_i32_117 : BitVec 32 := 1#32
  ⟨c0_i32_115, v128, c1_i32_117⟩
def k0_mult12 (k0_t12 : Fin k0_t12_loop.trips) : BitVec 32 :=
  let c0_i32_115 : BitVec 32 := 0#32
  let c1_i32_117 : BitVec 32 := 1#32
  let arg15 : BitVec 32 := Scf.iv c0_i32_115 c1_i32_117 k0_t12
  let c8_i32 : BitVec 32 := 8#32
  let v258 : BitVec 32 := Scalar.muli arg15 c8_i32
  v258
def k0_off23 (k0_t12 : Fin k0_t12_loop.trips) : Fin 2 → Nat :=
  let c0_i32_115 : BitVec 32 := 0#32
  let c1_i32_117 : BitVec 32 := 1#32
  let arg15 : BitVec 32 := Scf.iv c0_i32_115 c1_i32_117 k0_t12
  let c8_i32 : BitVec 32 := 8#32
  let v258 : BitVec 32 := Scalar.muli arg15 c8_i32
  let v259 : BitVec 32 := v258
  let v260 : Index := Scalar.indexCast v259
  let c3072_262 : Index := 3072#32
  ![v260.toNat, 3072]
def k0_off24 (k0_t12 : Fin k0_t12_loop.trips) : Fin 2 → Nat :=
  let c0_i32_115 : BitVec 32 := 0#32
  let c1_i32_117 : BitVec 32 := 1#32
  let arg15 : BitVec 32 := Scf.iv c0_i32_115 c1_i32_117 k0_t12
  let c8_i32 : BitVec 32 := 8#32
  let v258 : BitVec 32 := Scalar.muli arg15 c8_i32
  let v259 : BitVec 32 := v258
  let v262 : Index := Scalar.indexCast v259
  let c3584_263 : Index := 3584#32
  ![v262.toNat, 3584]
@[reducible] def k0_t13_loop : Scf.Loop 32 :=
  let c0_i32_133 : BitVec 32 := 0#32
  let c32_i32_134 : BitVec 32 := 32#32
  let v142 : BitVec 32 := Scalar.addi c0_i32_133 c32_i32_134
  let c1_i32_135 : BitVec 32 := 1#32
  ⟨c0_i32_133, v142, c1_i32_135⟩
def k0_mult13 (k0_t13 : Fin k0_t13_loop.trips) : BitVec 32 :=
  let c0_i32_133 : BitVec 32 := 0#32
  let c1_i32_135 : BitVec 32 := 1#32
  let arg15 : BitVec 32 := Scf.iv c0_i32_133 c1_i32_135 k0_t13
  let c8_i32 : BitVec 32 := 8#32
  let v258 : BitVec 32 := Scalar.muli arg15 c8_i32
  v258
def k0_off25 (k0_t13 : Fin k0_t13_loop.trips) : Fin 2 → Nat :=
  let c0_i32_133 : BitVec 32 := 0#32
  let c1_i32_135 : BitVec 32 := 1#32
  let arg15 : BitVec 32 := Scf.iv c0_i32_133 c1_i32_135 k0_t13
  let c8_i32 : BitVec 32 := 8#32
  let v258 : BitVec 32 := Scalar.muli arg15 c8_i32
  let v259 : BitVec 32 := v258
  let v260 : Index := Scalar.indexCast v259
  let c4096_262 : Index := 4096#32
  ![v260.toNat, 4096]
def k0_off26 (k0_t13 : Fin k0_t13_loop.trips) : Fin 2 → Nat :=
  let c0_i32_133 : BitVec 32 := 0#32
  let c1_i32_135 : BitVec 32 := 1#32
  let arg15 : BitVec 32 := Scf.iv c0_i32_133 c1_i32_135 k0_t13
  let c8_i32 : BitVec 32 := 8#32
  let v258 : BitVec 32 := Scalar.muli arg15 c8_i32
  let v259 : BitVec 32 := v258
  let v262 : Index := Scalar.indexCast v259
  let c4608 : Index := 4608#32
  ![v262.toNat, 4608]
@[reducible] def k0_t14_loop : Scf.Loop 32 :=
  let c0_i32_150 : BitVec 32 := 0#32
  let c32_i32_151 : BitVec 32 := 32#32
  let v156 : BitVec 32 := Scalar.addi c0_i32_150 c32_i32_151
  let c1_i32_152 : BitVec 32 := 1#32
  ⟨c0_i32_150, v156, c1_i32_152⟩
def k0_mult14 (k0_t14 : Fin k0_t14_loop.trips) : BitVec 32 :=
  let c0_i32_150 : BitVec 32 := 0#32
  let c1_i32_152 : BitVec 32 := 1#32
  let arg15 : BitVec 32 := Scf.iv c0_i32_150 c1_i32_152 k0_t14
  let c8_i32 : BitVec 32 := 8#32
  let v258 : BitVec 32 := Scalar.muli arg15 c8_i32
  v258
def k0_off27 (k0_t14 : Fin k0_t14_loop.trips) : Fin 2 → Nat :=
  let c0_i32_150 : BitVec 32 := 0#32
  let c1_i32_152 : BitVec 32 := 1#32
  let arg15 : BitVec 32 := Scf.iv c0_i32_150 c1_i32_152 k0_t14
  let c8_i32 : BitVec 32 := 8#32
  let v258 : BitVec 32 := Scalar.muli arg15 c8_i32
  let v259 : BitVec 32 := v258
  let v260 : Index := Scalar.indexCast v259
  let c5120_262 : Index := 5120#32
  ![v260.toNat, 5120]
def k0_off28 (k0_t14 : Fin k0_t14_loop.trips) : Fin 2 → Nat :=
  let c0_i32_150 : BitVec 32 := 0#32
  let c1_i32_152 : BitVec 32 := 1#32
  let arg15 : BitVec 32 := Scf.iv c0_i32_150 c1_i32_152 k0_t14
  let c8_i32 : BitVec 32 := 8#32
  let v258 : BitVec 32 := Scalar.muli arg15 c8_i32
  let v259 : BitVec 32 := v258
  let v262 : Index := Scalar.indexCast v259
  let c5632 : Index := 5632#32
  ![v262.toNat, 5632]
@[reducible] def k0_t15_loop : Scf.Loop 32 :=
  let c0_i32_168 : BitVec 32 := 0#32
  let c32_i32_169 : BitVec 32 := 32#32
  let v170 : BitVec 32 := Scalar.addi c0_i32_168 c32_i32_169
  let c1_i32_170 : BitVec 32 := 1#32
  ⟨c0_i32_168, v170, c1_i32_170⟩
def k0_mult15 (k0_t15 : Fin k0_t15_loop.trips) : BitVec 32 :=
  let c0_i32_168 : BitVec 32 := 0#32
  let c1_i32_170 : BitVec 32 := 1#32
  let arg15 : BitVec 32 := Scf.iv c0_i32_168 c1_i32_170 k0_t15
  let c8_i32 : BitVec 32 := 8#32
  let v258 : BitVec 32 := Scalar.muli arg15 c8_i32
  v258
def k0_off29 (k0_t15 : Fin k0_t15_loop.trips) : Fin 2 → Nat :=
  let c0_i32_168 : BitVec 32 := 0#32
  let c1_i32_170 : BitVec 32 := 1#32
  let arg15 : BitVec 32 := Scf.iv c0_i32_168 c1_i32_170 k0_t15
  let c8_i32 : BitVec 32 := 8#32
  let v258 : BitVec 32 := Scalar.muli arg15 c8_i32
  let v259 : BitVec 32 := v258
  let v260 : Index := Scalar.indexCast v259
  let c6144_262 : Index := 6144#32
  ![v260.toNat, 6144]
def k0_off30 (k0_t15 : Fin k0_t15_loop.trips) : Fin 2 → Nat :=
  let c0_i32_168 : BitVec 32 := 0#32
  let c1_i32_170 : BitVec 32 := 1#32
  let arg15 : BitVec 32 := Scf.iv c0_i32_168 c1_i32_170 k0_t15
  let c8_i32 : BitVec 32 := 8#32
  let v258 : BitVec 32 := Scalar.muli arg15 c8_i32
  let v259 : BitVec 32 := v258
  let v262 : Index := Scalar.indexCast v259
  let c6656 : Index := 6656#32
  ![v262.toNat, 6656]
@[reducible] def k0_t16_loop : Scf.Loop 32 :=
  let c0_i32_185 : BitVec 32 := 0#32
  let c32_i32_186 : BitVec 32 := 32#32
  let v184 : BitVec 32 := Scalar.addi c0_i32_185 c32_i32_186
  let c1_i32_187 : BitVec 32 := 1#32
  ⟨c0_i32_185, v184, c1_i32_187⟩
def k0_mult16 (k0_t16 : Fin k0_t16_loop.trips) : BitVec 32 :=
  let c0_i32_185 : BitVec 32 := 0#32
  let c1_i32_187 : BitVec 32 := 1#32
  let arg15 : BitVec 32 := Scf.iv c0_i32_185 c1_i32_187 k0_t16
  let c8_i32 : BitVec 32 := 8#32
  let v258 : BitVec 32 := Scalar.muli arg15 c8_i32
  v258
def k0_off31 (k0_t16 : Fin k0_t16_loop.trips) : Fin 2 → Nat :=
  let c0_i32_185 : BitVec 32 := 0#32
  let c1_i32_187 : BitVec 32 := 1#32
  let arg15 : BitVec 32 := Scf.iv c0_i32_185 c1_i32_187 k0_t16
  let c8_i32 : BitVec 32 := 8#32
  let v258 : BitVec 32 := Scalar.muli arg15 c8_i32
  let v259 : BitVec 32 := v258
  let v260 : Index := Scalar.indexCast v259
  let c7168_262 : Index := 7168#32
  ![v260.toNat, 7168]
def k0_off32 (k0_t16 : Fin k0_t16_loop.trips) : Fin 2 → Nat :=
  let c0_i32_185 : BitVec 32 := 0#32
  let c1_i32_187 : BitVec 32 := 1#32
  let arg15 : BitVec 32 := Scf.iv c0_i32_185 c1_i32_187 k0_t16
  let c8_i32 : BitVec 32 := 8#32
  let v258 : BitVec 32 := Scalar.muli arg15 c8_i32
  let v259 : BitVec 32 := v258
  let v262 : Index := Scalar.indexCast v259
  let c7680 : Index := 7680#32
  ![v262.toNat, 7680]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S8x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8x1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x32x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S8192x9216 : Shape := ⟨2, ![8192, 9216]⟩
abbrev S256x1x64 : Shape := ⟨3, ![256, 1, 64]⟩
abbrev S256x16x64 : Shape := ⟨3, ![256, 16, 64]⟩
abbrev S4x64x16x64 : Shape := ⟨4, ![4, 64, 16, 64]⟩
abbrev S4x1024 : Shape := ⟨2, ![4, 1024]⟩
abbrev S64x1x64 : Shape := ⟨3, ![64, 1, 64]⟩
abbrev S64x64 : Shape := ⟨2, ![64, 64]⟩
abbrev S64x16x64 : Shape := ⟨3, ![64, 16, 64]⟩
abbrev S8192x1024 : Shape := ⟨2, ![8192, 1024]⟩
abbrev S8192x64x16 : Shape := ⟨3, ![8192, 64, 16]⟩
abbrev S64x8192x64 : Shape := ⟨3, ![64, 8192, 64]⟩
abbrev S_ : Shape := ⟨0, ![]⟩
abbrev S8192x64x64 : Shape := ⟨3, ![8192, 64, 64]⟩
abbrev S1x64x64 : Shape := ⟨3, ![1, 64, 64]⟩
abbrev S1x64x16x64 : Shape := ⟨4, ![1, 64, 16, 64]⟩
abbrev S64x8192x16 : Shape := ⟨3, ![64, 8192, 16]⟩
abbrev S1x1024 : Shape := ⟨2, ![1, 1024]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S8192x9216, .f32⟩
  | .hbm, ⟨1, _⟩ => ⟨S256x1x64, .f32⟩
  | .hbm, ⟨2, _⟩ => ⟨S256x1x64, .f32⟩
  | .hbm, ⟨3, _⟩ => ⟨S256x16x64, .f32⟩
  | .hbm, ⟨4, _⟩ => ⟨S256x16x64, .f32⟩
  | .hbm, ⟨5, _⟩ => ⟨S4x64x16x64, .f32⟩
  | .hbm, ⟨6, _⟩ => ⟨S4x64x16x64, .f32⟩
  | .hbm, ⟨7, _⟩ => ⟨S4x1024, .f32⟩
  | .hbm, ⟨8, _⟩ => ⟨S64x1x64, .f32⟩
  | .hbm, ⟨9, _⟩ => ⟨S64x64, .f32⟩
  | .hbm, ⟨10, _⟩ => ⟨S64x1x64, .f32⟩
  | .hbm, ⟨11, _⟩ => ⟨S64x64, .f32⟩
  | .hbm, ⟨12, _⟩ => ⟨S64x16x64, .f32⟩
  | .hbm, ⟨13, _⟩ => ⟨S64x16x64, .f32⟩
  | .hbm, ⟨14, _⟩ => ⟨S8192x1024, .f32⟩
  | .hbm, ⟨15, _⟩ => ⟨S8192x64x16, .f32⟩
  | .hbm, ⟨16, _⟩ => ⟨S64x8192x64, .f32⟩
  | .hbm, ⟨17, _⟩ => ⟨S64x8192x64, .f32⟩
  | .hbm, ⟨18, _⟩ => ⟨S_, .f32⟩
  | .hbm, ⟨19, _⟩ => ⟨S64x64, .f32⟩
  | .hbm, ⟨20, _⟩ => ⟨S8192x64x64, .f32⟩
  | .hbm, ⟨21, _⟩ => ⟨S8192x64x64, .f32⟩
  | .hbm, ⟨22, _⟩ => ⟨S_, .f32⟩
  | .hbm, ⟨23, _⟩ => ⟨S8192x64x64, .f32⟩
  | .hbm, ⟨24, _⟩ => ⟨S_, .f32⟩
  | .hbm, ⟨25, _⟩ => ⟨S8192x64x64, .f32⟩
  | .hbm, ⟨26, _⟩ => ⟨S_, .i32⟩
  | .hbm, ⟨27, _⟩ => ⟨S8192x64x64, .f32⟩
  | .hbm, ⟨28, _⟩ => ⟨S8192x64x64, .f32⟩
  | .hbm, ⟨29, _⟩ => ⟨S64x64, .f32⟩
  | .hbm, ⟨30, _⟩ => ⟨S64x64, .f32⟩
  | .hbm, ⟨31, _⟩ => ⟨S_, .i32⟩
  | .hbm, ⟨32, _⟩ => ⟨S64x64, .f32⟩
  | .hbm, ⟨33, _⟩ => ⟨S64x64, .f32⟩
  | .hbm, ⟨34, _⟩ => ⟨S8192x64x64, .f32⟩
  | .hbm, ⟨35, _⟩ => ⟨S8192x64x64, .f32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S1x64x64, .f32⟩
  | .hbm, ⟨41, _⟩ => ⟨S64x64, .f32⟩
  | .hbm, ⟨42, _⟩ => ⟨S_, .i32⟩
  | .hbm, ⟨43, _⟩ => ⟨S_, .i32⟩
  | .hbm, ⟨44, _⟩ => ⟨S1x64x64, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S1x64x64, .f32⟩
  | .hbm, ⟨55, _⟩ => ⟨S_, .i32⟩
  | .hbm, ⟨56, _⟩ => ⟨S_, .i32⟩
  | .hbm, ⟨57, _⟩ => ⟨S8192x64x64, .f32⟩
  | .hbm, ⟨58, _⟩ => ⟨S1x64x64, .f32⟩
  | .hbm, ⟨59, _⟩ => ⟨S_, .i32⟩
  | .hbm, ⟨60, _⟩ => ⟨S_, .i32⟩
  | .hbm, ⟨61, _⟩ => ⟨S8192x64x64, .f32⟩
  | .hbm, ⟨62, _⟩ => ⟨S_, .i32⟩
  | .hbm, ⟨63, _⟩ => ⟨S_, .i32⟩
  | .hbm, ⟨64, _⟩ => ⟨S1x64x16x64, .f32⟩
  | .hbm, ⟨65, _⟩ => ⟨S64x16x64, .f32⟩
  | .hbm, ⟨66, _⟩ => ⟨S64x8192x16, .f32⟩
  | .hbm, ⟨67, _⟩ => ⟨S1x64x16x64, .f32⟩
  | .hbm, ⟨68, _⟩ => ⟨S64x16x64, .f32⟩
  | .hbm, ⟨69, _⟩ => ⟨S64x8192x16, .f32⟩
  | .hbm, ⟨70, _⟩ => ⟨S64x8192x16, .f32⟩
  | .hbm, ⟨71, _⟩ => ⟨S8192x64x16, .f32⟩
  | .hbm, ⟨72, _⟩ => ⟨S8192x1024, .f32⟩
  | .hbm, ⟨73, _⟩ => ⟨S1x1024, .f32⟩
  | .hbm, ⟨74, _⟩ => ⟨S1024, .f32⟩
  | .hbm, ⟨75, _⟩ => ⟨S8192x1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .bf16⟩
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_c : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v15_3 : Ref sig .tc := ⟨.hbm, 30, rfl⟩
abbrev main_v15_4 : Ref sig .tc := ⟨.hbm, 31, rfl⟩
abbrev main_v15_5 : Ref sig .tc := ⟨.hbm, 32, rfl⟩
abbrev main_v15_6 : Ref sig .tc := ⟨.hbm, 33, rfl⟩
abbrev main_v15_7 : Ref sig .tc := ⟨.hbm, 34, rfl⟩
abbrev main_v15_8 : Ref sig .tc := ⟨.hbm, 35, rfl⟩
abbrev main_while0c_c_13 : Ref sig .tc := ⟨.hbm, 36, rfl⟩
abbrev main_while0c_v41 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_v0 : Ref sig .tc := ⟨.hbm, 40, rfl⟩
abbrev main_while0b_v41 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_v0 : Ref sig .tc := ⟨.hbm, 44, rfl⟩
abbrev main_while0b_v42 : Ref sig .tc := ⟨.hbm, 45, rfl⟩
abbrev main_while0b_v43 : Ref sig .tc := ⟨.hbm, 46, rfl⟩
abbrev main_while0b_v44 : Ref sig .tc := ⟨.hbm, 47, rfl⟩
abbrev main_while0b_v45 : Ref sig .tc := ⟨.hbm, 48, rfl⟩
abbrev main_while0b_v46 : Ref sig .tc := ⟨.hbm, 49, rfl⟩
abbrev main_while0b_v47 : Ref sig .tc := ⟨.hbm, 50, rfl⟩
abbrev main_while0b_v48 : Ref sig .tc := ⟨.hbm, 51, rfl⟩
abbrev main_while0b_v49 : Ref sig .tc := ⟨.hbm, 52, rfl⟩
abbrev main_while0b_v50 : Ref sig .tc := ⟨.hbm, 53, rfl⟩
abbrev main_while0b_call2_v0 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_v51 : Ref sig .tc := ⟨.hbm, 57, rfl⟩
abbrev main_while0b_call3_v0 : Ref sig .tc := ⟨.hbm, 58, rfl⟩
abbrev main_while0b_call3_c : Ref sig .tc := ⟨.hbm, 59, rfl⟩
abbrev main_while0b_call3_c_0 : Ref sig .tc := ⟨.hbm, 60, rfl⟩
abbrev main_while0b_v52 : Ref sig .tc := ⟨.hbm, 61, rfl⟩
abbrev main_while0b_c_13 : Ref sig .tc := ⟨.hbm, 62, rfl⟩
abbrev main_while0b_v53 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_2 : Ref sig .tc := ⟨.hbm, 80, rfl⟩
abbrev main_v32 : Ref sig .tc := ⟨.hbm, 81, rfl⟩
abbrev main_v33 : Ref sig .tc := ⟨.hbm, 82, rfl⟩
abbrev main_cst_3 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_cst_4 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩

abbrev nD : Nat := 1
abbrev τ : Topo := Topo.v7x

variable {F : FTy → Type} [FloatOps F]

abbrev main_while0_count : Scf.Loop 32 := ⟨0#32, 8192#32, 1#32⟩
-- ==== Proof.InProj.lean ====
/-
  The input projection: what its result array holds. At every grid point the kernel multiplies a block of the
  hidden states by a block of rows of the transposed weight; the rows are loaded and cast once per column block, kept
  in a scratch and used for the eight row blocks that follow. The windows of the weight begin at an element, not
  at a block: the first five at multiples of 1024, the last four 16 rows later, past the rows of beta and alpha.
-/
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise

@[expose] public section

noncomputable section

namespace Cert.Kernel2Ideal.InProj

open Cert.Kernel2Ideal Cert.Kernel2Ideal.Gen Idealize.ShloMosaic Idealize.ShloMosaic.TcCoe Idealize.SL.Sem
open Idealize.ShloMosaic.Pipeline (Dat)

section AnyFloat

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The first row block of a column block: the cast weight rows are what the scratch is left with. -/
theorem sout_A (c : Dev nD) (i : grid0.Coords) (a2 : Memref sig .tc .vmem S1024x2048 .bf16) (h2 : a2.IsWhole)
    (a3 : Memref sig .tc .vmem S1x1024x2048 .f32) (h3 : a3.IsWhole) (a4 : Memref sig .tc .vmem S1024x1024 .f32) (h4 : a4.IsWhole)
    (a5 : Memref sig .tc .vmem S1024x2048 .bf16) (h5 : a5.IsWhole) (hc : cond0_0 i)
    (x0 : Vec F S1024x2048 .bf16) (x1 : Vec F S1x1024x2048 .f32) :
    sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x1024x2048) hz3]

/-- The first row block of a column block: the output is the block product with the freshly cast rows. -/
theorem out_A (c : Dev nD) (i : grid0.Coords) (a2 : Memref sig .tc .vmem S1024x2048 .bf16) (h2 : a2.IsWhole)
    (a3 : Memref sig .tc .vmem S1x1024x2048 .f32) (h3 : a3.IsWhole) (a4 : Memref sig .tc .vmem S1024x1024 .f32) (h4 : a4.IsWhole)
    (a5 : Memref sig .tc .vmem S1024x2048 .bf16) (h5 : a5.IsWhole) (hc : cond0_0 i)
    (x0 : Vec F S1024x2048 .bf16) (x1 : Vec F S1x1024x2048 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S1024x2048) _ hz2]
  simp only [View.readAt_eq_ld, h2.read_unread, h3.read_unread, View.ld_unit_zero (S := S1x1024x2048) hz3,
    View.ld_unit_zero (S := S1024x2048) hz2]

/-- The other row blocks: the output is the block product with the rows kept in the scratch. -/
theorem out_B (c : Dev nD) (i : grid0.Coords) (a2 : Memref sig .tc .vmem S1024x2048 .bf16) (h2 : a2.IsWhole)
    (a3 : Memref sig .tc .vmem S1x1024x2048 .f32) (h3 : a3.IsWhole) (a4 : Memref sig .tc .vmem S1024x1024 .f32) (h4 : a4.IsWhole)
    (a5 : Memref sig .tc .vmem S1024x2048 .bf16) (h5 : a5.IsWhole) (hc : ¬cond0_0 i)
    (x0 : Vec F S1024x2048 .bf16) (x1 : Vec F S1x1024x2048 .f32) (xs : Vec F S1024x2048 .bf16) :
    out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz2]
  simp only [View.readAt_eq_ld, h2.read_unread, h5.read_unread, View.ld_unit_zero (S := S1024x2048) hz2]

/-- The first point of the column block that point `n` works on. -/
theorem first_lt {n : ℕ} (h : n < cfg0.N) : 8 * (n / 8) < cfg0.N := by omega

/-- After every point: the output block is the product of the point's block of hidden states with the rows loaded at
    the first point of its column block, and the scratch holds those rows. -/
theorem outs_eq (c : Dev nD) : ∀ (n : ℕ) (h : n < cfg0.N), outsAt0 m c n h
    = (k0_pay2 (iblk m c 0 ⟨n, h⟩) (k0_pay1 (iblk m c 1 ⟨8 * (n / 8), first_lt h⟩)),
        k0_pay1 (iblk m c 1 ⟨8 * (n / 8), first_lt h⟩))
  | 0, h => by
    rw [outsAt0_A m c ⟨0, h⟩ rfl, out_A, sout_A]
  | n + 1, h => by
    by_cases h0 : (n + 1) % 8 = 0
    · have e : (⟨8 * ((n + 1) / 8), first_lt h⟩ : Fin cfg0.N) = ⟨n + 1, h⟩ := Fin.ext (by show 8 * ((n + 1) / 8) = n + 1; omega)
      rw [outsAt0_A m c ⟨n + 1, h⟩ h0, out_A, sout_A, e]
    · have e : (⟨8 * ((n + 1) / 8), first_lt h⟩ : Fin cfg0.N)
          = ⟨8 * (n / 8), first_lt (Nat.lt_of_succ_lt h)⟩ := Fin.ext (by show 8 * ((n + 1) / 8) = 8 * (n / 8); omega)
      rw [outsAt0_B m c ⟨n + 1, h⟩ h0, out_B, e]
      show (k0_pay2 _ (outsAt0 m c n _).2, (outsAt0 m c n _).2) = _
      rw [outs_eq c n]

end AnyFloat

/-! ## At the ideal instance -/

variable (m : (ℓ : Loc nD τ sig) → Buf (Elt Ideal) ℓ)

/-- The row of the transposed weight that column `j` of the result is computed from. -/
def wcol (j : Fin 9216) : Fin 9232 := ⟨if j.val < 5120 then j.val else j.val + 16, by split <;> omega⟩

/-- The result, entry by entry: a row of the hidden states times a column of the layer's weight. -/
def out (h : Vec Ideal S8192x2048 .bf16) (w : Vec Ideal S4x2048x9232 .f32) : Vec Ideal S8192x9216 .f32 := fun i =>
  ∑ k : Fin 2048, (h (ix2 (i 0) k) : EReal) * (w (ix3 1 k (wcol (i 1))) : EReal)

/-- Where the windows begin. -/
theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 3) = 1
    ∧ win0_1.index t (1 : Fin 3) = 1024 * (t.val / 8) + (if t.val / 8 < 5 then 0 else 16) ∧ win0_1.index t (2 : Fin 3) = 0 :=
  (by decide +kernel : ∀ t : Fin grid0.N, _)

/-- The transposed weight as the region finds it. -/
theorem V_w (c : Dev nD) : V m c main_v0
    = transpose S4x9232x2048 [0, 2, 1] (m ((c : Thread nD τ).loc main_arg1)) transposes_S4x2048x9232_S4x9232x2048_0_2_1 := by
  show StableHlo.after hostOps0 (fun b => m (c, b)) (Proc.devRef .tc main_v0) = _
  simp only [hostOps0]
  after_results <;> rfl

theorem iblk0_apply (c : Dev nD) (t : Fin cfg0.N) (r : Fin 1024) (k : Fin 2048) :
    (iblk m c 0 t : Vec Ideal S1024x2048 .bf16) (ix2 r k)
      = (m ((c : Thread nD τ).loc main_arg0) : Vec Ideal S8192x2048 .bf16)
          (ix2 ⟨(t.val % 8) * 1024 + r.val, by omega⟩ k) := by
  unfold iblk
  rw [View.read_apply]
  show V m c main_arg0 _ = _
  rw [V_main_arg0]
  congr 1
  obtain ⟨e0, e1⟩ := idx0 t
  funext a
  apply Fin.ext
  match a with
  | ⟨0, _⟩ => show win0_0.index t 0 * 1024 + 1 * r.val = (t.val % 8) * 1024 + r.val; rw [e0]; omega
  | ⟨1, _⟩ => show win0_0.index t 1 * 2048 + 1 * k.val = k.val; rw [e1]; omega

theorem iblk1_apply (c : Dev nD) (t : Fin cfg0.N) (r : Fin 1024) (k : Fin 2048) (ht : t.val < 72) :
    (iblk m c 1 t : Vec Ideal S1x1024x2048 .f32) (ix3 0 r k)
      = (m ((c : Thread nD τ).loc main_arg1) : Vec Ideal S4x2048x9232 .f32)
          (ix3 1 k ⟨1024 * (t.val / 8) + (if t.val / 8 < 5 then 0 else 16) + r.val, by split <;> omega⟩) := by
  unfold iblk
  rw [View.read_apply]
  show V m c main_v0 _ = _
  rw [V_w]
  have hj : ((cfg0.win 1).blk t).view.emb (ix3 0 r k : S1x1024x2048.Idx)
      = (ix3 1 ⟨1024 * (t.val / 8) + (if t.val / 8 < 5 then 0 else 16) + r.val, by split <;> omega⟩ k : S4x9232x2048.Idx) := by
    obtain ⟨e0, e1, e2⟩ := idx1 t
    funext a
    apply Fin.ext
    match a with
    | ⟨0, _⟩ => show win0_1.index t 0 + 1 * 0 = 1; rw [e0]
    | ⟨1, _⟩ => show win0_1.index t 1 + 1 * r.val = 1024 * (t.val / 8) + (if t.val / 8 < 5 then 0 else 16) + r.val; rw [e1]; omega
    | ⟨2, _⟩ => show win0_1.index t 2 + 1 * k.val = k.val; rw [e2]; omega
  rw [hj]
  pointwise

/-- The body's block product, entry by entry. -/
theorem pay_apply (x : Vec Ideal S1024x2048 .bf16) (w : Vec Ideal S1x1024x2048 .f32) (r : Fin 1024) (l : Fin 1024) :
    (k0_pay2 x (k0_pay1 w) : Vec Ideal S1024x1024 .f32) (ix2 r l)
      = ∑ k : Fin 2048, (x (ix2 r k) : EReal) * (w (ix3 0 l k) : EReal) := by
  pointwise [k0_pay2, k0_pay1]

/-- The result array after the run. -/
theorem G_eq (c : Dev nD) :
    Value.G2 m c = out (m ((c : Thread nD τ).loc main_arg0)) (m ((c : Thread nD τ).loc main_arg1)) := by
  funext i
  have hN : cfg0.N = 72 := N_0
  have hi0 : (i 0).val < 8192 := (i 0).isLt
  have hi1 : (i 1).val < 9216 := (i 1).isLt
  have hpt : Value.pt2Of i = (i 0).val / 1024 + 8 * ((i 1).val / 1024) := by
    show 1 * ((i 0).val / 1024 - 0) + 8 * ((i 1).val / 1024 - 0) = _; omega
  have hlt : Value.pt2Of i < cfg0.N := by rw [hpt, hN]; omega
  unfold Value.G2
  rw [dif_pos hlt, ← Value.outsAt0_sweep m c _ hlt, outs_eq]
  have hl : Value.loc2Of i = ix2 ⟨(i 0).val % 1024, Nat.mod_lt _ (by decide)⟩ ⟨(i 1).val % 1024, Nat.mod_lt _ (by decide)⟩ := by
    funext a
    match a with
    | ⟨0, _⟩ => rfl
    | ⟨1, _⟩ => rfl
  show (k0_pay2 (F := Ideal) (iblk m c 0 _) (k0_pay1 (F := Ideal) (iblk m c 1 _))) (Value.loc2Of i) = _
  rw [hl, pay_apply]
  unfold out
  refine Finset.sum_congr rfl fun k _ => ?_
  rw [iblk0_apply, iblk1_apply _ _ _ _ _ (by show 8 * (Value.pt2Of i / 8) < 72; rw [hpt]; omega)]
  congr 1
  · congr 1
    funext a
    match a with
    | ⟨0, _⟩ => exact Fin.ext (by show Value.pt2Of i % 8 * 1024 + (i 0).val % 1024 = (i 0).val; rw [hpt]; omega)
    | ⟨1, _⟩ => rfl
  · congr 1
    funext a
    match a with
    | ⟨0, _⟩ => rfl
    | ⟨1, _⟩ => rfl
    | ⟨2, _⟩ => exact Fin.ext (by
        show 1024 * (8 * (Value.pt2Of i / 8) / 8) + (if 8 * (Value.pt2Of i / 8) / 8 < 5 then 0 else 16) + (i 1).val % 1024
          = if (i 1).val < 5120 then (i 1).val else (i 1).val + 16
        rw [hpt]
        split <;> split <;> omega)

open Cert.Reference2Ideal.Read in
/-- The reference's result is the same function of its arguments. -/
theorem ref_eq (h : Vec Ideal S8192x2048 .bf16) (w : Vec Ideal S4x2048x9232 .f32) :
    (val_main_v6 (F := Ideal) h w : Vec Ideal S8192x9216 .f32) = out h w := by
  funext i
  have hi1 : (i 1).val < 9216 := (i 1).isLt
  have key : ∀ j : Cert.Reference2Ideal.S8192x9232.Idx, val_main_v3 (F := Ideal) h w j
      = ∑ k : Fin 2048, (h (ix2 (j 0) k) : EReal) * (w (ix3 1 k (j 1)) : EReal) := by
    intro j
    rw [val_main_v3_apply]
    refine Finset.sum_congr rfl fun k _ => ?_
    rw [val_main_v0_apply, val_main_v2_apply, val_main_v1_apply]
    have hk : k.val < 2048 := k.isLt
    have hj : (j 1).val < 9232 := (j 1).isLt
    congr 1
    · show h _ = h _
      congr 1
      funext a
      match a with
      | ⟨0, _⟩ => rfl
      | ⟨1, _⟩ => rfl
    · congr 1
      funext a
      match a with
      | ⟨0, _⟩ => rfl
      | ⟨1, _⟩ => exact Fin.ext (by show (k.val * 9232 + (j 1).val) / 9232 % 2048 = k.val; omega)
      | ⟨2, _⟩ => exact Fin.ext (by show (k.val * 9232 + (j 1).val) % 9232 = (j 1).val; omega)
  unfold val_main_v6 out
  by_cases hlt : (i 1).val < 5120
  · rw [concatenate_pair_apply_left (s₁ := Cert.Reference2Ideal.S8192x5120) (1 : Fin 2) _ _ _ i rfl
      (ix2 (i 0) ⟨(i 1).val, hlt⟩) (fun b => by match b with | ⟨0, _⟩ => rfl | ⟨1, _⟩ => rfl)]
    rw [val_main_v4_apply, key]
    refine Finset.sum_congr rfl fun k _ => ?_
    have e : wcol (i 1) = ⟨(i 1).val, by omega⟩ := Fin.ext (if_pos hlt)
    rw [e]
    rfl
  · rw [concatenate_pair_apply_right (s₁ := Cert.Reference2Ideal.S8192x5120) (s₂ := Cert.Reference2Ideal.S8192x4096)
      (1 : Fin 2) _ _ _ i rfl rfl (ix2 (i 0) ⟨(i 1).val - 5120, by omega⟩)
      (fun b hb => by match b with | ⟨0, _⟩ => rfl | ⟨1, _⟩ => exact absurd rfl hb)
      (by show (i 1).val - 5120 + 5120 = (i 1).val; omega)]
    rw [val_main_v5_apply, key]
    refine Finset.sum_congr rfl fun k _ => ?_
    have e : wcol (i 1) = ⟨5136 + ((i 1).val - 5120), by omega⟩ := Fin.ext (by
      show (if (i 1).val < 5120 then (i 1).val else (i 1).val + 16) = _
      rw [if_neg hlt]; show (i 1).val + 16 = 5136 + ((i 1).val - 5120); omega)
    rw [e]
    rfl

end Cert.Kernel2Ideal.InProj

end
-- ==== Proof.Common.lean ====
/-
  What the calls' proofs share: offsets that are all zero, an index of a matrix by its two coordinates, and the
  normalisation of one row.
-/
module

public import Idealize.ShloMosaic.Lib.Pointwise

@[expose] public section

noncomputable section

namespace Cert.Common

open Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

/-- An index of a matrix is its two coordinates. -/
theorem exists_ix2 {a b : ℕ} (i : Shape.Idx ⟨2, ![a, b]⟩) : ∃ (r : Fin a) (l : Fin b), i = ix2 r l :=
  ⟨i 0, i 1, by funext d; match d with | ⟨0, _⟩ => rfl | ⟨1, _⟩ => rfl⟩

/-- A row divided by its root mean square (the mean of the squares plus a small constant), then scaled. -/
def rms (v w : Fin 2048 → EReal) (l : Fin 2048) : EReal :=
  v l * Ideal.rsqrt (Ideal.div (∑ k, v k * v k) (Ideal.ofBits .f32 0x45000000#32) + Ideal.ofBits .f32 0x358637BD#32) * w l

/-- A sum of real numbers, taken among the extended ones. -/
theorem coe_sum {ι : Type} (s : Finset ι) (f : ι → ℝ) : ((∑ k ∈ s, f k : ℝ) : EReal) = ∑ k ∈ s, ((f k : ℝ) : EReal) := by
  classical
  induction s using Finset.induction_on with
  | empty => simp
  | insert a s h ih => rw [Finset.sum_insert h, Finset.sum_insert h, EReal.coe_add, ih]

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

/-- A number whose absolute value compares below infinity is real. -/
theorem real_of_olt {x y : EReal} (hy : y = ⊤) (h : Ideal.cmp .olt (max x (-x)) y = 1#1) : ∃ r : ℝ, x = (r : EReal) := by
  subst hy
  induction x with
  | bot => simp [Ideal.cmp] at h
  | coe r => exact ⟨r, rfl⟩
  | top => simp [Ideal.cmp] at h

end Cert.Common

end
-- ==== Proof.FfnUp.lean ====
/-
  The up projection with its causal convolution and the gated activation. The first row block of a column block casts
  the two halves of the weight into scratch; every row block multiplies by them, and the last rows of the one before,
  kept in scratch, are what the convolution reaches back to. The call also casts the down projection's weight, a slab
  a point.
-/
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Common

@[expose] public section

noncomputable section

namespace Cert.Kernel3Ideal.FfnUp

open Cert.Common Cert.Kernel3Ideal Cert.Kernel3Ideal.Gen Idealize.ShloMosaic Idealize.ShloMosaic.TcCoe Idealize.SL.Sem

section AnyFloat

variable {F : FTy → Type} [FloatOps F]
variable (m : (ℓ : Loc nD τ sig) → Buf (Elt F) ℓ)

/-- The cast weight: its two halves side by side. -/
def weight (wa wv : Vec F S1x2048x512 .f32) : Vec F S2048x1024 .bf16 :=
  View.canon [⟨Rect.unit (s := S2048x1024) ![0, 512] S2048x512.size inb_S2048x1024_S2048x512_0_512, k0_pay5 wv⟩,
    ⟨Rect.unit (s := S2048x1024) ![0, 0] S2048x512.size inb_S2048x1024_S2048x512_0_0, k0_pay4 wa⟩]

/-- The activations a point writes. -/
def act (h : Vec F S1024x2048 .bf16) (w : Vec F S2048x1024 .bf16) (ca cv : Vec F S3x512 .f32) (prev : Vec F S8x1024 .f32) :
    Vec F S1024x512 .bf16 :=
  k0_pay1 (k0_pay8 ca cv) prev (iota .tc S8x1024 32 [0] iota_S8x1024_d0_w32) (k0_pay9 h w ca cv prev) (k0_pay10 h w) 2#32

/-- What a point leaves, from its blocks, the cast weight and the last rows of the block before. -/
def leaves (c : Dev nD) (t : Fin cfg0.N) (w : Vec F S2048x1024 .bf16) (prev : Vec F S8x1024 .f32) :
    Vec F S1024x512 .bf16 × Vec F S64x2048 .bf16 × Vec F S8x1024 .f32 × Vec F S2048x1024 .bf16 :=
  (act (iblk m c 0 t) w (iblk m c 3 t) (iblk m c 4 t) prev, k0_pay6 (iblk m c 5 t), k0_pay2 (k0_pay7 (iblk m c 0 t) w), w)

/-- What the scratch reads after the two halves are stored. -/
theorem weight_read (wa wv : Vec F S1x2048x512 .f32) :
    (View.whole cc0_scratch1).readCov
      [⟨Rect.unit (s := S2048x1024) ![0, 512] S2048x512.size inb_S2048x1024_S2048x512_0_512, k0_pay5 wv⟩,
        ⟨Rect.unit (s := S2048x1024) ![0, 0] S2048x512.size inb_S2048x1024_S2048x512_0_0, k0_pay4 wa⟩]
      (Rect.unit (s := S2048x1024) ![0, 0] S2048x1024.size inb_S2048x1024_S2048x1024_0_0).toLoadRect = weight wa wv := by
  rw [View.readCov_eq_canon']
  exact View.ld_unit_zero (S := S2048x1024) hz2 _ (weight wa wv)

/-- The first row block of a column block: nothing precedes it. -/
theorem point_A (c : Dev nD) (t : Fin cfg0.N) (h0 : t.val % 8 = 0) : outsAt0 m c t.val t.isLt
    = leaves m c t (weight (iblk m c 1 t) (iblk m c 2 t)) k0_pay3 := by
  rw [outsAt0_A m c t h0]
  unfold leaves
  simp only [Prod.mk.injEq]
  refine ⟨?_, ?_, ?_, ?_⟩
  · unfold out0_A_6
    refine (View.read_writes_eq_canon (Val := Elt F) _ _ _ fun y => cover0_A_6 (y := y) ..).trans ?_
    unfold kernelRun0_A
    dsimp only
    sl_unfold_words
    rw [View.canon_unit_zero hz2]
    simp only [View.readCov_unit_zero (S := S8x1024) _ hz2, View.readAt_eq_ld, (hs0_0 t).read_unread, (hs0_1 t).read_unread,
      (hs0_2 t).read_unread, (hs0_3 t).read_unread, (hs0_4 t).read_unread, (hs0_5 t).read_unread,
      View.ld_unit_zero (S := S1x2048x512) hz3,
      View.ld_unit_zero (S := S1024x2048) hz2, View.ld_unit_zero (S := S3x512) hz2]
    exact congrArg (fun w => act (iblk m c 0 t) w (iblk m c 3 t) (iblk m c 4 t) k0_pay3)
      (weight_read (iblk m c 1 t) (iblk m c 2 t))
  · unfold out0_A_7
    refine (View.read_writes_eq_canon (Val := Elt F) _ _ _ fun y => cover0_A_7 (y := y) ..).trans ?_
    unfold kernelRun0_A
    dsimp only
    sl_unfold_words
    rw [View.canon_unit_zero hz2]
    simp only [View.readAt_eq_ld, (hs0_5 t).read_unread, View.ld_unit_zero (S := S1x64x2048) hz3]
  · unfold sout0_A_0
    refine (View.read_writes_eq_canon (Val := Elt F) _ _ _ fun y => scover0_A_0 (y := y) ..).trans ?_
    unfold kernelRun0_A
    dsimp only
    sl_unfold_words
    rw [View.canon_cons_unit_zero hz2]
    simp only [View.readCov_unit_zero (S := S8x1024) _ hz2, View.readAt_eq_ld, (hs0_0 t).read_unread, (hs0_1 t).read_unread,
      (hs0_2 t).read_unread, (hs0_3 t).read_unread, (hs0_4 t).read_unread, (hs0_5 t).read_unread,
      View.ld_unit_zero (S := S1x2048x512) hz3,
      View.ld_unit_zero (S := S1024x2048) hz2, View.ld_unit_zero (S := S3x512) hz2]
    exact congrArg (fun w => k0_pay2 (k0_pay7 (iblk m c 0 t) w)) (weight_read (iblk m c 1 t) (iblk m c 2 t))
  · unfold sout0_A_1
    refine (View.read_writes_eq_canon (Val := Elt F) _ _ _ fun y => scover0_A_1 (y := y) ..).trans ?_
    unfold kernelRun0_A
    dsimp only
    sl_unfold_words
    simp only [View.readAt_eq_ld, (hs0_1 t).read_unread, (hs0_2 t).read_unread, View.ld_unit_zero (S := S1x2048x512) hz3]
    rfl

/-- The other row blocks use the weight and the rows they find. -/
theorem point_B (c : Dev nD) (n : ℕ) (h : n + 1 < cfg0.N) (h0 : ¬(n + 1) % 8 = 0) : outsAt0 m c (n + 1) h
    = leaves m c ⟨n + 1, h⟩ (outsAt0 m c n (Nat.lt_of_succ_lt h)).2.2.2 (outsAt0 m c n (Nat.lt_of_succ_lt h)).2.2.1 := by
  rw [outsAt0_B m c ⟨n + 1, h⟩ h0]
  unfold leaves
  refine Prod.ext ?_ (Prod.ext ?_ (Prod.ext ?_ rfl))
  · dsimp only
    unfold out0_B_6
    refine (View.read_writes_eq_canon (Val := Elt F) _ _ _ fun y => cover0_B_6 (y := y) ..).trans ?_
    unfold kernelRun0_B
    dsimp only
    sl_unfold_words
    rw [View.canon_unit_zero hz2]
    simp only [View.readAt_eq_ld, (hs0_0 _).read_unread, (hs0_3 _).read_unread, (hs0_4 _).read_unread,
      (Memref.isWhole_whole _).read_unread, View.ld_unit_zero (S := S2048x1024) hz2, View.ld_unit_zero (S := S8x1024) hz2,
      View.ld_unit_zero (S := S1024x2048) hz2, View.ld_unit_zero (S := S3x512) hz2]
    rfl
  · dsimp only
    unfold out0_B_7
    refine (View.read_writes_eq_canon (Val := Elt F) _ _ _ fun y => cover0_B_7 (y := y) ..).trans ?_
    unfold kernelRun0_B
    dsimp only
    sl_unfold_words
    rw [View.canon_unit_zero hz2]
    simp only [View.readAt_eq_ld, (hs0_5 _).read_unread, View.ld_unit_zero (S := S1x64x2048) hz3]
  · dsimp only
    unfold sout0_B_0
    refine (View.read_writes_eq_canon (Val := Elt F) _ _ _ fun y => scover0_B_0 (y := y) ..).trans ?_
    unfold kernelRun0_B
    dsimp only
    sl_unfold_words
    rw [View.canon_unit_zero hz2]
    simp only [View.readAt_eq_ld, (hs0_0 _).read_unread, (hs0_3 _).read_unread, (hs0_4 _).read_unread,
      (Memref.isWhole_whole _).read_unread, View.ld_unit_zero (S := S2048x1024) hz2, View.ld_unit_zero (S := S8x1024) hz2,
      View.ld_unit_zero (S := S1024x2048) hz2, View.ld_unit_zero (S := S3x512) hz2]
    rfl

/-- The first point of a point's column block. -/
theorem first_lt {n : ℕ} (h : n < cfg0.N) : 8 * (n / 8) < cfg0.N := Nat.lt_of_le_of_lt (Nat.mul_div_le n 8) h

/-- The cast weight of the column block of point `n`. -/
def wts (c : Dev nD) (n : ℕ) (h : n < cfg0.N) : Vec F S2048x1024 .bf16 :=
  weight (iblk m c 1 ⟨8 * (n / 8), first_lt h⟩) (iblk m c 2 ⟨8 * (n / 8), first_lt h⟩)

/-- The rows before the block of point `n`: zeros for the first block, else the last rows of the block before. -/
def before (c : Dev nD) : (n : ℕ) → (h : n < cfg0.N) → Vec F S8x1024 .f32
  | 0, _ => k0_pay3
  | n + 1, h => if (n + 1) % 8 = 0 then k0_pay3
      else k0_pay2 (k0_pay7 (iblk m c 0 ⟨n, Nat.lt_of_succ_lt h⟩) (wts m c (n + 1) h))

theorem wts_of_first (c : Dev nD) (n : ℕ) (h : n < cfg0.N) (h0 : n % 8 = 0) :
    wts m c n h = weight (iblk m c 1 ⟨n, h⟩) (iblk m c 2 ⟨n, h⟩) := by
  have e : (⟨8 * (n / 8), first_lt h⟩ : Fin cfg0.N) = ⟨n, h⟩ := Fin.ext (by show 8 * (n / 8) = n; omega)
  exact congrArg (fun t => weight (iblk m c 1 t) (iblk m c 2 t)) e

theorem wts_succ (c : Dev nD) (n : ℕ) (h : n + 1 < cfg0.N) (h0 : ¬(n + 1) % 8 = 0) :
    wts m c (n + 1) h = wts m c n (Nat.lt_of_succ_lt h) := by
  have e : (⟨8 * ((n + 1) / 8), first_lt h⟩ : Fin cfg0.N) = ⟨8 * (n / 8), first_lt (Nat.lt_of_succ_lt h)⟩ :=
    Fin.ext (by show 8 * ((n + 1) / 8) = 8 * (n / 8); omega)
  exact congrArg (fun t => weight (iblk m c 1 t) (iblk m c 2 t)) e

/-- What every point leaves. -/
theorem outs_eq (c : Dev nD) : ∀ (n : ℕ) (h : n < cfg0.N),
    outsAt0 m c n h = leaves m c ⟨n, h⟩ (wts m c n h) (before m c n h) := by
  intro n
  induction n with
  | zero => intro h; rw [wts_of_first m c 0 h rfl]; exact point_A m c ⟨0, h⟩ rfl
  | succ n ih =>
    intro h
    by_cases h0 : (n + 1) % 8 = 0
    · rw [wts_of_first m c (n + 1) h h0]
      simp only [before, if_pos h0]
      exact point_A m c ⟨n + 1, h⟩ h0
    · rw [point_B m c n h h0, ih (Nat.lt_of_succ_lt h)]
      simp only [leaves, before, if_neg h0, wts_succ m c n h h0]

end AnyFloat

/-! ## At the ideal instance -/

variable (m : (ℓ : Loc nD τ sig) → Buf (Elt Ideal) ℓ)

/-- The up projection; the layer's weight is member 1 of the stack. -/
def up (h : Vec Ideal S8192x2048 .bf16) (w : Vec Ideal S4x2048x11264 .f32) (r : Fin 8192) (j : Fin 11264) : EReal :=
  ∑ k : Fin 2048, (h (ix2 r k) : EReal) * (w (ix3 1 k j) : EReal)

/-- The same `b` rows back, zero before the first row. -/
def back (h : Vec Ideal S8192x2048 .bf16) (w : Vec Ideal S4x2048x11264 .f32) (r : Fin 8192) (j : Fin 11264) (b : ℕ) : EReal :=
  if b ≤ r.val then up h w ⟨r.val - b, by omega⟩ j else 0

/-- The causal convolution over the rows. -/
def conv (h : Vec Ideal S8192x2048 .bf16) (w : Vec Ideal S4x2048x11264 .f32) (cw : Vec Ideal S4x3x11264 .f32) (r : Fin 8192)
    (j : Fin 11264) : EReal :=
  (cw (ix3 1 0 j) : EReal) * back h w r j 2 + (cw (ix3 1 1 j) : EReal) * back h w r j 1 + (cw (ix3 1 2 j) : EReal) * up h w r j

/-- A number times its logistic function, as the reference spells it, and as the kernel does. -/
def silu (x : EReal) : EReal := x * Ideal.div 1 (1 + Ideal.exp (-x))
def siluK (x : EReal) : EReal :=
  Ideal.ofBits .f32 0x3F000000#32 * x + Ideal.ofBits .f32 0x3F000000#32 * x * Ideal.tanh (Ideal.ofBits .f32 0x3F000000#32 * x)

theorem half_f32 : Ideal.ofBits .f32 0x3F000000#32 = (((1 : ℝ) / 2 : ℝ) : EReal) := by
  simp [Ideal.ofBits, Ideal.ieee, -EReal.coe_mul]; norm_num

/-- On a real number the two spellings agree. -/
theorem siluK_coe (x : ℝ) : siluK (x : EReal) = silu (x : EReal) := by
  unfold siluK silu
  rw [half_f32, ← EReal.coe_mul, ← EReal.coe_neg, Ideal.tanh_coe, Ideal.exp_coe]
  have hpos : (0 : ℝ) < 1 + Real.exp (-x) := by positivity
  have hne : ((1 : EReal) + (Real.exp (-x) : EReal)) = ((1 + Real.exp (-x) : ℝ) : EReal) := by norm_cast
  rw [hne]
  unfold Ideal.div
  rw [if_neg (by exact_mod_cast hpos.ne'), one_mul, ← EReal.coe_inv, ← EReal.coe_mul, ← EReal.coe_mul, ← EReal.coe_add]
  congr 1
  have ht : Real.tanh (1 / 2 * x) = (1 - Real.exp (-x)) / (1 + Real.exp (-x)) := by
    rw [Real.tanh_eq_sinh_div_cosh, Real.sinh_eq, Real.cosh_eq]
    have he : Real.exp (-x) = Real.exp (-(1 / 2 * x)) * Real.exp (-(1 / 2 * x)) := by rw [← Real.exp_add]; ring_nf
    have hi : Real.exp (1 / 2 * x) * Real.exp (-(1 / 2 * x)) = 1 := by rw [← Real.exp_add]; simp
    have h1 := Real.exp_pos (1 / 2 * x)
    have h2 := Real.exp_pos (-(1 / 2 * x))
    rw [he]
    generalize Real.exp (1 / 2 * x) = p at *
    generalize Real.exp (-(1 / 2 * x)) = q at *
    rw [div_div_div_cancel_right₀ two_ne_zero, div_eq_div_iff (by positivity) (by positivity)]
    linear_combination (2 * q) * hi
  rw [ht]
  field_simp
  ring

/-- An entry of the gated activation: activation half, then value half. -/
def gated (h : Vec Ideal S8192x2048 .bf16) (w : Vec Ideal S4x2048x11264 .f32) (cw : Vec Ideal S4x3x11264 .f32)
    (f : EReal → EReal) (r : Fin 8192) (l : Fin 5632) : EReal :=
  f (conv h w cw r ⟨l.val, by omega⟩) * conv h w cw r ⟨5632 + l.val, by omega⟩

/-- The two results, entry by entry. -/
def out1 (h : Vec Ideal S8192x2048 .bf16) (w : Vec Ideal S4x2048x11264 .f32) (cw : Vec Ideal S4x3x11264 .f32) :
    Vec Ideal S8192x5632 .bf16 := fun i => gated h w cw silu (i 0) (i 1)
def out1K (h : Vec Ideal S8192x2048 .bf16) (w : Vec Ideal S4x2048x11264 .f32) (cw : Vec Ideal S4x3x11264 .f32) :
    Vec Ideal S8192x5632 .bf16 := fun i => gated h w cw siluK (i 0) (i 1)
def out2 (wd : Vec Ideal S4x5632x2048 .f32) : Vec Ideal S5632x2048 .bf16 := fun i => wd (ix3 1 (i 0) (i 1))

/-! ### One point's block -/

theorem pay7_apply (h : Vec Ideal S1024x2048 .bf16) (w : Vec Ideal S2048x1024 .bf16) (r : Fin 1024) (l : Fin 1024) :
    (k0_pay7 (F := Ideal) h w : Vec Ideal S1024x1024 .f32) (ix2 r l) = ∑ k : Fin 2048, (h (ix2 r k) : EReal) * (w (ix2 k l) : EReal) := by
  pointwise [k0_pay7]

theorem pay8_apply (ca cv : Vec Ideal S3x512 .f32) (r : Fin 3) (l : Fin 1024) :
    (k0_pay8 (F := Ideal) ca cv : Vec Ideal S3x1024 .f32) (ix2 r l)
      = if h : l.val < 512 then ca (ix2 r ⟨l.val, h⟩) else cv (ix2 r ⟨l.val - 512, by omega⟩) := by
  pointwise [k0_pay8]

theorem weight_apply (wa wv : Vec Ideal S1x2048x512 .f32) (k : Fin 2048) (l : Fin 1024) :
    (weight (F := Ideal) wa wv : Vec Ideal S2048x1024 .bf16) (ix2 k l)
      = if h : l.val < 512 then wa (ix3 0 k ⟨l.val, h⟩) else wv (ix3 0 k ⟨l.val - 512, by omega⟩) := by
  unfold weight
  by_cases hl : l.val < 512
  · rw [dif_pos hl, View.canon_cons_of_not_mem]
    · have e : (ix2 k l : S2048x1024.Idx)
          = (Rect.unit (s := S2048x1024) ![0, 0] S2048x512.size inb_S2048x1024_S2048x512_0_0).emb (ix2 k ⟨l.val, hl⟩ : S2048x512.Idx) := by
        funext a
        apply Fin.ext
        match a with
        | ⟨0, _⟩ => show k.val = 0 + 1 * k.val; omega
        | ⟨1, _⟩ => show l.val = 0 + 1 * l.val; omega
      rw [e, View.canon_cons_emb]
      pointwise [k0_pay4]
    · rw [Rect.mem_set_unit]
      intro h
      have h1 : 512 ≤ l.val := (h 1).1
      omega
  · rw [dif_neg hl]
    have e : (ix2 k l : S2048x1024.Idx)
        = (Rect.unit (s := S2048x1024) ![0, 512] S2048x512.size inb_S2048x1024_S2048x512_0_512).emb
            (ix2 k ⟨l.val - 512, by omega⟩ : S2048x512.Idx) := by
      funext a
      apply Fin.ext
      match a with
      | ⟨0, _⟩ => show k.val = 0 + 1 * k.val; omega
      | ⟨1, _⟩ => show l.val = 512 + 1 * (l.val - 512); omega
    rw [e, View.canon_cons_emb]
    pointwise [k0_pay5]

/-- The rows `b` back within a block, reaching into the rows before it. -/
def shifted (u : Fin 1024 → EReal) (p : Fin 8 → EReal) (b : ℕ) (hb : b < 8) (r : Fin 1024) : EReal :=
  if h : b ≤ r.val then u ⟨r.val - b, by omega⟩ else p ⟨r.val + 8 - b, by omega⟩

theorem slt_small (r b : ℕ) (hr : r < 8) (hb : b < 8) :
    IntOp.cmpi CmpIPredicate.slt (BitVec.ofNat 32 r) (BitVec.ofNat 32 b) = if r < b then 1#1 else 0#1 := by
  interval_cases r <;> interval_cases b <;> rfl

theorem pay9_apply (h : Vec Ideal S1024x2048 .bf16) (w : Vec Ideal S2048x1024 .bf16) (ca cv : Vec Ideal S3x512 .f32)
    (prev : Vec Ideal S8x1024 .f32) (r : Fin 1024) (l : Fin 1024) :
    (k0_pay9 (F := Ideal) h w ca cv prev : Vec Ideal S1024x1024 .f32) (ix2 r l)
      = ((k0_pay8 (F := Ideal) ca cv : Vec Ideal S3x1024 .f32) (ix2 2 l) : EReal) * ((k0_pay7 (F := Ideal) h w : Vec Ideal S1024x1024 .f32) (ix2 r l) : EReal)
        + ((k0_pay8 (F := Ideal) ca cv : Vec Ideal S3x1024 .f32) (ix2 1 l) : EReal)
          * shifted (fun r => ((k0_pay7 (F := Ideal) h w : Vec Ideal S1024x1024 .f32) (ix2 r l) : EReal)) (fun r => (prev (ix2 r l) : EReal)) 1 (by decide) r := by
  unfold k0_pay9
  generalize k0_pay7 (F := Ideal) h w = u
  generalize k0_pay8 (F := Ideal) ca cv = cw
  pointwise
  congr 2
  unfold shifted
  by_cases h8 : r.val < 8
  · rw [dif_pos h8, slt_small r.val 1 h8 (by decide)]
    by_cases hb : 1 ≤ r.val
    · rw [dif_pos hb, if_neg (by omega)]
      exact congrArg (fun q => u (ix2 q l)) (Fin.ext (by show (r.val + 1024 - 1) % 1024 = r.val - 1; omega))
    · rw [dif_neg hb, if_pos (by omega)]
      exact congrArg (fun q => prev (ix2 q l)) (Fin.ext (by show (r.val + 8 - 1) % 8 = r.val + 8 - 1; omega))
  · rw [dif_neg h8, dif_pos (by omega)]
    exact congrArg (fun q => u (ix2 q l)) (Fin.ext (by show (8 + (r.val - 8) + 1024 - 1) % 1024 = r.val - 1; omega))

/-- The convolution within a block. -/
def blockConv (u : Vec Ideal S1024x1024 .f32) (cw : Vec Ideal S3x1024 .f32) (prev : Vec Ideal S8x1024 .f32) (r : Fin 1024)
    (l : Fin 1024) : EReal :=
  (cw (ix2 2 l) : EReal) * (u (ix2 r l) : EReal)
    + (cw (ix2 1 l) : EReal) * shifted (fun r => (u (ix2 r l) : EReal)) (fun r => (prev (ix2 r l) : EReal)) 1 (by decide) r
    + (cw (ix2 0 l) : EReal) * shifted (fun r => (u (ix2 r l) : EReal)) (fun r => (prev (ix2 r l) : EReal)) 2 (by decide) r

/-- The third tap: the rotation by two rows, with the rows before in its first two rows. -/
theorem tap (u : Vec Ideal S1024x1024 .f32) (prev : Vec Ideal S8x1024 .f32) (r : Fin 1024) (l : Fin 1024)
    (h1 : ∀ r : Fin 1024, (r.val + 8 - 2) % 8 < 8) (h2 : ¬r.val < 8 → 8 + (r.val - 8) < 1024) :
    (if h : r.val < 8 then
        Scalar.select (IntOp.cmpi CmpIPredicate.slt (BitVec.ofNat 32 r.val) 2#32) (prev (ix2 ⟨(r.val + 8 - 2) % 8, h1 r⟩ l))
          ((dynamicRotate 0 2#32 none u rotates_S1024x1024_d0 : Vec Ideal S1024x1024 .f32) (ix2 r l))
      else (dynamicRotate 0 2#32 none u rotates_S1024x1024_d0 : Vec Ideal S1024x1024 .f32) (ix2 ⟨8 + (r.val - 8), h2 h⟩ l))
      = shifted (fun r => (u (ix2 r l) : EReal)) (fun r => (prev (ix2 r l) : EReal)) 2 (by decide) r := by
  unfold shifted
  pointwise
  by_cases h8 : r.val < 8
  · rw [dif_pos h8, slt_small r.val 2 h8 (by decide)]
    by_cases hb : 2 ≤ r.val
    · rw [dif_pos hb, if_neg (by omega)]
      exact congrArg (fun q => u (ix2 q l)) (Fin.ext (by show (r.val + 1024 - 2) % 1024 = r.val - 2; omega))
    · rw [dif_neg hb, if_pos (by omega)]
      exact congrArg (fun q => prev (ix2 q l)) (Fin.ext (by show (r.val + 8 - 2) % 8 = r.val + 8 - 2; omega))
  · rw [dif_neg h8, dif_pos (by omega)]
    exact congrArg (fun q => u (ix2 q l)) (Fin.ext (by show (8 + (r.val - 8) + 1024 - 2) % 1024 = r.val - 2; omega))

theorem act_apply (h : Vec Ideal S1024x2048 .bf16) (w : Vec Ideal S2048x1024 .bf16) (ca cv : Vec Ideal S3x512 .f32)
    (prev : Vec Ideal S8x1024 .f32) (r : Fin 1024) (l : Fin 512) :
    (act (F := Ideal) h w ca cv prev : Vec Ideal S1024x512 .bf16) (ix2 r l)
      = siluK (blockConv (k0_pay7 (F := Ideal) h w) (k0_pay8 (F := Ideal) ca cv) prev r ⟨l.val, by omega⟩)
        * blockConv (k0_pay7 (F := Ideal) h w) (k0_pay8 (F := Ideal) ca cv) prev r ⟨512 + l.val, by omega⟩ := by
  unfold act k0_pay10
  generalize hb : (dynamicRotate 0 2#32 none (k0_pay7 (F := Ideal) h w) rotates_S1024x1024_d0 : Vec Ideal S1024x1024 .f32) = b
  have ht : ∀ l, _ := fun l => tap (k0_pay7 (F := Ideal) h w) prev r l (fun r => Nat.mod_lt _ (by decide)) (fun _ => by omega)
  rw [hb] at ht
  pointwise [k0_pay1]
  refine (congrArg₂ (fun p q => siluK ((k0_pay9 (F := Ideal) h w ca cv prev : Vec Ideal S1024x1024 .f32) (ix2 r ⟨l.val, by omega⟩)
      + (k0_pay8 (F := Ideal) ca cv : Vec Ideal S3x1024 .f32) (ix2 0 ⟨l.val, by omega⟩) * p)
    * ((k0_pay9 (F := Ideal) h w ca cv prev : Vec Ideal S1024x1024 .f32) (ix2 r ⟨512 + l.val, by omega⟩)
      + (k0_pay8 (F := Ideal) ca cv : Vec Ideal S3x1024 .f32) (ix2 0 ⟨512 + l.val, by omega⟩) * q))
    (ht ⟨l.val, by omega⟩) (ht ⟨512 + l.val, by omega⟩)).trans ?_
  unfold blockConv
  simp only [pay9_apply]

/-- Where the windows begin. -/
theorem idx0 : ∀ t : Fin cfg0.N, win0_0.index t (0 : Fin 2) = t.val % 8 ∧ win0_0.index t (1 : Fin 2) = 0
    ∧ win0_1.index t (0 : Fin 3) = 1 ∧ win0_1.index t (1 : Fin 3) = 0 ∧ win0_1.index t (2 : Fin 3) = t.val / 8
    ∧ win0_2.index t (0 : Fin 3) = 1 ∧ win0_2.index t (1 : Fin 3) = 0 ∧ win0_2.index t (2 : Fin 3) = t.val / 8 + 11
    ∧ win0_3.index t (0 : Fin 2) = 0 ∧ win0_3.index t (1 : Fin 2) = t.val / 8
    ∧ win0_4.index t (0 : Fin 2) = 0 ∧ win0_4.index t (1 : Fin 2) = t.val / 8 + 11
    ∧ win0_5.index t (0 : Fin 3) = 1 ∧ win0_5.index t (1 : Fin 3) = t.val ∧ win0_5.index t (2 : Fin 3) = 0 :=
  (by decide +kernel : ∀ t : Fin grid0.N, _)

/-- The convolution's weights as the region finds them. -/
theorem V_cw (c : Dev nD) : V m c main_v1
    = shapeCast S3x11264 (extractStridedSlice S1x3x11264 ![1, 0, 0] (m ((c : Thread nD τ).loc main_arg2))
        slices_S4x3x11264_S1x3x11264_1_0_0) shapeCasts_S1x3x11264_S3x11264 := by
  show StableHlo.after hostOps0 (fun b => m (c, b)) (Proc.devRef .tc main_v1) = _
  simp only [hostOps0]
  after_results <;> rfl

/-- Member 1 of the stack of convolution weights. -/
theorem cw_apply (v : Vec Ideal S4x3x11264 .f32) (r : Fin 3) (l : Fin 11264) :
    (shapeCast S3x11264 (extractStridedSlice S1x3x11264 ![1, 0, 0] v slices_S4x3x11264_S1x3x11264_1_0_0)
      shapeCasts_S1x3x11264_S3x11264 : Vec Ideal S3x11264 .f32) (ix2 r l) = v (ix3 1 r l) := by
  pointwise

theorem iblk0_apply (c : Dev nD) (t : Fin cfg0.N) (r : Fin 1024) (k : Fin 2048) :
    (iblk m c 0 t : Vec Ideal S1024x2048 .bf16) (ix2 r k) = (m ((c : Thread nD τ).loc main_arg0) : Vec Ideal S8192x2048 .bf16)
      (ix2 ⟨t.val % 8 * 1024 + r.val, by omega⟩ k) := by
  unfold iblk
  rw [View.read_apply]
  show V m c main_arg0 _ = _
  rw [V_main_arg0]
  congr 1
  obtain ⟨e0, e1, -⟩ := idx0 t
  funext a
  apply Fin.ext
  match a with
  | ⟨0, _⟩ => show win0_0.index t 0 * 1024 + 1 * r.val = t.val % 8 * 1024 + r.val; rw [e0]; omega
  | ⟨1, _⟩ => show win0_0.index t 1 * 2048 + 1 * k.val = k.val; rw [e1]; omega

theorem iblk1_apply (c : Dev nD) (t : Fin cfg0.N) (ht : t.val < 88) (k : Fin 2048) (l : Fin 512) :
    (iblk m c 1 t : Vec Ideal S1x2048x512 .f32) (ix3 0 k l)
      = (m ((c : Thread nD τ).loc main_arg1) : Vec Ideal S4x2048x11264 .f32) (ix3 1 k ⟨t.val / 8 * 512 + l.val, by omega⟩) := by
  unfold iblk
  rw [View.read_apply]
  show V m c main_arg1 _ = _
  rw [V_main_arg1]
  congr 1
  obtain ⟨-, -, e0, e1, e2, -⟩ := idx0 t
  funext a
  apply Fin.ext
  match a with
  | ⟨0, _⟩ => show win0_1.index t 0 * 1 + 1 * 0 = 1; rw [e0]
  | ⟨1, _⟩ => show win0_1.index t 1 * 2048 + 1 * k.val = k.val; rw [e1]; omega
  | ⟨2, _⟩ => show win0_1.index t 2 * 512 + 1 * l.val = t.val / 8 * 512 + l.val; rw [e2]; omega

theorem iblk2_apply (c : Dev nD) (t : Fin cfg0.N) (ht : t.val < 88) (k : Fin 2048) (l : Fin 512) :
    (iblk m c 2 t : Vec Ideal S1x2048x512 .f32) (ix3 0 k l)
      = (m ((c : Thread nD τ).loc main_arg1) : Vec Ideal S4x2048x11264 .f32) (ix3 1 k ⟨5632 + t.val / 8 * 512 + l.val, by omega⟩) := by
  unfold iblk
  rw [View.read_apply]
  show V m c main_arg1 _ = _
  rw [V_main_arg1]
  congr 1
  obtain ⟨-, -, -, -, -, e0, e1, e2, -⟩ := idx0 t
  funext a
  apply Fin.ext
  match a with
  | ⟨0, _⟩ => show win0_2.index t 0 * 1 + 1 * 0 = 1; rw [e0]
  | ⟨1, _⟩ => show win0_2.index t 1 * 2048 + 1 * k.val = k.val; rw [e1]; omega
  | ⟨2, _⟩ => show win0_2.index t 2 * 512 + 1 * l.val = 5632 + t.val / 8 * 512 + l.val; rw [e2]; omega

theorem iblk3_apply (c : Dev nD) (t : Fin cfg0.N) (ht : t.val < 88) (r : Fin 3) (l : Fin 512) :
    (iblk m c 3 t : Vec Ideal S3x512 .f32) (ix2 r l)
      = (m ((c : Thread nD τ).loc main_arg2) : Vec Ideal S4x3x11264 .f32) (ix3 1 r ⟨t.val / 8 * 512 + l.val, by omega⟩) := by
  unfold iblk
  rw [View.read_apply]
  show V m c main_v1 _ = _
  rw [V_cw]
  have hj : ((cfg0.win 3).blk t).view.emb (ix2 r l : S3x512.Idx) = (ix2 r ⟨t.val / 8 * 512 + l.val, by omega⟩ : S3x11264.Idx) := by
    obtain ⟨-, -, -, -, -, -, -, -, e0, e1, -⟩ := idx0 t
    funext a
    apply Fin.ext
    match a with
    | ⟨0, _⟩ => show win0_3.index t 0 * 3 + 1 * r.val = r.val; rw [e0]; omega
    | ⟨1, _⟩ => show win0_3.index t 1 * 512 + 1 * l.val = t.val / 8 * 512 + l.val; rw [e1]; omega
  rw [hj]
  exact cw_apply _ r _

theorem iblk4_apply (c : Dev nD) (t : Fin cfg0.N) (ht : t.val < 88) (r : Fin 3) (l : Fin 512) :
    (iblk m c 4 t : Vec Ideal S3x512 .f32) (ix2 r l)
      = (m ((c : Thread nD τ).loc main_arg2) : Vec Ideal S4x3x11264 .f32) (ix3 1 r ⟨5632 + t.val / 8 * 512 + l.val, by omega⟩) := by
  unfold iblk
  rw [View.read_apply]
  show V m c main_v1 _ = _
  rw [V_cw]
  have hj : ((cfg0.win 4).blk t).view.emb (ix2 r l : S3x512.Idx)
      = (ix2 r ⟨5632 + t.val / 8 * 512 + l.val, by omega⟩ : S3x11264.Idx) := by
    obtain ⟨-, -, -, -, -, -, -, -, -, -, e0, e1, -⟩ := idx0 t
    funext a
    apply Fin.ext
    match a with
    | ⟨0, _⟩ => show win0_4.index t 0 * 3 + 1 * r.val = r.val; rw [e0]; omega
    | ⟨1, _⟩ => show win0_4.index t 1 * 512 + 1 * l.val = 5632 + t.val / 8 * 512 + l.val; rw [e1]; omega
  rw [hj]
  exact cw_apply _ r _

theorem iblk5_apply (c : Dev nD) (t : Fin cfg0.N) (ht : t.val < 88) (r : Fin 64) (l : Fin 2048) :
    (iblk m c 5 t : Vec Ideal S1x64x2048 .f32) (ix3 0 r l)
      = (m ((c : Thread nD τ).loc main_arg3) : Vec Ideal S4x5632x2048 .f32) (ix3 1 ⟨t.val * 64 + r.val, by omega⟩ l) := by
  unfold iblk
  rw [View.read_apply]
  show V m c main_arg3 _ = _
  rw [V_main_arg3]
  congr 1
  obtain ⟨-, -, -, -, -, -, -, -, -, -, -, -, e0, e1, e2⟩ := idx0 t
  funext a
  apply Fin.ext
  match a with
  | ⟨0, _⟩ => show win0_5.index t 0 * 1 + 1 * 0 = 1; rw [e0]
  | ⟨1, _⟩ => show win0_5.index t 1 * 64 + 1 * r.val = t.val * 64 + r.val; rw [e1]; omega
  | ⟨2, _⟩ => show win0_5.index t 2 * 2048 + 1 * l.val = l.val; rw [e2]; omega

/-! ### A point's block in the arrays -/

/-- The column of the arrays that column `l` of a block of column block `n` is: the activation half first. -/
def col (n : ℕ) (hn : n < 11) (l : Fin 1024) : Fin 11264 :=
  if h : l.val < 512 then ⟨n * 512 + l.val, by omega⟩ else ⟨5632 + n * 512 + (l.val - 512), by omega⟩

theorem wts_apply (c : Dev nD) (n : ℕ) (h : n < cfg0.N) (hn : n / 8 < 11) (k : Fin 2048) (l : Fin 1024) :
    (wts m c n h : Vec Ideal S2048x1024 .bf16) (ix2 k l)
      = (m ((c : Thread nD τ).loc main_arg1) : Vec Ideal S4x2048x11264 .f32) (ix3 1 k (col (n / 8) hn l)) := by
  have e : 8 * (n / 8) / 8 = n / 8 := Nat.mul_div_cancel_left _ (by decide)
  unfold wts col
  rw [weight_apply]
  split
  · rw [iblk1_apply m c _ (by show 8 * (n / 8) < 88; omega)]
    congr 2; exact Fin.ext (by show 8 * (n / 8) / 8 * 512 + _ = _; rw [e])
  · rw [iblk2_apply m c _ (by show 8 * (n / 8) < 88; omega)]
    congr 2; exact Fin.ext (by show 5632 + 8 * (n / 8) / 8 * 512 + _ = _; rw [e])

theorem taps_apply (c : Dev nD) (t : Fin cfg0.N) (ht : t.val < 88) (r : Fin 3) (l : Fin 1024) :
    (k0_pay8 (F := Ideal) (iblk m c 3 t) (iblk m c 4 t) : Vec Ideal S3x1024 .f32) (ix2 r l)
      = (m ((c : Thread nD τ).loc main_arg2) : Vec Ideal S4x3x11264 .f32) (ix3 1 r (col (t.val / 8) (by omega) l)) := by
  unfold col
  rw [pay8_apply]
  split
  · rw [iblk3_apply m c t ht]
  · rw [iblk4_apply m c t ht]

theorem up_apply (c : Dev nD) (t : Fin cfg0.N) (n : ℕ) (hn : n < cfg0.N) (hn' : n / 8 < 11) (r : Fin 1024) (l : Fin 1024) :
    (k0_pay7 (F := Ideal) (iblk m c 0 t) (wts m c n hn) : Vec Ideal S1024x1024 .f32) (ix2 r l)
      = up (m ((c : Thread nD τ).loc main_arg0)) (m ((c : Thread nD τ).loc main_arg1)) ⟨t.val % 8 * 1024 + r.val, by omega⟩
          (col (n / 8) hn' l) := by
  rw [pay7_apply]
  simp only [iblk0_apply, wts_apply m c n hn hn']
  rfl

theorem pay2_apply (u : Vec Ideal S1024x1024 .f32) (p : Fin 8) (l : Fin 1024) :
    (k0_pay2 (F := Ideal) u : Vec Ideal S8x1024 .f32) (ix2 p l) = u (ix2 ⟨1016 + p.val, by omega⟩ l) := by
  pointwise [k0_pay2]

theorem pay3_apply (p : Fin 8) (l : Fin 1024) : (k0_pay3 (F := Ideal) : Vec Ideal S8x1024 .f32) (ix2 p l) = (0 : EReal) := by
  pointwise [k0_pay3]

/-- What precedes a block, row by row: nothing before the first row, else the rows just above it. -/
theorem before_apply (c : Dev nD) (n : ℕ) (hn : n < cfg0.N) (hn' : n / 8 < 11) (p : Fin 8) (l : Fin 1024) :
    (before m c n hn : Vec Ideal S8x1024 .f32) (ix2 p l) = if h : 8 ≤ n % 8 * 1024 + p.val then
      up (m ((c : Thread nD τ).loc main_arg0)) (m ((c : Thread nD τ).loc main_arg1)) ⟨n % 8 * 1024 + p.val - 8, by omega⟩
          (col (n / 8) hn' l) else 0 := by
  have hz : n % 8 = 0 → ¬8 ≤ n % 8 * 1024 + p.val := by omega
  match n, hn with
  | 0, _ => rw [dif_neg (hz rfl)]; exact pay3_apply p l
  | n + 1, hn =>
    by_cases h0 : (n + 1) % 8 = 0
    · rw [dif_neg (hz h0)]
      simp only [before, if_pos h0]
      exact pay3_apply p l
    · rw [dif_pos (by omega)]
      simp only [before, if_neg h0]
      rw [pay2_apply, up_apply m c ⟨n, _⟩ (n + 1) hn hn']
      congr 1
      exact Fin.ext (by show n % 8 * 1024 + (1016 + p.val) = (n + 1) % 8 * 1024 + p.val - 8; omega)

/-- The rows a block's convolution reaches back to are the array's rows. -/
theorem shifted_apply (c : Dev nD) (t : Fin cfg0.N) (hn : t.val / 8 < 11) (r : Fin 1024) (l : Fin 1024) (b : ℕ) (hb : b < 8) :
    shifted (fun r => ((k0_pay7 (F := Ideal) (iblk m c 0 t) (wts m c t.val t.isLt) : Vec Ideal S1024x1024 .f32) (ix2 r l) : EReal))
        (fun p => ((before m c t.val t.isLt : Vec Ideal S8x1024 .f32) (ix2 p l) : EReal)) b hb r
      = back (m ((c : Thread nD τ).loc main_arg0)) (m ((c : Thread nD τ).loc main_arg1)) ⟨t.val % 8 * 1024 + r.val, by omega⟩
          (col (t.val / 8) hn l) b := by
  unfold shifted back
  by_cases h : b ≤ r.val
  · rw [dif_pos h, if_pos (by show b ≤ t.val % 8 * 1024 + r.val; omega)]
    refine (up_apply m c t t.val t.isLt hn _ l).trans ?_
    congr 1
    exact Fin.ext (by show t.val % 8 * 1024 + (r.val - b) = t.val % 8 * 1024 + r.val - b; omega)
  · rw [dif_neg h]
    refine (before_apply m c t.val t.isLt hn _ l).trans ?_
    by_cases h0 : t.val % 8 = 0
    · rw [dif_neg (by show ¬8 ≤ t.val % 8 * 1024 + (r.val + 8 - b); omega),
        if_neg (by show ¬b ≤ t.val % 8 * 1024 + r.val; omega)]
    · rw [dif_pos (by show 8 ≤ t.val % 8 * 1024 + (r.val + 8 - b); omega),
        if_pos (by show b ≤ t.val % 8 * 1024 + r.val; omega)]
      congr 1
      exact Fin.ext (by show t.val % 8 * 1024 + (r.val + 8 - b) - 8 = t.val % 8 * 1024 + r.val - b; omega)

theorem blockConv_apply (c : Dev nD) (t : Fin cfg0.N) (ht : t.val < 88) (r : Fin 1024) (l : Fin 1024) :
    blockConv (k0_pay7 (F := Ideal) (iblk m c 0 t) (wts m c t.val t.isLt)) (k0_pay8 (F := Ideal) (iblk m c 3 t) (iblk m c 4 t))
        (before m c t.val t.isLt) r l
      = conv (m ((c : Thread nD τ).loc main_arg0)) (m ((c : Thread nD τ).loc main_arg1)) (m ((c : Thread nD τ).loc main_arg2))
          ⟨t.val % 8 * 1024 + r.val, by omega⟩ (col (t.val / 8) (by omega) l) := by
  unfold blockConv conv
  rw [shifted_apply m c t (by omega), shifted_apply m c t (by omega), taps_apply m c t ht, taps_apply m c t ht, taps_apply m c t ht,
    up_apply m c t t.val t.isLt (by omega), add_comm, add_comm (_ * up _ _ _ _), add_assoc]

/-! ### The result arrays after the run -/

theorem G6_eq (c : Dev nD) : Value.G6 m c = out1K (m ((c : Thread nD τ).loc main_arg0)) (m ((c : Thread nD τ).loc main_arg1))
      (m ((c : Thread nD τ).loc main_arg2)) := by
  funext i
  have hN : cfg0.N = 88 := N_0
  obtain ⟨r, l, rfl⟩ : ∃ (r : Fin 8192) (l : Fin 5632), i = ix2 r l := exists_ix2 i
  have hpt : Value.pt6Of (ix2 r l) = r.val / 1024 + 8 * (l.val / 512) := by
    show 1 * (r.val / 1024 - 0) + 8 * (l.val / 512 - 0) = _; omega
  have h88 : Value.pt6Of (ix2 r l) < 88 := by rw [hpt]; omega
  have hlt : Value.pt6Of (ix2 r l) < cfg0.N := hN.symm ▸ h88
  have hl : Value.loc6Of (ix2 r l) = ix2 ⟨r.val % 1024, Nat.mod_lt _ (by decide)⟩ ⟨l.val % 512, Nat.mod_lt _ (by decide)⟩ := by
    funext a
    match a with
    | ⟨0, _⟩ => rfl
    | ⟨1, _⟩ => rfl
  have hr : ∀ h, (⟨Value.pt6Of (ix2 r l) % 8 * 1024 + r.val % 1024, h⟩ : Fin 8192) = r := fun h =>
    Fin.ext (by show Value.pt6Of (ix2 r l) % 8 * 1024 + r.val % 1024 = r.val; rw [hpt]; omega)
  have hc1 : ∀ h h', col (Value.pt6Of (ix2 r l) / 8) h ⟨l.val % 512, h'⟩ = ⟨l.val, by omega⟩ := fun h h' => by
    unfold col
    rw [dif_pos (Nat.mod_lt _ (by decide))]
    exact Fin.ext (by show Value.pt6Of (ix2 r l) / 8 * 512 + l.val % 512 = l.val; rw [hpt]; omega)
  have hc2 : ∀ h h', col (Value.pt6Of (ix2 r l) / 8) h ⟨512 + l.val % 512, h'⟩ = ⟨5632 + l.val, by omega⟩ := fun h h' => by
    unfold col
    rw [dif_neg (by show ¬512 + l.val % 512 < 512; omega)]
    exact Fin.ext (by show 5632 + Value.pt6Of (ix2 r l) / 8 * 512 + (512 + l.val % 512 - 512) = 5632 + l.val; rw [hpt]; omega)
  unfold Value.G6
  rw [dif_pos hlt, ← Value.outsAt0_sweep m c _ hlt, outs_eq]
  show (act (F := Ideal) _ _ _ _ _ : Vec Ideal S1024x512 .bf16) (Value.loc6Of (ix2 r l)) = _
  rw [hl, act_apply, blockConv_apply m c ⟨_, hlt⟩ h88, blockConv_apply m c ⟨_, hlt⟩ h88]
  simp only [hr, hc1, hc2]
  rfl

theorem pay6_apply (v : Vec Ideal S1x64x2048 .f32) (r : Fin 64) (l : Fin 2048) :
    (k0_pay6 (F := Ideal) v : Vec Ideal S64x2048 .bf16) (ix2 r l) = v (ix3 0 r l) := by
  pointwise [k0_pay6]

theorem G7_eq (c : Dev nD) : Value.G7 m c = out2 (m ((c : Thread nD τ).loc main_arg3)) := by
  funext i
  have hN : cfg0.N = 88 := N_0
  obtain ⟨r, l, rfl⟩ : ∃ (r : Fin 5632) (l : Fin 2048), i = ix2 r l := exists_ix2 i
  have hpt : Value.pt7Of (ix2 r l) = r.val / 64 := by
    show 1 * (r.val / 64 - 0) + 1 * (l.val / 2048 - 0) = _; omega
  have h88 : Value.pt7Of (ix2 r l) < 88 := by rw [hpt]; omega
  have hlt : Value.pt7Of (ix2 r l) < cfg0.N := hN.symm ▸ h88
  have hl : Value.loc7Of (ix2 r l) = ix2 ⟨r.val % 64, Nat.mod_lt _ (by decide)⟩ l := by
    funext a
    match a with
    | ⟨0, _⟩ => rfl
    | ⟨1, _⟩ => exact Fin.ext (Nat.mod_eq_of_lt l.isLt)
  unfold Value.G7
  rw [dif_pos hlt, ← Value.outsAt0_sweep m c _ hlt, outs_eq]
  show (k0_pay6 (F := Ideal) _ : Vec Ideal S64x2048 .bf16) (Value.loc7Of (ix2 r l)) = _
  rw [hl, pay6_apply, iblk5_apply m c ⟨_, hlt⟩ h88]
  have er : ∀ h, (⟨Value.pt7Of (ix2 r l) * 64 + r.val % 64, h⟩ : Fin 5632) = r := fun h =>
    Fin.ext (by show Value.pt7Of (ix2 r l) * 64 + r.val % 64 = r.val; rw [hpt]; omega)
  simp only [er]
  rfl

/-! ### The reference -/

section Reference

open Cert.Reference3Ideal.Read

theorem refUp_apply (h : Vec Ideal S8192x2048 .bf16) (w : Vec Ideal S4x2048x11264 .f32) (r : Fin 8192) (j : Fin 11264) :
    (val_main_v3 (F := Ideal) h w : Vec Ideal Cert.Reference3Ideal.S8192x11264 .f32) (ix2 r j) = up h w r j := by
  pointwise [val_main_v3, val_main_v2, val_main_v1, val_main_v0]
  rfl

theorem refPadded_apply (h : Vec Ideal S8192x2048 .bf16) (w : Vec Ideal S4x2048x11264 .f32) (r : Fin 8194) (j : Fin 11264) :
    (val_main_v5 (F := Ideal) h w : Vec Ideal Cert.Reference3Ideal.S8194x11264 .f32) (ix2 r j)
      = if h2 : 2 ≤ r.val then up h w ⟨r.val - 2, by omega⟩ j else 0 := by
  have hu : ∀ r j, (val_main_v3 (F := Ideal) h w : Vec Ideal Cert.Reference3Ideal.S8192x11264 .f32) (ix2 r j) = up h w r j := refUp_apply h w
  unfold val_main_v5
  generalize val_main_v3 (F := Ideal) h w = u at hu ⊢
  pointwise [val_main_v4, val_main_cst]
  by_cases h2 : r.val < 2
  · rw [dif_pos h2, dif_neg (by omega)]
  · rw [dif_neg h2, dif_pos (by omega)]
    exact hu _ j

theorem refConv_apply (h : Vec Ideal S8192x2048 .bf16) (w : Vec Ideal S4x2048x11264 .f32) (cw : Vec Ideal S4x3x11264 .f32)
    (r : Fin 8192) (j : Fin 11264) : (val_main_v25 (F := Ideal) h w cw : Vec Ideal Cert.Reference3Ideal.S8192x11264 .f32) (ix2 r j) = conv h w cw r j := by
  have hp : ∀ r j, (val_main_v5 (F := Ideal) h w : Vec Ideal Cert.Reference3Ideal.S8194x11264 .f32) (ix2 r j)
      = if h2 : 2 ≤ r.val then up h w ⟨r.val - 2, by omega⟩ j else 0 := refPadded_apply h w
  unfold val_main_v25 val_main_v24 val_main_v21 val_main_v18 val_main_v17 val_main_v14 val_main_v11 val_main_v8
  generalize val_main_v5 (F := Ideal) h w = u at hp ⊢
  pointwise [val_main_v6, val_main_v7, val_main_v9, val_main_v10, val_main_v12, val_main_v13, val_main_v15, val_main_v16,
    val_main_v19, val_main_v20, val_main_v22, val_main_v23]
  unfold conv back
  simp only [hp]
  congr 2
  · congr 1
    by_cases h1 : 1 ≤ r.val
    · rw [dif_pos (by omega), if_pos h1]
      exact congrArg (fun q => up h w q j) (Fin.ext (by show 1 + r.val - 2 = r.val - 1; omega))
    · rw [dif_neg (by omega), if_neg h1]
  · rw [dif_pos (by omega)]
    exact congrArg (fun q => up h w q j) (Fin.ext (by show 2 + r.val - 2 = r.val; omega))

theorem ref1_eq (h : Vec Ideal S8192x2048 .bf16) (w : Vec Ideal S4x2048x11264 .f32) (cw : Vec Ideal S4x3x11264 .f32) :
    (val_main_v36 (F := Ideal) h w cw : Vec Ideal S8192x5632 .bf16) = out1 h w cw := by
  funext i
  obtain ⟨r, l, rfl⟩ : ∃ (r : Fin 8192) (l : Fin 5632), i = ix2 r l := exists_ix2 i
  have hc : ∀ r j, (val_main_v25 (F := Ideal) h w cw : Vec Ideal Cert.Reference3Ideal.S8192x11264 .f32) (ix2 r j) = conv h w cw r j := refConv_apply h w cw
  unfold val_main_v36 val_main_v35 val_main_v34 val_main_v33 val_main_v31 val_main_v29 val_main_v28 val_main_v27 val_main_v26
  generalize val_main_v25 (F := Ideal) h w cw = u at hc ⊢
  pointwise [val_main_v32, val_main_v30, val_main_cst_0, val_main_cst_1]
  rw [show u (ix2 r ⟨l.val, by omega⟩) = _ from hc r ⟨l.val, by omega⟩, show u (ix2 r ⟨5632 + l.val, by omega⟩) = _ from hc r ⟨5632 + l.val, by omega⟩]
  rfl

theorem ref2_eq (wd : Vec Ideal S4x5632x2048 .f32) : (val_main_v39 (F := Ideal) wd : Vec Ideal S5632x2048 .bf16) = out2 wd := by
  funext i
  obtain ⟨r, l, rfl⟩ : ∃ (r : Fin 5632) (l : Fin 2048), i = ix2 r l := exists_ix2 i
  pointwise [val_main_v39, val_main_v38, val_main_v37]
  rfl

end Reference

/-! ### Where the two spellings agree -/

/-- A sum of products of real numbers is one. -/
theorem up_coe (h : Vec Ideal S8192x2048 .bf16) (w : Vec Ideal S4x2048x11264 .f32) (hh : ∀ i, ∃ x : ℝ, h i = (x : EReal))
    (hw : ∀ i, ∃ x : ℝ, w i = (x : EReal)) (r : Fin 8192) (j : Fin 11264) : ∃ x : ℝ, up h w r j = (x : EReal) := by
  choose f hf using hh
  choose g hg using hw
  refine ⟨∑ k : Fin 2048, f (ix2 r k) * g (ix3 1 k j), ?_⟩
  unfold up
  rw [coe_sum]
  exact Finset.sum_congr rfl fun k _ => by rw [hf, hg, EReal.coe_mul]

theorem conv_coe (h : Vec Ideal S8192x2048 .bf16) (w : Vec Ideal S4x2048x11264 .f32) (cw : Vec Ideal S4x3x11264 .f32)
    (hh : ∀ i, ∃ x : ℝ, h i = (x : EReal)) (hw : ∀ i, ∃ x : ℝ, w i = (x : EReal)) (hcw : ∀ i, ∃ x : ℝ, cw i = (x : EReal))
    (r : Fin 8192) (j : Fin 11264) : ∃ x : ℝ, conv h w cw r j = (x : EReal) := by
  have hb : ∀ b, ∃ x : ℝ, back h w r j b = (x : EReal) := fun b => by
    unfold back
    split
    · exact up_coe h w hh hw _ j
    · exact ⟨0, rfl⟩
  obtain ⟨a0, e0⟩ := hcw (ix3 1 0 j)
  obtain ⟨a1, e1⟩ := hcw (ix3 1 1 j)
  obtain ⟨a2, e2⟩ := hcw (ix3 1 2 j)
  obtain ⟨b2, f2⟩ := hb 2
  obtain ⟨b1, f1⟩ := hb 1
  obtain ⟨b0, f0⟩ := up_coe h w hh hw r j
  refine ⟨a0 * b2 + a1 * b1 + a2 * b0, ?_⟩
  unfold conv
  rw [e0, e1, e2, f2, f1, f0]
  push_cast
  rfl

/-- With finite arguments the kernel's spelling of the activation is the reference's. -/
theorem out1K_eq (h : Vec Ideal S8192x2048 .bf16) (w : Vec Ideal S4x2048x11264 .f32) (cw : Vec Ideal S4x3x11264 .f32)
    (hh : ∀ i, ∃ x : ℝ, h i = (x : EReal)) (hw : ∀ i, ∃ x : ℝ, w i = (x : EReal)) (hcw : ∀ i, ∃ x : ℝ, cw i = (x : EReal)) :
    out1K h w cw = out1 h w cw := by
  funext i
  obtain ⟨r, l, rfl⟩ : ∃ (r : Fin 8192) (l : Fin 5632), i = ix2 r l := exists_ix2 i
  show gated h w cw siluK r l = gated h w cw silu r l
  unfold gated
  obtain ⟨x, hx⟩ := conv_coe h w cw hh hw hcw r ⟨l.val, by omega⟩
  rw [hx, siluK_coe]

end Cert.Kernel3Ideal.FfnUp

end
-- ==== Proof.FfnDown.lean ====
/-
  The down projection with the residual and the final norm: what the model's result array holds. The output block is
  the accumulator: eleven points of a row block each add a block product to it, the first of them to the residual, and
  the last then divides every row by its root mean square and scales it.
-/
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Common

@[expose] public section

noncomputable section

namespace Cert.Kernel4Ideal.FfnDown

open Cert.Common Cert.Kernel4Ideal Cert.Kernel4Ideal.Gen Idealize.ShloMosaic Idealize.ShloMosaic.TcCoe Idealize.SL.Sem

section AnyFloat

variable {F : FTy → Type} [FloatOps F]
variable (m : (ℓ : Loc nD τ sig) → Buf (Elt F) ℓ)

/-- The first point of a row block: the residual plus the first block product. -/
theorem point_A (c : Dev nD) (t : Fin cfg0.N) (h0 : t.val % 11 = 0) : outsAt0 m c t.val t.isLt
    = k0_pay1 (iblk m c 2 t) (iblk m c 0 t) (iblk m c 1 t) := by
  rw [outsAt0_A m c t h0 (by omega) (by omega)]
  unfold out0_A_4
  refine (View.read_writes_eq_canon (Val := Elt F) _ _ _ fun y => cover0_A_4 (y := y) ..).trans ?_
  unfold kernelRun0_A
  dsimp only
  sl_unfold_words
  rw [View.canon_unit_zero hz2]
  simp only [View.readAt_eq_ld, (hs0_0 t).read_unread, (hs0_1 t).read_unread, (hs0_2 t).read_unread,
    View.ld_unit_zero (S := S1024x2048) hz2, View.ld_unit_zero (S := S1024x512) hz2, View.ld_unit_zero (S := S512x2048) hz2]

/-- A point in between: one more block product. -/
theorem point_B (c : Dev nD) (n : ℕ) (h : n + 1 < cfg0.N) (h0 : ¬(n + 1) % 11 = 0) (h2 : ¬(n + 1) % 11 = 10) :
    outsAt0 m c (n + 1) h = k0_pay2 (outsAt0 m c n (Nat.lt_of_succ_lt h)) (iblk m c 0 ⟨n + 1, h⟩) (iblk m c 1 ⟨n + 1, h⟩) := by
  rw [outsAt0_B m c ⟨n + 1, h⟩ h0 (by show 1 ≤ (n + 1) % 11; omega) h2]
  unfold out0_B_4
  refine (View.read_writes_eq_canon (Val := Elt F) _ _ _ fun y => cover0_B_4 (y := y) ..).trans ?_
  unfold kernelRun0_B
  dsimp only
  sl_unfold_words
  rw [View.canon_unit_zero hz2]
  simp only [View.readAt_eq_ld, (hs0_0 _).read_unread, (hs0_1 _).read_unread, (hs0_4 _).read_unread,
    View.ld_unit_zero (S := S1024x2048) hz2, View.ld_unit_zero (S := S1024x512) hz2, View.ld_unit_zero (S := S512x2048) hz2]
  rfl

/-- The last point of a row block: the last block product, then the norm. -/
theorem point_C (c : Dev nD) (n : ℕ) (h : n + 1 < cfg0.N) (h2 : (n + 1) % 11 = 10) :
    outsAt0 m c (n + 1) h = k0_pay3 (k0_pay2 (outsAt0 m c n (Nat.lt_of_succ_lt h)) (iblk m c 0 ⟨n + 1, h⟩) (iblk m c 1 ⟨n + 1, h⟩))
      (iblk m c 3 ⟨n + 1, h⟩) := by
  rw [outsAt0_C m c ⟨n + 1, h⟩ (by show ¬(n + 1) % 11 = 0; omega) (by show 1 ≤ (n + 1) % 11; omega) h2]
  unfold out0_C_4
  refine (View.read_writes_eq_canon (Val := Elt F) _ _ _ fun y => cover0_C_4 (y := y) ..).trans ?_
  unfold kernelRun0_C
  dsimp only
  sl_unfold_words
  rw [View.canon_cons_unit_zero hz2]
  simp only [View.readCov_unit_zero (S := S1024x2048) _ hz2, View.readAt_eq_ld, (hs0_0 _).read_unread,
    (hs0_1 _).read_unread,
    (hs0_3 _).read_unread, (hs0_4 _).read_unread, View.ld_unit_zero (S := S1024x2048) hz2,
    View.ld_unit_zero (S := S1024x512) hz2, View.ld_unit_zero (S := S512x2048) hz2, View.ld_unit_zero (S := S1x2048) hz2]
  rfl

end AnyFloat

/-! ## At the ideal instance -/

variable (m : (ℓ : Loc nD τ sig) → Buf (Elt Ideal) ℓ)

/-- One product of row `r` of the activations and column `l` of the weight; zero past the last one. -/
def term (a : Vec Ideal S8192x5632 .bf16) (w : Vec Ideal S5632x2048 .bf16) (r : Fin 8192) (l : Fin 2048) (k : ℕ) : EReal :=
  if h : k < 5632 then (a (ix2 r ⟨k, h⟩) : EReal) * (w (ix2 ⟨k, h⟩ l) : EReal) else 0

/-- The residual stream after the down projection. -/
def xs (a : Vec Ideal S8192x5632 .bf16) (w : Vec Ideal S5632x2048 .bf16) (x : Vec Ideal S8192x2048 .f32) (r : Fin 8192)
    (l : Fin 2048) : EReal :=
  (x (ix2 r l) : EReal) + ∑ k : Fin 5632, (a (ix2 r k) : EReal) * (w (ix2 k l) : EReal)

/-- The result, entry by entry. -/
def out (a : Vec Ideal S8192x5632 .bf16) (w : Vec Ideal S5632x2048 .bf16) (x : Vec Ideal S8192x2048 .f32)
    (nw : Vec Ideal S2048 .f32) : Vec Ideal S8192x2048 .f32 := fun i =>
  rms (xs a w x (i 0)) (fun k => (nw (ix1 k) : EReal)) (i 1)

theorem sum_term (a : Vec Ideal S8192x5632 .bf16) (w : Vec Ideal S5632x2048 .bf16) (r : Fin 8192) (l : Fin 2048) :
    ∑ k ∈ Finset.range 5632, term a w r l k = ∑ k : Fin 5632, (a (ix2 r k) : EReal) * (w (ix2 k l) : EReal) := by
  rw [Finset.sum_range]
  exact Finset.sum_congr rfl fun k _ => by unfold term; rw [dif_pos k.isLt]

theorem pay1_apply (x : Vec Ideal S1024x2048 .f32) (a : Vec Ideal S1024x512 .bf16) (w : Vec Ideal S512x2048 .bf16)
    (r : Fin 1024) (l : Fin 2048) : (k0_pay1 x a w : Vec Ideal S1024x2048 .f32) (ix2 r l)
      = (x (ix2 r l) : EReal) + ∑ k : Fin 512, (a (ix2 r k) : EReal) * (w (ix2 k l) : EReal) := by
  pointwise [k0_pay1]

theorem pay2_apply (x : Vec Ideal S1024x2048 .f32) (a : Vec Ideal S1024x512 .bf16) (w : Vec Ideal S512x2048 .bf16)
    (r : Fin 1024) (l : Fin 2048) : (k0_pay2 x a w : Vec Ideal S1024x2048 .f32) (ix2 r l)
      = (x (ix2 r l) : EReal) + ∑ k : Fin 512, (a (ix2 r k) : EReal) * (w (ix2 k l) : EReal) := by
  pointwise [k0_pay2]

theorem pay3_apply (v : Vec Ideal S1024x2048 .f32) (w : Vec Ideal S1x2048 .f32) (r : Fin 1024) (l : Fin 2048) :
    (k0_pay3 v w : Vec Ideal S1024x2048 .f32) (ix2 r l)
      = rms (fun k => (v (ix2 r k) : EReal)) (fun k => (w (ix2 0 k) : EReal)) l := by
  pointwise [k0_pay3]
  rfl

/-- Where the windows begin. -/
theorem idx0 : ∀ t : Fin cfg0.N, win0_0.index t (0 : Fin 2) = t.val / 11 ∧ win0_0.index t (1 : Fin 2) = t.val % 11
    ∧ win0_1.index t (0 : Fin 2) = t.val % 11 ∧ win0_1.index t (1 : Fin 2) = 0
    ∧ win0_2.index t (0 : Fin 2) = t.val / 11 ∧ win0_2.index t (1 : Fin 2) = 0
    ∧ win0_3.index t (0 : Fin 2) = 0 ∧ win0_3.index t (1 : Fin 2) = 0 :=
  (by decide +kernel : ∀ t : Fin grid0.N, _)

/-- The scale as the region finds it. -/
theorem V_nw (c : Dev nD) : V m c main_v0
    = shapeCast S1x2048 (m ((c : Thread nD τ).loc main_arg3)) shapeCasts_S2048_S1x2048 := by
  show StableHlo.after hostOps0 (fun b => m (c, b)) (Proc.devRef .tc main_v0) = _
  simp only [hostOps0]
  after_results <;> rfl

theorem iblk0_apply (c : Dev nD) (t : Fin cfg0.N) (ht : t.val < 88) (r : Fin 1024) (k : Fin 512) :
    (iblk m c 0 t : Vec Ideal S1024x512 .bf16) (ix2 r k) = (m ((c : Thread nD τ).loc main_arg0) : Vec Ideal S8192x5632 .bf16)
      (ix2 ⟨(t.val / 11) * 1024 + r.val, by omega⟩ ⟨(t.val % 11) * 512 + k.val, by omega⟩) := by
  unfold iblk
  rw [View.read_apply]
  show V m c main_arg0 _ = _
  rw [V_main_arg0]
  congr 1
  obtain ⟨e0, e1, -⟩ := idx0 t
  funext a
  apply Fin.ext
  match a with
  | ⟨0, _⟩ => show win0_0.index t 0 * 1024 + 1 * r.val = (t.val / 11) * 1024 + r.val; rw [e0]; omega
  | ⟨1, _⟩ => show win0_0.index t 1 * 512 + 1 * k.val = (t.val % 11) * 512 + k.val; rw [e1]; omega

theorem iblk1_apply (c : Dev nD) (t : Fin cfg0.N) (k : Fin 512) (l : Fin 2048) :
    (iblk m c 1 t : Vec Ideal S512x2048 .bf16) (ix2 k l) = (m ((c : Thread nD τ).loc main_arg1) : Vec Ideal S5632x2048 .bf16)
      (ix2 ⟨(t.val % 11) * 512 + k.val, by omega⟩ l) := by
  unfold iblk
  rw [View.read_apply]
  show V m c main_arg1 _ = _
  rw [V_main_arg1]
  congr 1
  obtain ⟨-, -, e0, e1, -⟩ := idx0 t
  funext a
  apply Fin.ext
  match a with
  | ⟨0, _⟩ => show win0_1.index t 0 * 512 + 1 * k.val = (t.val % 11) * 512 + k.val; rw [e0]; omega
  | ⟨1, _⟩ => show win0_1.index t 1 * 2048 + 1 * l.val = l.val; rw [e1]; omega

theorem iblk2_apply (c : Dev nD) (t : Fin cfg0.N) (ht : t.val < 88) (r : Fin 1024) (l : Fin 2048) :
    (iblk m c 2 t : Vec Ideal S1024x2048 .f32) (ix2 r l) = (m ((c : Thread nD τ).loc main_arg2) : Vec Ideal S8192x2048 .f32)
      (ix2 ⟨(t.val / 11) * 1024 + r.val, by omega⟩ l) := by
  unfold iblk
  rw [View.read_apply]
  show V m c main_arg2 _ = _
  rw [V_main_arg2]
  congr 1
  obtain ⟨-, -, -, -, e0, e1, -⟩ := idx0 t
  funext a
  apply Fin.ext
  match a with
  | ⟨0, _⟩ => show win0_2.index t 0 * 1024 + 1 * r.val = (t.val / 11) * 1024 + r.val; rw [e0]; omega
  | ⟨1, _⟩ => show win0_2.index t 1 * 2048 + 1 * l.val = l.val; rw [e1]; omega

/-- A vector laid out as one row. -/
theorem row_apply (v : Vec Ideal S2048 .f32) (l : Fin 2048) :
    (shapeCast S1x2048 v shapeCasts_S2048_S1x2048 : Vec Ideal S1x2048 .f32) (ix2 0 l) = v (ix1 l) := by
  pointwise

theorem iblk3_apply (c : Dev nD) (t : Fin cfg0.N) (l : Fin 2048) :
    (iblk m c 3 t : Vec Ideal S1x2048 .f32) (ix2 0 l) = (m ((c : Thread nD τ).loc main_arg3) : Vec Ideal S2048 .f32) (ix1 l) := by
  unfold iblk
  rw [View.read_apply]
  show V m c main_v0 _ = _
  rw [V_nw]
  have hj : ((cfg0.win 3).blk t).view.emb (ix2 0 l : S1x2048.Idx) = (ix2 0 l : S1x2048.Idx) := by
    obtain ⟨-, -, -, -, -, -, e0, e1⟩ := idx0 t
    funext a
    apply Fin.ext
    match a with
    | ⟨0, _⟩ => show win0_3.index t 0 * 1 + 1 * 0 = 0; rw [e0]
    | ⟨1, _⟩ => show win0_3.index t 1 * 2048 + 1 * l.val = l.val; rw [e1]; omega
  rw [hj]
  exact row_apply _ l

/-- A block product is the next 512 terms. -/
theorem block_sum (c : Dev nD) (n : ℕ) (h : n < cfg0.N) (hn : n < 88) (r : Fin 1024) (l : Fin 2048) :
    ∑ k : Fin 512, (show EReal from (iblk m c 0 ⟨n, h⟩ : Vec Ideal S1024x512 .bf16) (ix2 r k))
        * (show EReal from (iblk m c 1 ⟨n, h⟩ : Vec Ideal S512x2048 .bf16) (ix2 k l))
      = ∑ k ∈ Finset.range 512, term (m ((c : Thread nD τ).loc main_arg0)) (m ((c : Thread nD τ).loc main_arg1))
          ⟨(n / 11) * 1024 + r.val, by omega⟩ l (512 * (n % 11) + k) := by
  rw [Finset.sum_range]
  refine Finset.sum_congr rfl fun k _ => ?_
  have hk : 512 * (n % 11) + k.val < 5632 := by omega
  unfold term
  rw [dif_pos hk, iblk0_apply m c ⟨n, h⟩ hn, iblk1_apply]
  have e : ∀ h, (⟨n % 11 * 512 + k.val, h⟩ : Fin 5632) = ⟨512 * (n % 11) + k.val, hk⟩ := fun h => Fin.ext (by
    show n % 11 * 512 + k.val = 512 * (n % 11) + k.val; omega)
  simp only [e]

/-- Before the last point of a row block: the residual plus the terms so far. -/
theorem acc_eq (c : Dev nD) (r : Fin 1024) (l : Fin 2048) : ∀ (n : ℕ) (h : n < cfg0.N) (hn : n < 88), ¬n % 11 = 10 →
    (outsAt0 m c n h : Vec Ideal S1024x2048 .f32) (ix2 r l)
      = (show EReal from (m ((c : Thread nD τ).loc main_arg2) : Vec Ideal S8192x2048 .f32) (ix2 ⟨(n / 11) * 1024 + r.val, by omega⟩ l))
        + ∑ k ∈ Finset.range (512 * (n % 11) + 512), term (m ((c : Thread nD τ).loc main_arg0))
            (m ((c : Thread nD τ).loc main_arg1)) ⟨(n / 11) * 1024 + r.val, by omega⟩ l k := by
  have start : ∀ (n : ℕ) (h : n < cfg0.N) (hn : n < 88), n % 11 = 0 →
      (outsAt0 m c n h : Vec Ideal S1024x2048 .f32) (ix2 r l)
        = (show EReal from (m ((c : Thread nD τ).loc main_arg2) : Vec Ideal S8192x2048 .f32) (ix2 ⟨(n / 11) * 1024 + r.val, by omega⟩ l))
          + ∑ k ∈ Finset.range (512 * (n % 11) + 512), term (m ((c : Thread nD τ).loc main_arg0))
            (m ((c : Thread nD τ).loc main_arg1)) ⟨(n / 11) * 1024 + r.val, by omega⟩ l k := by
    intro n h hn h0
    rw [point_A m c ⟨n, h⟩ h0, pay1_apply, iblk2_apply m c ⟨n, h⟩ hn, block_sum m c n h hn]
    simp only [h0, Nat.mul_zero, Nat.zero_add]
  intro n
  induction n with
  | zero => intro h hn _; exact start 0 h hn rfl
  | succ n ih =>
    intro h hn h2
    by_cases h0 : (n + 1) % 11 = 0
    · exact start (n + 1) h hn h0
    · have hd : (n + 1) / 11 = n / 11 := by omega
      have hm : (n + 1) % 11 = n % 11 + 1 := by omega
      rw [point_B m c n h h0 h2, pay2_apply, ih (Nat.lt_of_succ_lt h) (by omega) (by omega), block_sum m c (n + 1) h hn,
        add_assoc]
      simp only [hd, hm]
      rw [show 512 * (n % 11 + 1) + 512 = (512 * (n % 11) + 512) + 512 by omega,
        Finset.sum_range_add _ (512 * (n % 11) + 512) 512, show 512 * (n % 11 + 1) = 512 * (n % 11) + 512 by omega]

/-- After the last point of a row block: the normed rows. -/
theorem last_eq (c : Dev nD) (n : ℕ) (h : n + 1 < cfg0.N) (hn : n + 1 < 88) (h2 : (n + 1) % 11 = 10) (r : Fin 1024) (l : Fin 2048) :
    (outsAt0 m c (n + 1) h : Vec Ideal S1024x2048 .f32) (ix2 r l)
      = out (m ((c : Thread nD τ).loc main_arg0)) (m ((c : Thread nD τ).loc main_arg1)) (m ((c : Thread nD τ).loc main_arg2))
          (m ((c : Thread nD τ).loc main_arg3)) (ix2 ⟨((n + 1) / 11) * 1024 + r.val, by omega⟩ l) := by
  have hd : (n + 1) / 11 = n / 11 := by omega
  rw [point_C m c n h h2, pay3_apply]
  have hv : (fun k => ((k0_pay2 (outsAt0 m c n (Nat.lt_of_succ_lt h)) (iblk m c 0 ⟨n + 1, h⟩) (iblk m c 1 ⟨n + 1, h⟩)
        : Vec Ideal S1024x2048 .f32) (ix2 r k) : EReal))
      = xs (m ((c : Thread nD τ).loc main_arg0)) (m ((c : Thread nD τ).loc main_arg1)) (m ((c : Thread nD τ).loc main_arg2))
          ⟨((n + 1) / 11) * 1024 + r.val, by omega⟩ := by
    funext k
    unfold xs
    rw [pay2_apply, acc_eq m c r k n (Nat.lt_of_succ_lt h) (by omega) (by omega), block_sum m c (n + 1) h hn, ← sum_term,
      add_assoc]
    have e9 : n % 11 = 9 := by omega
    simp only [hd, h2, e9]
    rw [← Finset.sum_range_add]
  rw [hv]
  unfold out
  congr 1
  funext k
  exact iblk3_apply m c _ k

/-- The block of the result a point writes back. -/
theorem mem_blk (t : Fin cfg0.N) (i : S8192x2048.Idx) : i ∈ ((cfg0.win 4).blk t).view.set
    ↔ ∀ a : Fin 2, win0_4.index t a * S1024x2048.size a ≤ (i a).val ∧ (i a).val < win0_4.index t a * S1024x2048.size a + S1024x2048.size a := by
  show i ∈ ((View.whole main_v1).slice (win0_4.rect t)).set ↔ _
  rw [View.set_slice_whole, Rect.mem_set_unit]
  exact Iff.rfl

theorem idx4 : ∀ t : Fin cfg0.N, win0_4.index t (0 : Fin 2) = t.val / 11 ∧ win0_4.index t (1 : Fin 2) = 0 :=
  (by decide +kernel : ∀ t : Fin grid0.N, _)

/-- The result array after the run. -/
theorem G_eq (c : Dev nD) :
    (dats m 0 c).arrAt 4 cfg0.N = out (m ((c : Thread nD τ).loc main_arg0)) (m ((c : Thread nD τ).loc main_arg1))
      (m ((c : Thread nD τ).loc main_arg2)) (m ((c : Thread nD τ).loc main_arg3)) := by
  have hN : cfg0.N = 88 := N_0
  refine (dats m 0 c).arrAt_eq_of_cover 4 _ (fun t hf => ?_) (fun i => ?_)
  · have h2 := (flush0_4 t).1 hf
    obtain ⟨n, hn⟩ := t
    obtain _ | n := n
    · exact absurd (show 0 % 11 = 10 from h2) (by decide)
    have hn' : n + 1 < 88 := hN ▸ hn
    rw [Value.flushed4]
    funext y
    rw [View.read_apply]
    obtain ⟨r, l, rfl⟩ : ∃ (r : Fin 1024) (l : Fin 2048), y = ix2 r l := exists_ix2 y
    refine (last_eq m c n hn hn' h2 r l).trans ?_
    congr 1
    obtain ⟨e0, e1⟩ := idx4 ⟨n + 1, hn⟩
    funext a
    apply Fin.ext
    match a with
    | ⟨0, _⟩ => show (n + 1) / 11 * 1024 + r.val = win0_4.index ⟨n + 1, hn⟩ 0 * 1024 + 1 * r.val; rw [e0, Nat.one_mul]
    | ⟨1, _⟩ => show l.val = win0_4.index ⟨n + 1, hn⟩ 1 * 2048 + 1 * l.val; rw [e1]; omega
  · have hi0 : (i 0).val < 8192 := (i 0).isLt
    have hi1 : (i 1).val < 2048 := (i 1).isLt
    have ht : 11 * ((i 0).val / 1024) + 10 < cfg0.N := by rw [hN]; omega
    refine ⟨⟨_, ht⟩, (flush0_4 _).2 (by show (11 * ((i 0).val / 1024) + 10) % 11 = 10; omega), ?_⟩
    obtain ⟨e0, e1⟩ := idx4 ⟨_, ht⟩
    have e0' : win0_4.index ⟨_, ht⟩ (0 : Fin 2) = (i 0).val / 1024 := by rw [e0]; show (11 * ((i 0).val / 1024) + 10) / 11 = _; omega
    rw [mem_blk]
    intro a
    match a with
    | ⟨0, _⟩ => show win0_4.index ⟨_, ht⟩ (0 : Fin 2) * 1024 ≤ (i 0).val ∧ (i 0).val < win0_4.index ⟨_, ht⟩ (0 : Fin 2) * 1024 + 1024; omega
    | ⟨1, _⟩ => show win0_4.index ⟨_, ht⟩ (1 : Fin 2) * 2048 ≤ (i 1).val ∧ (i 1).val < win0_4.index ⟨_, ht⟩ (1 : Fin 2) * 2048 + 2048; omega

open Cert.Reference4Ideal.Read in
/-- The reference's result is the same function of its arguments. -/
theorem ref_eq (a : Vec Ideal S8192x5632 .bf16) (w : Vec Ideal S5632x2048 .bf16) (x : Vec Ideal S8192x2048 .f32)
    (nw : Vec Ideal S2048 .f32) : (val_main_v16 (F := Ideal) a w x nw : Vec Ideal S8192x2048 .f32) = out a w x nw := by
  funext i
  obtain ⟨r, l, rfl⟩ : ∃ (r : Fin 8192) (l : Fin 2048), i = ix2 r l := exists_ix2 i
  have key : ∀ k : Fin 2048, (val_main_v3 (F := Ideal) a w x : Vec Ideal S8192x2048 .f32) (ix2 r k) = xs a w x r k := by
    intro k
    pointwise [val_main_v3, val_main_v2, val_main_v1, val_main_v0]
    rfl
  pointwise [val_main_v16, val_main_v15, val_main_v14, val_main_v13, val_main_v12, val_main_v11, val_main_v10, val_main_v9,
    val_main_v8, val_main_v7, val_main_v6, val_main_v5, val_main_v4, val_main_cst, val_main_cst_0, val_main_cst_1, key]
  rfl

end Cert.Kernel4Ideal.FfnDown

end
-- ==== Proof.Merge.lean ====
/-
  The merge of the two branches: what its result array holds. At every grid point the kernel multiplies a block of each
  branch's output by the column block's weights, applies the gates and adds; the weights are cast once per column
  block, kept in three scratches and used for the eight row blocks that follow.
-/
module

public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise

@[expose] public section

noncomputable section

namespace Cert.Kernel5Ideal.Merge

open Cert.Kernel5Ideal Cert.Kernel5Ideal.Gen Idealize.ShloMosaic Idealize.ShloMosaic.TcCoe Idealize.SL.Sem

section AnyFloat

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The block one point computes, from the two branches' blocks, the three cast weight blocks and the two gates' blocks. -/
def block (ys yd : Vec F S1024x1024 .bf16) (wa wb wd : Vec F S1024x512 .bf16) (gs gd : Vec F S1024x512 .f32) :
    Vec F S1024x512 .bf16 :=
  k0_pay1 (k0_pay5 yd wd) (k0_pay6 ys wa wb gs) (k0_pay7 gd)

/-- The first row block of a column block: the weights are cast, stored and used. -/
theorem point_A (c : Dev nD) (t : Fin cfg0.N) (h0 : t.val % 8 = 0) : outsAt0 m c t.val t.isLt
    = (block (iblk m c 0 t) (iblk m c 1 t) (k0_pay2 (iblk m c 2 t)) (k0_pay3 (iblk m c 3 t)) (k0_pay4 (iblk m c 4 t))
        (iblk m c 5 t) (iblk m c 6 t), k0_pay2 (iblk m c 2 t), k0_pay3 (iblk m c 3 t), k0_pay4 (iblk m c 4 t)) := by
  rw [outsAt0_A m c t h0]
  simp only [Prod.mk.injEq]
  refine ⟨?_, ?_, ?_, ?_⟩
  · unfold out0_A_7
    refine (View.read_writes_eq_canon (Val := Elt F) _ _ _ fun y => cover0_A_7 (y := y) ..).trans ?_
    unfold kernelRun0_A
    dsimp only
    sl_unfold_words
    rw [View.canon_unit_zero hz2]
    simp only [View.readCov_unit_zero (S := S1024x512) _ hz2, View.readAt_eq_ld, (hs0_0 t).read_unread, (hs0_1 t).read_unread,
      (hs0_2 t).read_unread, (hs0_3 t).read_unread, (hs0_4 t).read_unread, (hs0_5 t).read_unread, (hs0_6 t).read_unread,
      View.ld_unit_zero (S := S1x1024x512) hz3, View.ld_unit_zero (S := S1024x512) hz2,
      View.ld_unit_zero (S := S1024x1024) hz2]
    rfl
  · unfold sout0_A_0
    refine (View.read_writes_eq_canon (Val := Elt F) _ _ _ fun y => scover0_A_0 (y := y) ..).trans ?_
    unfold kernelRun0_A
    dsimp only
    sl_unfold_words
    rw [View.canon_unit_zero hz2]
    simp only [View.readAt_eq_ld, (hs0_2 t).read_unread, View.ld_unit_zero (S := S1x1024x512) hz3]
  · unfold sout0_A_1
    refine (View.read_writes_eq_canon (Val := Elt F) _ _ _ fun y => scover0_A_1 (y := y) ..).trans ?_
    unfold kernelRun0_A
    dsimp only
    sl_unfold_words
    rw [View.canon_unit_zero hz2]
    simp only [View.readAt_eq_ld, (hs0_3 t).read_unread, View.ld_unit_zero (S := S1x1024x512) hz3]
  · unfold sout0_A_2
    refine (View.read_writes_eq_canon (Val := Elt F) _ _ _ fun y => scover0_A_2 (y := y) ..).trans ?_
    unfold kernelRun0_A
    dsimp only
    sl_unfold_words
    rw [View.canon_unit_zero hz2]
    simp only [View.readAt_eq_ld, (hs0_4 t).read_unread, View.ld_unit_zero (S := S1x1024x512) hz3]

/-- The other row blocks: the weights kept in the scratches are used, and stay. -/
theorem point_B (c : Dev nD) (n : ℕ) (h : n + 1 < cfg0.N) (h0 : ¬(n + 1) % 8 = 0) : outsAt0 m c (n + 1) h
    = (block (iblk m c 0 ⟨n + 1, h⟩) (iblk m c 1 ⟨n + 1, h⟩) (outsAt0 m c n (Nat.lt_of_succ_lt h)).2.1
        (outsAt0 m c n (Nat.lt_of_succ_lt h)).2.2.1 (outsAt0 m c n (Nat.lt_of_succ_lt h)).2.2.2
        (iblk m c 5 ⟨n + 1, h⟩) (iblk m c 6 ⟨n + 1, h⟩), (outsAt0 m c n (Nat.lt_of_succ_lt h)).2) := by
  rw [outsAt0_B m c ⟨n + 1, h⟩ h0]
  refine Prod.ext ?_ rfl
  dsimp only
  unfold out0_B_7
  refine (View.read_writes_eq_canon (Val := Elt F) _ _ _ fun y => cover0_B_7 (y := y) ..).trans ?_
  unfold kernelRun0_B
  dsimp only
  sl_unfold_words
  rw [View.canon_unit_zero hz2]
  simp only [View.readAt_eq_ld, (hs0_0 _).read_unread, (hs0_1 _).read_unread, (hs0_5 _).read_unread,
    (hs0_6 _).read_unread, (Memref.isWhole_whole _).read_unread, View.ld_unit_zero (S := S1024x512) hz2,
    View.ld_unit_zero (S := S1024x1024) hz2]
  rfl

/-- The first point of the column block that point `n` works on. -/
theorem first_lt {n : ℕ} (h : n < cfg0.N) : 8 * (n / 8) < cfg0.N := by omega

/-- After every point: the block computed with the weights loaded at the first point of its column block, and the
    scratches holding those weights. -/
theorem outs_eq (c : Dev nD) : ∀ (n : ℕ) (h : n < cfg0.N), outsAt0 m c n h
    = (block (iblk m c 0 ⟨n, h⟩) (iblk m c 1 ⟨n, h⟩) (k0_pay2 (iblk m c 2 ⟨8 * (n / 8), first_lt h⟩))
        (k0_pay3 (iblk m c 3 ⟨8 * (n / 8), first_lt h⟩)) (k0_pay4 (iblk m c 4 ⟨8 * (n / 8), first_lt h⟩))
        (iblk m c 5 ⟨n, h⟩) (iblk m c 6 ⟨n, h⟩), k0_pay2 (iblk m c 2 ⟨8 * (n / 8), first_lt h⟩),
        k0_pay3 (iblk m c 3 ⟨8 * (n / 8), first_lt h⟩), k0_pay4 (iblk m c 4 ⟨8 * (n / 8), first_lt h⟩))
  | 0, h => point_A m c ⟨0, h⟩ rfl
  | n + 1, h => by
    by_cases h0 : (n + 1) % 8 = 0
    · have e : (⟨8 * ((n + 1) / 8), first_lt h⟩ : Fin cfg0.N) = ⟨n + 1, h⟩ := Fin.ext (by show 8 * ((n + 1) / 8) = n + 1; omega)
      rw [e]
      exact point_A m c ⟨n + 1, h⟩ h0
    · have e : (⟨8 * ((n + 1) / 8), first_lt h⟩ : Fin cfg0.N)
          = ⟨8 * (n / 8), first_lt (Nat.lt_of_succ_lt h)⟩ := Fin.ext (by show 8 * ((n + 1) / 8) = 8 * (n / 8); omega)
      rw [point_B m c n h h0, e, outs_eq c n]

end AnyFloat

/-! ## At the ideal instance -/

variable (m : (ℓ : Loc nD τ sig) → Buf (Elt Ideal) ℓ)

/-- The logistic function as both programs compute it. -/
def sig' (x : EReal) : EReal := Ideal.div 1 (1 + Ideal.exp (-x))

/-- The result, entry by entry. -/
def out (ys yd : Vec Ideal S8192x1024 .bf16) (wg : Vec Ideal S4x1024x4096 .f32) (wd : Vec Ideal S4x1024x2048 .f32)
    (p : Vec Ideal S8192x9216 .f32) : Vec Ideal S8192x2048 .bf16 := fun i =>
  sig' (p (ix2 (i 0) ⟨5120 + (i 1).val, by have h : (i 1).val < 2048 := (i 1).isLt; omega⟩))
      * ((∑ k : Fin 1024, (ys (ix2 (i 0) k) : EReal)
            * (wg (ix3 1 k ⟨(i 1).val, by have h : (i 1).val < 2048 := (i 1).isLt; omega⟩) : EReal))
          * sig' (∑ k : Fin 1024, (ys (ix2 (i 0) k) : EReal)
            * (wg (ix3 1 k ⟨2048 + (i 1).val, by have h : (i 1).val < 2048 := (i 1).isLt; omega⟩) : EReal)))
    + sig' (p (ix2 (i 0) ⟨7168 + (i 1).val, by have h : (i 1).val < 2048 := (i 1).isLt; omega⟩))
      * ∑ k : Fin 1024, (yd (ix2 (i 0) k) : EReal) * (wd (ix3 1 k (i 1)) : EReal)

/-- The block, entry by entry. -/
theorem block_apply (ys yd : Vec Ideal S1024x1024 .bf16) (wa wb wd : Vec Ideal S1x1024x512 .f32)
    (gs gd : Vec Ideal S1024x512 .f32) (r : Fin 1024) (l : Fin 512) :
    (block ys yd (k0_pay2 wa) (k0_pay3 wb) (k0_pay4 wd) gs gd : Vec Ideal S1024x512 .bf16) (ix2 r l)
      = sig' (gs (ix2 r l)) * ((∑ k : Fin 1024, (ys (ix2 r k) : EReal) * (wa (ix3 0 k l) : EReal))
            * sig' (∑ k : Fin 1024, (ys (ix2 r k) : EReal) * (wb (ix3 0 k l) : EReal)))
        + sig' (gd (ix2 r l)) * ∑ k : Fin 1024, (yd (ix2 r k) : EReal) * (wd (ix3 0 k l) : EReal) := by
  pointwise [block, k0_pay1, k0_pay2, k0_pay3, k0_pay4, k0_pay5, k0_pay6, k0_pay7]
  simp only [sig', sub_eq_add_neg, zero_add]

/-- Where the windows begin. -/
theorem idx0 : ∀ t : Fin cfg0.N, win0_0.index t (0 : Fin 2) = t.val % 8 ∧ win0_0.index t (1 : Fin 2) = 0
    ∧ win0_1.index t (0 : Fin 2) = t.val % 8 ∧ win0_1.index t (1 : Fin 2) = 0 :=
  (by decide +kernel : ∀ t : Fin grid0.N, _)
theorem idx2 : ∀ t : Fin cfg0.N, win0_2.index t (0 : Fin 3) = 1 ∧ win0_2.index t (1 : Fin 3) = 0
    ∧ win0_2.index t (2 : Fin 3) = t.val / 8 ∧ win0_3.index t (0 : Fin 3) = 1 ∧ win0_3.index t (1 : Fin 3) = 0
    ∧ win0_3.index t (2 : Fin 3) = t.val / 8 + 4 ∧ win0_4.index t (0 : Fin 3) = 1 ∧ win0_4.index t (1 : Fin 3) = 0
    ∧ win0_4.index t (2 : Fin 3) = t.val / 8 :=
  (by decide +kernel : ∀ t : Fin grid0.N, _)
theorem idx5 : ∀ t : Fin cfg0.N, win0_5.index t (0 : Fin 2) = t.val % 8 ∧ win0_5.index t (1 : Fin 2) = t.val / 8 + 10
    ∧ win0_6.index t (0 : Fin 2) = t.val % 8 ∧ win0_6.index t (1 : Fin 2) = t.val / 8 + 14 :=
  (by decide +kernel : ∀ t : Fin grid0.N, _)

theorem iblk0_apply (c : Dev nD) (t : Fin cfg0.N) (r k : Fin 1024) :
    (iblk m c 0 t : Vec Ideal S1024x1024 .bf16) (ix2 r k)
      = (m ((c : Thread nD τ).loc main_arg0) : Vec Ideal S8192x1024 .bf16) (ix2 ⟨(t.val % 8) * 1024 + r.val, by omega⟩ k) := by
  unfold iblk
  rw [View.read_apply]
  show V m c main_arg0 _ = _
  rw [V_main_arg0]
  congr 1
  obtain ⟨e0, e1, -⟩ := idx0 t
  funext a
  apply Fin.ext
  match a with
  | ⟨0, _⟩ => show win0_0.index t 0 * 1024 + 1 * r.val = (t.val % 8) * 1024 + r.val; rw [e0]; omega
  | ⟨1, _⟩ => show win0_0.index t 1 * 1024 + 1 * k.val = k.val; rw [e1]; omega

theorem iblk1_apply (c : Dev nD) (t : Fin cfg0.N) (r k : Fin 1024) :
    (iblk m c 1 t : Vec Ideal S1024x1024 .bf16) (ix2 r k)
      = (m ((c : Thread nD τ).loc main_arg1) : Vec Ideal S8192x1024 .bf16) (ix2 ⟨(t.val % 8) * 1024 + r.val, by omega⟩ k) := by
  unfold iblk
  rw [View.read_apply]
  show V m c main_arg1 _ = _
  rw [V_main_arg1]
  congr 1
  obtain ⟨-, -, e0, e1⟩ := idx0 t
  funext a
  apply Fin.ext
  match a with
  | ⟨0, _⟩ => show win0_1.index t 0 * 1024 + 1 * r.val = (t.val % 8) * 1024 + r.val; rw [e0]; omega
  | ⟨1, _⟩ => show win0_1.index t 1 * 1024 + 1 * k.val = k.val; rw [e1]; omega

theorem iblk2_apply (c : Dev nD) (t : Fin cfg0.N) (ht : t.val < 32) (k : Fin 1024) (l : Fin 512) :
    (iblk m c 2 t : Vec Ideal S1x1024x512 .f32) (ix3 0 k l)
      = (m ((c : Thread nD τ).loc main_arg2) : Vec Ideal S4x1024x4096 .f32) (ix3 1 k ⟨(t.val / 8) * 512 + l.val, by omega⟩) := by
  unfold iblk
  rw [View.read_apply]
  show V m c main_arg2 _ = _
  rw [V_main_arg2]
  congr 1
  obtain ⟨e0, e1, e2, -⟩ := idx2 t
  funext a
  apply Fin.ext
  match a with
  | ⟨0, _⟩ => show win0_2.index t 0 * 1 + 1 * 0 = 1; rw [e0]
  | ⟨1, _⟩ => show win0_2.index t 1 * 1024 + 1 * k.val = k.val; rw [e1]; omega
  | ⟨2, _⟩ => show win0_2.index t 2 * 512 + 1 * l.val = (t.val / 8) * 512 + l.val; rw [e2]; omega

theorem iblk3_apply (c : Dev nD) (t : Fin cfg0.N) (ht : t.val < 32) (k : Fin 1024) (l : Fin 512) :
    (iblk m c 3 t : Vec Ideal S1x1024x512 .f32) (ix3 0 k l)
      = (m ((c : Thread nD τ).loc main_arg2) : Vec Ideal S4x1024x4096 .f32)
          (ix3 1 k ⟨2048 + ((t.val / 8) * 512 + l.val), by omega⟩) := by
  unfold iblk
  rw [View.read_apply]
  show V m c main_arg2 _ = _
  rw [V_main_arg2]
  congr 1
  obtain ⟨-, -, -, e0, e1, e2, -⟩ := idx2 t
  funext a
  apply Fin.ext
  match a with
  | ⟨0, _⟩ => show win0_3.index t 0 * 1 + 1 * 0 = 1; rw [e0]
  | ⟨1, _⟩ => show win0_3.index t 1 * 1024 + 1 * k.val = k.val; rw [e1]; omega
  | ⟨2, _⟩ => show win0_3.index t 2 * 512 + 1 * l.val = 2048 + ((t.val / 8) * 512 + l.val); rw [e2]; omega

theorem iblk4_apply (c : Dev nD) (t : Fin cfg0.N) (ht : t.val < 32) (k : Fin 1024) (l : Fin 512) :
    (iblk m c 4 t : Vec Ideal S1x1024x512 .f32) (ix3 0 k l)
      = (m ((c : Thread nD τ).loc main_arg3) : Vec Ideal S4x1024x2048 .f32) (ix3 1 k ⟨(t.val / 8) * 512 + l.val, by omega⟩) := by
  unfold iblk
  rw [View.read_apply]
  show V m c main_arg3 _ = _
  rw [V_main_arg3]
  congr 1
  obtain ⟨-, -, -, -, -, -, e0, e1, e2⟩ := idx2 t
  funext a
  apply Fin.ext
  match a with
  | ⟨0, _⟩ => show win0_4.index t 0 * 1 + 1 * 0 = 1; rw [e0]
  | ⟨1, _⟩ => show win0_4.index t 1 * 1024 + 1 * k.val = k.val; rw [e1]; omega
  | ⟨2, _⟩ => show win0_4.index t 2 * 512 + 1 * l.val = (t.val / 8) * 512 + l.val; rw [e2]; omega

theorem iblk5_apply (c : Dev nD) (t : Fin cfg0.N) (ht : t.val < 32) (r : Fin 1024) (l : Fin 512) :
    (iblk m c 5 t : Vec Ideal S1024x512 .f32) (ix2 r l)
      = (m ((c : Thread nD τ).loc main_arg4) : Vec Ideal S8192x9216 .f32)
          (ix2 ⟨(t.val % 8) * 1024 + r.val, by omega⟩ ⟨5120 + ((t.val / 8) * 512 + l.val), by omega⟩) := by
  unfold iblk
  rw [View.read_apply]
  show V m c main_arg4 _ = _
  rw [V_main_arg4]
  congr 1
  obtain ⟨e0, e1, -⟩ := idx5 t
  funext a
  apply Fin.ext
  match a with
  | ⟨0, _⟩ => show win0_5.index t 0 * 1024 + 1 * r.val = (t.val % 8) * 1024 + r.val; rw [e0]; omega
  | ⟨1, _⟩ => show win0_5.index t 1 * 512 + 1 * l.val = 5120 + ((t.val / 8) * 512 + l.val); rw [e1]; omega

theorem iblk6_apply (c : Dev nD) (t : Fin cfg0.N) (ht : t.val < 32) (r : Fin 1024) (l : Fin 512) :
    (iblk m c 6 t : Vec Ideal S1024x512 .f32) (ix2 r l)
      = (m ((c : Thread nD τ).loc main_arg4) : Vec Ideal S8192x9216 .f32)
          (ix2 ⟨(t.val % 8) * 1024 + r.val, by omega⟩ ⟨7168 + ((t.val / 8) * 512 + l.val), by omega⟩) := by
  unfold iblk
  rw [View.read_apply]
  show V m c main_arg4 _ = _
  rw [V_main_arg4]
  congr 1
  obtain ⟨-, -, e0, e1⟩ := idx5 t
  funext a
  apply Fin.ext
  match a with
  | ⟨0, _⟩ => show win0_6.index t 0 * 1024 + 1 * r.val = (t.val % 8) * 1024 + r.val; rw [e0]; omega
  | ⟨1, _⟩ => show win0_6.index t 1 * 512 + 1 * l.val = 7168 + ((t.val / 8) * 512 + l.val); rw [e1]; omega

/-- The result array after the run. -/
theorem G_eq (c : Dev nD) :
    Value.G7 m c = out (m ((c : Thread nD τ).loc main_arg0)) (m ((c : Thread nD τ).loc main_arg1))
      (m ((c : Thread nD τ).loc main_arg2)) (m ((c : Thread nD τ).loc main_arg3)) (m ((c : Thread nD τ).loc main_arg4)) := by
  funext i
  have hN : cfg0.N = 32 := N_0
  obtain ⟨r, l, rfl⟩ : ∃ (r : Fin 8192) (l : Fin 2048), i = ix2 r l := ⟨i 0, i 1, by funext a; match a with | ⟨0, _⟩ => rfl | ⟨1, _⟩ => rfl⟩
  have hpt : Value.pt7Of (ix2 r l) = r.val / 1024 + 8 * (l.val / 512) := by
    show 1 * (r.val / 1024 - 0) + 8 * (l.val / 512 - 0) = _; omega
  have hlt : Value.pt7Of (ix2 r l) < cfg0.N := by rw [hpt, hN]; omega
  have h32 : r.val / 1024 + 8 * (l.val / 512) < 32 := by omega
  have hl : Value.loc7Of (ix2 r l) = ix2 ⟨r.val % 1024, Nat.mod_lt _ (by decide)⟩ ⟨l.val % 512, Nat.mod_lt _ (by decide)⟩ := by
    funext a
    match a with
    | ⟨0, _⟩ => rfl
    | ⟨1, _⟩ => rfl
  unfold Value.G7
  rw [dif_pos hlt, ← Value.outsAt0_sweep m c _ hlt, outs_eq]
  show (block (F := Ideal) _ _ _ _ _ _ _) (Value.loc7Of (ix2 r l)) = _
  rw [hl, block_apply]
  have er : ∀ h, (⟨Value.pt7Of (ix2 r l) % 8 * 1024 + r.val % 1024, h⟩ : Fin 8192) = r := fun h =>
    Fin.ext (by show Value.pt7Of (ix2 r l) % 8 * 1024 + r.val % 1024 = r.val; rw [hpt]; omega)
  have ht : 8 * (Value.pt7Of (ix2 r l) / 8) < 32 := by rw [hpt]; omega
  have ec : ∀ a : ℕ, a + (8 * (Value.pt7Of (ix2 r l) / 8) / 8 * 512 + l.val % 512) = a + l.val := fun a => by rw [hpt]; omega
  have ec' : 8 * (Value.pt7Of (ix2 r l) / 8) / 8 * 512 + l.val % 512 = l.val := by rw [hpt]; omega
  have ed : ∀ a : ℕ, a + (Value.pt7Of (ix2 r l) / 8 * 512 + l.val % 512) = a + l.val := fun a => by rw [hpt]; omega
  rw [iblk5_apply m c ⟨_, hlt⟩ (by show Value.pt7Of (ix2 r l) < 32; rw [hpt]; exact h32),
    iblk6_apply m c ⟨_, hlt⟩ (by show Value.pt7Of (ix2 r l) < 32; rw [hpt]; exact h32)]
  simp only [iblk0_apply, iblk1_apply, iblk2_apply m c ⟨_, _⟩ ht, iblk3_apply m c ⟨_, _⟩ ht, iblk4_apply m c ⟨_, _⟩ ht, er, ec,
    ec', ed]
  rfl

open Cert.Reference5Ideal.Read in
/-- The reference's result is the same function of its arguments. -/
theorem ref_eq (ys yd : Vec Ideal S8192x1024 .bf16) (wg : Vec Ideal S4x1024x4096 .f32) (wd : Vec Ideal S4x1024x2048 .f32)
    (p : Vec Ideal S8192x9216 .f32) :
    (val_main_v34 (F := Ideal) ys yd wg wd p : Vec Ideal S8192x2048 .bf16) = out ys yd wg wd p := by
  funext i
  obtain ⟨r, l, rfl⟩ : ∃ (r : Fin 8192) (l : Fin 2048), i = ix2 r l := ⟨i 0, i 1, by funext a; match a with | ⟨0, _⟩ => rfl | ⟨1, _⟩ => rfl⟩
  pointwise [val_main_v34, val_main_v33, val_main_v32, val_main_v31, val_main_v30, val_main_v29, val_main_v28, val_main_v27,
    val_main_v26, val_main_v25, val_main_v24, val_main_v23, val_main_v22, val_main_v21, val_main_v20, val_main_v19,
    val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_cst_2, val_main_cst_3, val_main_cst_4]
  rfl

end Cert.Kernel5Ideal.Merge

end
-- ==== Proof.OutProj.lean ====
/-
  The output projection with the residual and the next norm: the first point casts the weight into scratch, where
  every point finds it; a point adds the product of its rows to the residual and also writes the rows normed.
-/
module

public import proofs.«01_k».proof.Proof.Gen.Kernel6Ideal.Value
public import proofs.«01_k».proof.Proof.Gen.Reference6Ideal.Run
public import proofs.«01_k».proof.Proof.Gen.Reference6Ideal.Read
public import proofs.«01_k».proof.Proof.Common

@[expose] public section

noncomputable section

namespace Cert.Kernel6Ideal.OutProj

open Cert.Common Cert.Kernel6Ideal Cert.Kernel6Ideal.Gen Idealize.ShloMosaic Idealize.ShloMosaic.TcCoe Idealize.SL.Sem

section AnyFloat

variable {F : FTy → Type} [FloatOps F]
variable (m : (ℓ : Loc nD τ sig) → Buf (Elt F) ℓ)

/-- What a point leaves, from its blocks and the cast weight. -/
def leaves (c : Dev nD) (t : Fin cfg0.N) (w : Vec F S2048x2048 .bf16) :
    Vec F S512x2048 .f32 × Vec F S512x2048 .bf16 × Vec F S2048x2048 .bf16 :=
  (k0_pay2 (iblk m c 2 t) (iblk m c 0 t) w, k0_pay3 (iblk m c 2 t) (iblk m c 0 t) w (iblk m c 3 t), w)

/-- The first point casts the weight and uses it. -/
theorem point_A (c : Dev nD) (t : Fin cfg0.N) (h0 : t.val % 16 = 0) : outsAt0 m c t.val t.isLt
    = leaves m c t (k0_pay1 (iblk m c 1 t)) := by
  rw [outsAt0_A m c t h0]
  unfold leaves
  simp only [Prod.mk.injEq]
  refine ⟨?_, ?_, ?_⟩
  · unfold out0_A_4
    refine (View.read_writes_eq_canon (Val := Elt F) _ _ _ fun y => cover0_A_4 (y := y) ..).trans ?_
    unfold kernelRun0_A
    dsimp only
    sl_unfold_words
    rw [View.canon_unit_zero hz2]
    simp only [View.readCov_unit_zero (S := S2048x2048) _ hz2, View.readAt_eq_ld, (hs0_0 t).read_unread, (hs0_1 t).read_unread,
      (hs0_2 t).read_unread, (hs0_3 t).read_unread, View.ld_unit_zero (S := S1x2048x2048) hz3,
      View.ld_unit_zero (S := S512x2048) hz2, View.ld_unit_zero (S := S1x2048) hz2]
  · unfold out0_A_5
    refine (View.read_writes_eq_canon (Val := Elt F) _ _ _ fun y => cover0_A_5 (y := y) ..).trans ?_
    unfold kernelRun0_A
    dsimp only
    sl_unfold_words
    rw [View.canon_unit_zero hz2]
    simp only [View.readCov_unit_zero (S := S2048x2048) _ hz2, View.readAt_eq_ld, (hs0_0 t).read_unread, (hs0_1 t).read_unread,
      (hs0_2 t).read_unread, (hs0_3 t).read_unread, View.ld_unit_zero (S := S1x2048x2048) hz3,
      View.ld_unit_zero (S := S512x2048) hz2, View.ld_unit_zero (S := S1x2048) hz2]
  · unfold sout0_A_0
    refine (View.read_writes_eq_canon (Val := Elt F) _ _ _ fun y => scover0_A_0 (y := y) ..).trans ?_
    unfold kernelRun0_A
    dsimp only
    sl_unfold_words
    rw [View.canon_unit_zero hz2]
    simp only [View.readAt_eq_ld, (hs0_1 t).read_unread, View.ld_unit_zero (S := S1x2048x2048) hz3]

/-- The other points use the weight they find. -/
theorem point_B (c : Dev nD) (n : ℕ) (h : n + 1 < cfg0.N) (h0 : ¬(n + 1) % 16 = 0) :
    outsAt0 m c (n + 1) h = leaves m c ⟨n + 1, h⟩ (outsAt0 m c n (Nat.lt_of_succ_lt h)).2.2 := by
  rw [outsAt0_B m c ⟨n + 1, h⟩ h0]
  unfold leaves
  refine Prod.ext ?_ (Prod.ext ?_ rfl)
  · dsimp only
    unfold out0_B_4
    refine (View.read_writes_eq_canon (Val := Elt F) _ _ _ fun y => cover0_B_4 (y := y) ..).trans ?_
    unfold kernelRun0_B
    dsimp only
    sl_unfold_words
    rw [View.canon_unit_zero hz2]
    simp only [View.readAt_eq_ld, (hs0_0 _).read_unread, (hs0_2 _).read_unread, (hs0_3 _).read_unread,
      (Memref.isWhole_whole _).read_unread, View.ld_unit_zero (S := S2048x2048) hz2,
      View.ld_unit_zero (S := S512x2048) hz2, View.ld_unit_zero (S := S1x2048) hz2]
    rfl
  · dsimp only
    unfold out0_B_5
    refine (View.read_writes_eq_canon (Val := Elt F) _ _ _ fun y => cover0_B_5 (y := y) ..).trans ?_
    unfold kernelRun0_B
    dsimp only
    sl_unfold_words
    rw [View.canon_unit_zero hz2]
    simp only [View.readAt_eq_ld, (hs0_0 _).read_unread, (hs0_2 _).read_unread, (hs0_3 _).read_unread,
      (Memref.isWhole_whole _).read_unread, View.ld_unit_zero (S := S2048x2048) hz2,
      View.ld_unit_zero (S := S512x2048) hz2, View.ld_unit_zero (S := S1x2048) hz2]
    rfl

/-- What every point leaves: the weight is the one the first point cast. -/
theorem outs_eq (c : Dev nD) : ∀ (n : ℕ) (h : n < cfg0.N),
    outsAt0 m c n h = leaves m c ⟨n, h⟩ (k0_pay1 (iblk m c 1 ⟨0, Nat.lt_of_le_of_lt (Nat.zero_le _) h⟩)) := by
  have hN : cfg0.N = 16 := N_0
  intro n
  induction n with
  | zero => intro h; exact point_A m c ⟨0, h⟩ rfl
  | succ n ih =>
    intro h
    rw [point_B m c n h (by omega), ih (Nat.lt_of_succ_lt h)]
    rfl

end AnyFloat

/-! ## At the ideal instance -/

variable (m : (ℓ : Loc nD τ sig) → Buf (Elt Ideal) ℓ)

/-- The residual stream after the projection; the layer's weight is member 1 of the stack. -/
def xs (a : Vec Ideal S8192x2048 .bf16) (w : Vec Ideal S4x2048x2048 .f32) (x : Vec Ideal S8192x2048 .f32) (r : Fin 8192)
    (l : Fin 2048) : EReal :=
  (x (ix2 r l) : EReal) + ∑ k : Fin 2048, (a (ix2 r k) : EReal) * (w (ix3 1 k l) : EReal)

/-- The two results, entry by entry. -/
def out1 (a : Vec Ideal S8192x2048 .bf16) (w : Vec Ideal S4x2048x2048 .f32) (x : Vec Ideal S8192x2048 .f32) :
    Vec Ideal S8192x2048 .f32 := fun i => xs a w x (i 0) (i 1)
def out2 (a : Vec Ideal S8192x2048 .bf16) (w : Vec Ideal S4x2048x2048 .f32) (x : Vec Ideal S8192x2048 .f32)
    (nw : Vec Ideal S4x2048 .f32) : Vec Ideal S8192x2048 .bf16 := fun i =>
  rms (xs a w x (i 0)) (fun k => (nw (ix2 1 k) : EReal)) (i 1)

theorem pay2_apply (x : Vec Ideal S512x2048 .f32) (a : Vec Ideal S512x2048 .bf16) (w : Vec Ideal S1x2048x2048 .f32)
    (r : Fin 512) (l : Fin 2048) : (k0_pay2 (F := Ideal) x a (k0_pay1 w) : Vec Ideal S512x2048 .f32) (ix2 r l)
      = (x (ix2 r l) : EReal) + ∑ k : Fin 2048, (a (ix2 r k) : EReal) * (w (ix3 0 k l) : EReal) := by
  pointwise [k0_pay2, k0_pay1]

theorem pay3_apply (x : Vec Ideal S512x2048 .f32) (a : Vec Ideal S512x2048 .bf16) (w : Vec Ideal S2048x2048 .bf16)
    (nw : Vec Ideal S1x2048 .f32) (r : Fin 512) (l : Fin 2048) :
    (k0_pay3 (F := Ideal) x a w nw : Vec Ideal S512x2048 .bf16) (ix2 r l)
      = rms (fun k => ((k0_pay2 (F := Ideal) x a w : Vec Ideal S512x2048 .f32) (ix2 r k) : EReal)) (fun k => (nw (ix2 0 k) : EReal)) l := by
  unfold k0_pay3
  generalize k0_pay2 (F := Ideal) x a w = v
  pointwise
  rfl

/-- Where the windows begin. -/
theorem idx0 : ∀ t : Fin cfg0.N, win0_0.index t (0 : Fin 2) = t.val ∧ win0_0.index t (1 : Fin 2) = 0
    ∧ win0_1.index t (0 : Fin 3) = 1 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- The scale as the region finds it. -/
theorem V_nw (c : Dev nD) : V m c main_v2
    = shapeCast S1x2048 (shapeCast S2048 (extractStridedSlice S1x2048 ![1, 0] (m ((c : Thread nD τ).loc main_arg3))
        slices_S4x2048_S1x2048_1_0) shapeCasts_S1x2048_S2048) shapeCasts_S2048_S1x2048 := by
  show StableHlo.after hostOps0 (fun b => m (c, b)) (Proc.devRef .tc main_v2) = _
  simp only [hostOps0]
  after_results <;> rfl

theorem iblk0_apply (c : Dev nD) (t : Fin cfg0.N) (ht : t.val < 16) (r : Fin 512) (k : Fin 2048) :
    (iblk m c 0 t : Vec Ideal S512x2048 .bf16) (ix2 r k) = (m ((c : Thread nD τ).loc main_arg0) : Vec Ideal S8192x2048 .bf16)
      (ix2 ⟨t.val * 512 + r.val, by omega⟩ k) := by
  unfold iblk
  rw [View.read_apply]
  show V m c main_arg0 _ = _
  rw [V_main_arg0]
  congr 1
  obtain ⟨e0, e1, -⟩ := idx0 t
  funext a
  apply Fin.ext
  match a with
  | ⟨0, _⟩ => show win0_0.index t 0 * 512 + 1 * r.val = t.val * 512 + r.val; rw [e0]; omega
  | ⟨1, _⟩ => show win0_0.index t 1 * 2048 + 1 * k.val = k.val; rw [e1]; omega

theorem iblk1_apply (c : Dev nD) (t : Fin cfg0.N) (k : Fin 2048) (l : Fin 2048) :
    (iblk m c 1 t : Vec Ideal S1x2048x2048 .f32) (ix3 0 k l)
      = (m ((c : Thread nD τ).loc main_arg1) : Vec Ideal S4x2048x2048 .f32) (ix3 1 k l) := by
  unfold iblk
  rw [View.read_apply]
  show V m c main_arg1 _ = _
  rw [V_main_arg1]
  congr 1
  obtain ⟨-, -, e0, e1, e2, -⟩ := idx0 t
  funext a
  apply Fin.ext
  match a with
  | ⟨0, _⟩ => show win0_1.index t 0 * 1 + 1 * 0 = 1; rw [e0]
  | ⟨1, _⟩ => show win0_1.index t 1 * 2048 + 1 * k.val = k.val; rw [e1]; omega
  | ⟨2, _⟩ => show win0_1.index t 2 * 2048 + 1 * l.val = l.val; rw [e2]; omega

theorem iblk2_apply (c : Dev nD) (t : Fin cfg0.N) (ht : t.val < 16) (r : Fin 512) (l : Fin 2048) :
    (iblk m c 2 t : Vec Ideal S512x2048 .f32) (ix2 r l) = (m ((c : Thread nD τ).loc main_arg2) : Vec Ideal S8192x2048 .f32)
      (ix2 ⟨t.val * 512 + r.val, by omega⟩ l) := by
  unfold iblk
  rw [View.read_apply]
  show V m c main_arg2 _ = _
  rw [V_main_arg2]
  congr 1
  obtain ⟨-, -, -, -, -, e0, e1, -⟩ := idx0 t
  funext a
  apply Fin.ext
  match a with
  | ⟨0, _⟩ => show win0_2.index t 0 * 512 + 1 * r.val = t.val * 512 + r.val; rw [e0]; omega
  | ⟨1, _⟩ => show win0_2.index t 1 * 2048 + 1 * l.val = l.val; rw [e1]; omega

/-- Row 1 of the stack of scales, laid out as one row. -/
theorem row_apply (v : Vec Ideal S4x2048 .f32) (l : Fin 2048) :
    (shapeCast S1x2048 (shapeCast S2048 (extractStridedSlice S1x2048 ![1, 0] v slices_S4x2048_S1x2048_1_0)
      shapeCasts_S1x2048_S2048) shapeCasts_S2048_S1x2048 : Vec Ideal S1x2048 .f32) (ix2 0 l) = v (ix2 1 l) := by
  pointwise

theorem iblk3_apply (c : Dev nD) (t : Fin cfg0.N) (l : Fin 2048) :
    (iblk m c 3 t : Vec Ideal S1x2048 .f32) (ix2 0 l) = (m ((c : Thread nD τ).loc main_arg3) : Vec Ideal S4x2048 .f32) (ix2 1 l) := by
  unfold iblk
  rw [View.read_apply]
  show V m c main_v2 _ = _
  rw [V_nw]
  have hj : ((cfg0.win 3).blk t).view.emb (ix2 0 l : S1x2048.Idx) = (ix2 0 l : S1x2048.Idx) := by
    obtain ⟨-, -, -, -, -, -, -, e0, e1⟩ := idx0 t
    funext a
    apply Fin.ext
    match a with
    | ⟨0, _⟩ => show win0_3.index t 0 * 1 + 1 * 0 = 0; rw [e0]
    | ⟨1, _⟩ => show win0_3.index t 1 * 2048 + 1 * l.val = l.val; rw [e1]; omega
  rw [hj]
  exact row_apply _ l

/-- A point's first block is its rows of the first result. -/
theorem block_apply (c : Dev nD) (t t' : Fin cfg0.N) (ht : t.val < 16) (r : Fin 512) (l : Fin 2048) :
    (k0_pay2 (F := Ideal) (iblk m c 2 t) (iblk m c 0 t) (k0_pay1 (iblk m c 1 t')) : Vec Ideal S512x2048 .f32) (ix2 r l)
      = xs (m ((c : Thread nD τ).loc main_arg0)) (m ((c : Thread nD τ).loc main_arg1)) (m ((c : Thread nD τ).loc main_arg2))
          ⟨t.val * 512 + r.val, by omega⟩ l := by
  rw [pay2_apply, iblk2_apply m c t ht]
  simp only [iblk0_apply m c t ht, iblk1_apply]
  rfl

/-- The result arrays after the run. -/
theorem G4_eq (c : Dev nD) : Value.G4 m c = out1 (m ((c : Thread nD τ).loc main_arg0)) (m ((c : Thread nD τ).loc main_arg1))
      (m ((c : Thread nD τ).loc main_arg2)) := by
  funext i
  have hN : cfg0.N = 16 := N_0
  obtain ⟨r, l, rfl⟩ : ∃ (r : Fin 8192) (l : Fin 2048), i = ix2 r l := exists_ix2 i
  have hpt : Value.pt4Of (ix2 r l) = r.val / 512 := by
    show 1 * (r.val / 512 - 0) + 1 * (l.val / 2048 - 0) = _; omega
  have h16 : Value.pt4Of (ix2 r l) < 16 := by rw [hpt]; omega
  have hlt : Value.pt4Of (ix2 r l) < cfg0.N := hN.symm ▸ h16
  have hl : Value.loc4Of (ix2 r l) = ix2 ⟨r.val % 512, Nat.mod_lt _ (by decide)⟩ l := by
    funext a
    match a with
    | ⟨0, _⟩ => rfl
    | ⟨1, _⟩ => exact Fin.ext (Nat.mod_eq_of_lt l.isLt)
  unfold Value.G4
  rw [dif_pos hlt, ← Value.outsAt0_sweep m c _ hlt, outs_eq]
  show (k0_pay2 (F := Ideal) _ _ _ : Vec Ideal S512x2048 .f32) (Value.loc4Of (ix2 r l)) = _
  rw [hl, block_apply m c ⟨_, hlt⟩ _ h16]
  have er : ∀ h, (⟨Value.pt4Of (ix2 r l) * 512 + r.val % 512, h⟩ : Fin 8192) = r := fun h =>
    Fin.ext (by show Value.pt4Of (ix2 r l) * 512 + r.val % 512 = r.val; rw [hpt]; omega)
  simp only [er]
  rfl

theorem G5_eq (c : Dev nD) : Value.G5 m c = out2 (m ((c : Thread nD τ).loc main_arg0)) (m ((c : Thread nD τ).loc main_arg1))
      (m ((c : Thread nD τ).loc main_arg2)) (m ((c : Thread nD τ).loc main_arg3)) := by
  funext i
  have hN : cfg0.N = 16 := N_0
  obtain ⟨r, l, rfl⟩ : ∃ (r : Fin 8192) (l : Fin 2048), i = ix2 r l := exists_ix2 i
  have hpt : Value.pt5Of (ix2 r l) = r.val / 512 := by
    show 1 * (r.val / 512 - 0) + 1 * (l.val / 2048 - 0) = _; omega
  have h16 : Value.pt5Of (ix2 r l) < 16 := by rw [hpt]; omega
  have hlt : Value.pt5Of (ix2 r l) < cfg0.N := hN.symm ▸ h16
  have hl : Value.loc5Of (ix2 r l) = ix2 ⟨r.val % 512, Nat.mod_lt _ (by decide)⟩ l := by
    funext a
    match a with
    | ⟨0, _⟩ => rfl
    | ⟨1, _⟩ => exact Fin.ext (Nat.mod_eq_of_lt l.isLt)
  unfold Value.G5
  rw [dif_pos hlt, ← Value.outsAt0_sweep m c _ hlt, outs_eq]
  show (k0_pay3 (F := Ideal) _ _ _ _ : Vec Ideal S512x2048 .bf16) (Value.loc5Of (ix2 r l)) = _
  rw [hl, pay3_apply]
  have er : ∀ h, (⟨Value.pt5Of (ix2 r l) * 512 + r.val % 512, h⟩ : Fin 8192) = r := fun h =>
    Fin.ext (by show Value.pt5Of (ix2 r l) * 512 + r.val % 512 = r.val; rw [hpt]; omega)
  simp only [block_apply m c ⟨_, hlt⟩ _ h16, iblk3_apply, er]
  rfl

open Cert.Reference6Ideal.Read in
/-- The reference's results are the same functions of its arguments. -/
theorem ref1_eq (a : Vec Ideal S8192x2048 .bf16) (w : Vec Ideal S4x2048x2048 .f32) (x : Vec Ideal S8192x2048 .f32) :
    (val_main_v4 (F := Ideal) a w x : Vec Ideal S8192x2048 .f32) = out1 a w x := by
  funext i
  obtain ⟨r, l, rfl⟩ : ∃ (r : Fin 8192) (l : Fin 2048), i = ix2 r l := exists_ix2 i
  pointwise [val_main_v4, val_main_v3, val_main_v2, val_main_v1, val_main_v0]
  rfl

open Cert.Reference6Ideal.Read in
theorem ref2_eq (a : Vec Ideal S8192x2048 .bf16) (w : Vec Ideal S4x2048x2048 .f32) (x : Vec Ideal S8192x2048 .f32)
    (nw : Vec Ideal S4x2048 .f32) : (val_main_v20 (F := Ideal) a w x nw : Vec Ideal S8192x2048 .bf16) = out2 a w x nw := by
  funext i
  obtain ⟨r, l, rfl⟩ : ∃ (r : Fin 8192) (l : Fin 2048), i = ix2 r l := exists_ix2 i
  have key : ∀ k : Fin 2048, (val_main_v4 (F := Ideal) a w x : Vec Ideal S8192x2048 .f32) (ix2 r k) = xs a w x r k :=
    fun k => congrFun (ref1_eq a w x) (ix2 r k)
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_cst,
    val_main_cst_0, val_main_cst_1, key]
  rfl

end Cert.Kernel6Ideal.OutProj

end
-- ==== Proof.RmsNorm.lean ====
/-
  The first norm of the network: every point divides its rows by their root mean square and scales them.
-/
module

public import proofs.«01_k».proof.Proof.Gen.Kernel7Ideal.Value
public import proofs.«01_k».proof.Proof.Gen.Reference7Ideal.Run
public import proofs.«01_k».proof.Proof.Gen.Reference7Ideal.Read
public import proofs.«01_k».proof.Proof.Common

@[expose] public section

noncomputable section

namespace Cert.Kernel7Ideal.RmsNorm

open Cert.Common Cert.Kernel7Ideal Cert.Kernel7Ideal.Gen Idealize.ShloMosaic Idealize.ShloMosaic.TcCoe Idealize.SL.Sem

variable (m : (ℓ : Loc nD τ sig) → Buf (Elt Ideal) ℓ)

/-- The result, entry by entry; the scale is row 0 of its stack. -/
def out (x : Vec Ideal S8192x2048 .f32) (nw : Vec Ideal S4x2048 .f32) : Vec Ideal S8192x2048 .bf16 := fun i =>
  rms (fun k => (x (ix2 (i 0) k) : EReal)) (fun k => (nw (ix2 0 k) : EReal)) (i 1)

/-- A point's block, from its rows and the scale. -/
theorem out_apply (x : Vec Ideal S512x2048 .f32) (nw : Vec Ideal S1x2048 .f32) (r : Fin 512) (l : Fin 2048) :
    (out0_2 x nw : Vec Ideal S512x2048 .bf16) (ix2 r l)
      = rms (fun k => (x (ix2 r k) : EReal)) (fun k => (nw (ix2 0 k) : EReal)) l := by
  unfold out0_2
  rw [View.canon_unit_zero hz2, View.ld_unit_zero (S := S512x2048) hz2, View.ld_unit_zero (S := S1x2048) hz2]
  pointwise [k0_pay1]
  rfl

/-- Where the windows begin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ (cfg0.win 2).flush t = true :=
  (by decide +kernel : ∀ t : Fin grid0.N, _)

/-- The scale as the region finds it. -/
theorem V_nw (c : Dev nD) : V m c main_v2
    = shapeCast S1x2048 (shapeCast S2048 (extractStridedSlice S1x2048 ![0, 0] (m ((c : Thread nD τ).loc main_arg1))
        slices_S4x2048_S1x2048_0_0) shapeCasts_S1x2048_S2048) shapeCasts_S2048_S1x2048 := by
  show StableHlo.after hostOps0 (fun b => m (c, b)) (Proc.devRef .tc main_v2) = _
  simp only [hostOps0]
  after_results <;> rfl

theorem iblk0_apply (c : Dev nD) (t : Fin cfg0.N) (ht : t.val < 16) (r : Fin 512) (k : Fin 2048) :
    (iblk m c 0 t : Vec Ideal S512x2048 .f32) (ix2 r k) = (m ((c : Thread nD τ).loc main_arg0) : Vec Ideal S8192x2048 .f32)
      (ix2 ⟨t.val * 512 + r.val, by omega⟩ k) := by
  unfold iblk
  rw [View.read_apply]
  show V m c main_arg0 _ = _
  rw [V_main_arg0]
  congr 1
  obtain ⟨e0, e1, -⟩ := idx0 t
  funext a
  apply Fin.ext
  match a with
  | ⟨0, _⟩ => show win0_0.index t 0 * 512 + 1 * r.val = t.val * 512 + r.val; rw [e0]; omega
  | ⟨1, _⟩ => show win0_0.index t 1 * 2048 + 1 * k.val = k.val; rw [e1]; omega

/-- Row 0 of the stack of scales, laid out as one row. -/
theorem row_apply (v : Vec Ideal S4x2048 .f32) (l : Fin 2048) :
    (shapeCast S1x2048 (shapeCast S2048 (extractStridedSlice S1x2048 ![0, 0] v slices_S4x2048_S1x2048_0_0)
      shapeCasts_S1x2048_S2048) shapeCasts_S2048_S1x2048 : Vec Ideal S1x2048 .f32) (ix2 0 l) = v (ix2 0 l) := by
  pointwise

theorem iblk1_apply (c : Dev nD) (t : Fin cfg0.N) (l : Fin 2048) :
    (iblk m c 1 t : Vec Ideal S1x2048 .f32) (ix2 0 l) = (m ((c : Thread nD τ).loc main_arg1) : Vec Ideal S4x2048 .f32) (ix2 0 l) := by
  unfold iblk
  rw [View.read_apply]
  show V m c main_v2 _ = _
  rw [V_nw]
  have hj : ((cfg0.win 1).blk t).view.emb (ix2 0 l : S1x2048.Idx) = (ix2 0 l : S1x2048.Idx) := by
    obtain ⟨-, -, e0, e1, -⟩ := idx0 t
    funext a
    apply Fin.ext
    match a with
    | ⟨0, _⟩ => show win0_1.index t 0 * 1 + 1 * 0 = 0; rw [e0]
    | ⟨1, _⟩ => show win0_1.index t 1 * 2048 + 1 * l.val = l.val; rw [e1]; omega
  rw [hj]
  exact row_apply _ l

/-- The block of the result a point writes back. -/
theorem mem_blk (t : Fin cfg0.N) (i : S8192x2048.Idx) : i ∈ ((cfg0.win 2).blk t).view.set
    ↔ ∀ a : Fin 2, win0_2.index t a * S512x2048.size a ≤ (i a).val ∧ (i a).val < win0_2.index t a * S512x2048.size a + S512x2048.size a := by
  show i ∈ ((View.whole main_v3).slice (win0_2.rect t)).set ↔ _
  rw [View.set_slice_whole, Rect.mem_set_unit]
  exact Iff.rfl

/-- The result array after the run. -/
theorem G_eq (c : Dev nD) :
    (dats m 0 c).arrAt 2 cfg0.N = out (m ((c : Thread nD τ).loc main_arg0)) (m ((c : Thread nD τ).loc main_arg1)) := by
  have hN : cfg0.N = 16 := N_0
  refine (dats m 0 c).arrAt_eq_of_cover 2 _ (fun t hf => ?_) (fun i => ?_)
  · have ht : t.val < 16 := hN ▸ t.isLt
    rw [Value.flushed2]
    funext y
    rw [View.read_apply]
    obtain ⟨r, l, rfl⟩ : ∃ (r : Fin 512) (l : Fin 2048), y = ix2 r l := exists_ix2 y
    refine (out_apply _ _ r l).trans ?_
    simp only [iblk0_apply m c t ht, iblk1_apply]
    have hi : ((cfg0.win 2).blk t).view.emb (ix2 r l : S512x2048.Idx) = (ix2 ⟨t.val * 512 + r.val, by omega⟩ l : S8192x2048.Idx) := by
      obtain ⟨-, -, -, -, e0, e1, -⟩ := idx0 t
      funext a
      apply Fin.ext
      match a with
      | ⟨0, _⟩ => show win0_2.index t 0 * 512 + 1 * r.val = t.val * 512 + r.val; rw [e0]; omega
      | ⟨1, _⟩ => show win0_2.index t 1 * 2048 + 1 * l.val = l.val; rw [e1]; omega
    exact (congrArg (out _ _) hi).symm
  · have hi0 : (i 0).val < 8192 := (i 0).isLt
    have hi1 : (i 1).val < 2048 := (i 1).isLt
    have ht : (i 0).val / 512 < cfg0.N := by rw [hN]; omega
    obtain ⟨-, -, -, -, e0, e1, hf⟩ := idx0 ⟨_, ht⟩
    refine ⟨⟨_, ht⟩, hf, ?_⟩
    have e0' : win0_2.index ⟨_, ht⟩ (0 : Fin 2) = (i 0).val / 512 := e0
    rw [mem_blk]
    intro a
    match a with
    | ⟨0, _⟩ => show win0_2.index ⟨_, ht⟩ (0 : Fin 2) * 512 ≤ (i 0).val ∧ (i 0).val < win0_2.index ⟨_, ht⟩ (0 : Fin 2) * 512 + 512; omega
    | ⟨1, _⟩ => show win0_2.index ⟨_, ht⟩ (1 : Fin 2) * 2048 ≤ (i 1).val ∧ (i 1).val < win0_2.index ⟨_, ht⟩ (1 : Fin 2) * 2048 + 2048; omega

open Cert.Reference7Ideal.Read in
/-- The reference's result is the same function of its arguments. -/
theorem ref_eq (x : Vec Ideal S8192x2048 .f32) (nw : Vec Ideal S4x2048 .f32) :
    (val_main_v15 (F := Ideal) x nw : Vec Ideal S8192x2048 .bf16) = out x nw := by
  funext i
  obtain ⟨r, l, rfl⟩ : ∃ (r : Fin 8192) (l : Fin 2048), i = ix2 r l := exists_ix2 i
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1]
  rfl

end Cert.Kernel7Ideal.RmsNorm

end
-- ==== Proof.FfnDownMid.lean ====
/-
  The down projection of a layer before the last. The first result is the accumulator, which holds the residual plus all
  the block products after a row block's last point; the second holds the same rows divided by their root mean square and
  scaled, for the next layer. What the points add is what they add in the last layer.
-/
module

public import proofs.«01_k».proof.Proof.Gen.Kernel8Ideal.Value
public import proofs.«01_k».proof.Proof.Gen.Reference8Ideal.Run
public import proofs.«01_k».proof.Proof.Gen.Reference8Ideal.Read
public import proofs.«01_k».proof.Proof.FfnDown

@[expose] public section

noncomputable section

namespace Cert.Kernel8Ideal.FfnDownMid

open Cert.Common Cert.Kernel8Ideal Cert.Kernel8Ideal.Gen Idealize.ShloMosaic Idealize.ShloMosaic.TcCoe Idealize.SL.Sem
open Cert.Kernel4Ideal.FfnDown (term xs sum_term)

section AnyFloat

variable {F : FTy → Type} [FloatOps F]
variable (m : (ℓ : Loc nD τ sig) → Buf (Elt F) ℓ)

/-- The first point of a row block: the residual plus the first block product. -/
theorem point_A (c : Dev nD) (t : Fin cfg0.N) (h0 : t.val % 11 = 0) : (outsAt0 m c t.val t.isLt).1
    = k0_pay1 (iblk m c 2 t) (iblk m c 0 t) (iblk m c 1 t) := by
  rw [outsAt0_A m c t h0 (by omega) (by omega)]
  dsimp only
  unfold out0_A_4
  refine (View.read_writes_eq_canon (Val := Elt F) _ _ _ fun y => cover0_A_4 (y := y) ..).trans ?_
  unfold kernelRun0_A
  dsimp only
  sl_unfold_words
  rw [View.canon_unit_zero hz2]
  simp only [View.readAt_eq_ld, (hs0_0 t).read_unread, (hs0_1 t).read_unread, (hs0_2 t).read_unread,
    View.ld_unit_zero (S := S1024x2048) hz2, View.ld_unit_zero (S := S1024x512) hz2, View.ld_unit_zero (S := S512x2048) hz2]

/-- A later point: one more block product. -/
theorem point_B (c : Dev nD) (n : ℕ) (h : n + 1 < cfg0.N) (h0 : ¬(n + 1) % 11 = 0) : (outsAt0 m c (n + 1) h).1
    = k0_pay2 (outsAt0 m c n (Nat.lt_of_succ_lt h)).1 (iblk m c 0 ⟨n + 1, h⟩) (iblk m c 1 ⟨n + 1, h⟩) := by
  by_cases h2 : (n + 1) % 11 = 10
  · rw [outsAt0_C m c ⟨n + 1, h⟩ h0 (by show 1 ≤ (n + 1) % 11; omega) h2]
    dsimp only
    unfold out0_C_4
    refine (View.read_writes_eq_canon (Val := Elt F) _ _ _ fun y => cover0_C_4 (y := y) ..).trans ?_
    unfold kernelRun0_C
    dsimp only
    sl_unfold_words
    rw [View.canon_unit_zero hz2]
    simp only [View.readAt_eq_ld, (hs0_0 _).read_unread, (hs0_1 _).read_unread, (hs0_4 _).read_unread,
      View.ld_unit_zero (S := S1024x2048) hz2, View.ld_unit_zero (S := S1024x512) hz2, View.ld_unit_zero (S := S512x2048) hz2]
    rfl
  · rw [outsAt0_B m c ⟨n + 1, h⟩ h0 (by show 1 ≤ (n + 1) % 11; omega) h2]
    dsimp only
    unfold out0_B_4
    refine (View.read_writes_eq_canon (Val := Elt F) _ _ _ fun y => cover0_B_4 (y := y) ..).trans ?_
    unfold kernelRun0_B
    dsimp only
    sl_unfold_words
    rw [View.canon_unit_zero hz2]
    simp only [View.readAt_eq_ld, (hs0_0 _).read_unread, (hs0_1 _).read_unread, (hs0_4 _).read_unread,
      View.ld_unit_zero (S := S1024x2048) hz2, View.ld_unit_zero (S := S1024x512) hz2, View.ld_unit_zero (S := S512x2048) hz2]
    rfl

/-- The last point of a row block norms the accumulator's rows into the second result. -/
theorem point_C (c : Dev nD) (n : ℕ) (h : n + 1 < cfg0.N) (h2 : (n + 1) % 11 = 10) :
    (outsAt0 m c (n + 1) h).2 = k0_pay3 (outsAt0 m c (n + 1) h).1 (iblk m c 3 ⟨n + 1, h⟩) := by
  rw [point_B m c n h (by omega), outsAt0_C m c ⟨n + 1, h⟩ (by show ¬(n + 1) % 11 = 0; omega) (by show 1 ≤ (n + 1) % 11; omega) h2]
  dsimp only
  unfold out0_C_5
  refine (View.read_writes_eq_canon (Val := Elt F) _ _ _ fun y => cover0_C_5 (y := y) ..).trans ?_
  unfold kernelRun0_C
  dsimp only
  sl_unfold_words
  rw [View.canon_unit_zero hz2]
  simp only [View.readCov_unit_zero (S := S1024x2048) _ hz2, View.readAt_eq_ld, (hs0_0 _).read_unread,
    (hs0_1 _).read_unread,
    (hs0_3 _).read_unread, (hs0_4 _).read_unread, View.ld_unit_zero (S := S1024x2048) hz2,
    View.ld_unit_zero (S := S1024x512) hz2, View.ld_unit_zero (S := S512x2048) hz2, View.ld_unit_zero (S := S1x2048) hz2]
  rfl

end AnyFloat

/-! ## At the ideal instance -/

variable (m : (ℓ : Loc nD τ sig) → Buf (Elt Ideal) ℓ)

/-- The residual stream, entry by entry. -/
def out1 (a : Vec Ideal S8192x5632 .bf16) (w : Vec Ideal S5632x2048 .bf16) (x : Vec Ideal S8192x2048 .f32) :
    Vec Ideal S8192x2048 .f32 := fun i => xs a w x (i 0) (i 1)

/-- The normed rows, entry by entry; the scale is row 2 of its stack. -/
def out2 (a : Vec Ideal S8192x5632 .bf16) (w : Vec Ideal S5632x2048 .bf16) (x : Vec Ideal S8192x2048 .f32)
    (nw : Vec Ideal S4x2048 .f32) : Vec Ideal S8192x2048 .bf16 := fun i =>
  rms (xs a w x (i 0)) (fun k => (nw (ix2 2 k) : EReal)) (i 1)

/-- Where the windows begin. -/
theorem idx0 : ∀ t : Fin cfg0.N, win0_0.index t (0 : Fin 2) = t.val / 11 ∧ win0_0.index t (1 : Fin 2) = t.val % 11
    ∧ win0_1.index t (0 : Fin 2) = t.val % 11 ∧ win0_1.index t (1 : Fin 2) = 0
    ∧ win0_2.index t (0 : Fin 2) = t.val / 11 ∧ win0_2.index t (1 : Fin 2) = 0
    ∧ win0_3.index t (0 : Fin 2) = 0 ∧ win0_3.index t (1 : Fin 2) = 0
    ∧ win0_4.index t (0 : Fin 2) = t.val / 11 ∧ win0_4.index t (1 : Fin 2) = 0
    ∧ win0_5.index t (0 : Fin 2) = t.val / 11 ∧ win0_5.index t (1 : Fin 2) = 0 :=
  (by decide +kernel : ∀ t : Fin grid0.N, _)

/-- The scale as the region finds it. -/
theorem V_nw (c : Dev nD) : V m c main_v2
    = shapeCast S1x2048 (shapeCast S2048 (extractStridedSlice S1x2048 ![2, 0] (m ((c : Thread nD τ).loc main_arg3))
        slices_S4x2048_S1x2048_2_0) shapeCasts_S1x2048_S2048) shapeCasts_S2048_S1x2048 := by
  show StableHlo.after hostOps0 (fun b => m (c, b)) (Proc.devRef .tc main_v2) = _
  simp only [hostOps0]
  after_results <;> rfl

theorem iblk0_apply (c : Dev nD) (t : Fin cfg0.N) (ht : t.val < 88) (r : Fin 1024) (k : Fin 512) :
    (iblk m c 0 t : Vec Ideal S1024x512 .bf16) (ix2 r k) = (m ((c : Thread nD τ).loc main_arg0) : Vec Ideal S8192x5632 .bf16)
      (ix2 ⟨(t.val / 11) * 1024 + r.val, by omega⟩ ⟨(t.val % 11) * 512 + k.val, by omega⟩) := by
  unfold iblk
  rw [View.read_apply]
  show V m c main_arg0 _ = _
  rw [V_main_arg0]
  congr 1
  obtain ⟨e0, e1, -⟩ := idx0 t
  funext a
  apply Fin.ext
  match a with
  | ⟨0, _⟩ => show win0_0.index t 0 * 1024 + 1 * r.val = (t.val / 11) * 1024 + r.val; rw [e0]; omega
  | ⟨1, _⟩ => show win0_0.index t 1 * 512 + 1 * k.val = (t.val % 11) * 512 + k.val; rw [e1]; omega

theorem iblk1_apply (c : Dev nD) (t : Fin cfg0.N) (k : Fin 512) (l : Fin 2048) :
    (iblk m c 1 t : Vec Ideal S512x2048 .bf16) (ix2 k l) = (m ((c : Thread nD τ).loc main_arg1) : Vec Ideal S5632x2048 .bf16)
      (ix2 ⟨(t.val % 11) * 512 + k.val, by omega⟩ l) := by
  unfold iblk
  rw [View.read_apply]
  show V m c main_arg1 _ = _
  rw [V_main_arg1]
  congr 1
  obtain ⟨-, -, e0, e1, -⟩ := idx0 t
  funext a
  apply Fin.ext
  match a with
  | ⟨0, _⟩ => show win0_1.index t 0 * 512 + 1 * k.val = (t.val % 11) * 512 + k.val; rw [e0]; omega
  | ⟨1, _⟩ => show win0_1.index t 1 * 2048 + 1 * l.val = l.val; rw [e1]; omega

theorem iblk2_apply (c : Dev nD) (t : Fin cfg0.N) (ht : t.val < 88) (r : Fin 1024) (l : Fin 2048) :
    (iblk m c 2 t : Vec Ideal S1024x2048 .f32) (ix2 r l) = (m ((c : Thread nD τ).loc main_arg2) : Vec Ideal S8192x2048 .f32)
      (ix2 ⟨(t.val / 11) * 1024 + r.val, by omega⟩ l) := by
  unfold iblk
  rw [View.read_apply]
  show V m c main_arg2 _ = _
  rw [V_main_arg2]
  congr 1
  obtain ⟨-, -, -, -, e0, e1, -⟩ := idx0 t
  funext a
  apply Fin.ext
  match a with
  | ⟨0, _⟩ => show win0_2.index t 0 * 1024 + 1 * r.val = (t.val / 11) * 1024 + r.val; rw [e0]; omega
  | ⟨1, _⟩ => show win0_2.index t 1 * 2048 + 1 * l.val = l.val; rw [e1]; omega

/-- Row 2 of the stack of scales, laid out as one row. -/
theorem row_apply (v : Vec Ideal S4x2048 .f32) (l : Fin 2048) :
    (shapeCast S1x2048 (shapeCast S2048 (extractStridedSlice S1x2048 ![2, 0] v slices_S4x2048_S1x2048_2_0)
      shapeCasts_S1x2048_S2048) shapeCasts_S2048_S1x2048 : Vec Ideal S1x2048 .f32) (ix2 0 l) = v (ix2 2 l) := by
  pointwise

theorem iblk3_apply (c : Dev nD) (t : Fin cfg0.N) (l : Fin 2048) :
    (iblk m c 3 t : Vec Ideal S1x2048 .f32) (ix2 0 l) = (m ((c : Thread nD τ).loc main_arg3) : Vec Ideal S4x2048 .f32) (ix2 2 l) := by
  unfold iblk
  rw [View.read_apply]
  show V m c main_v2 _ = _
  rw [V_nw]
  have hj : ((cfg0.win 3).blk t).view.emb (ix2 0 l : S1x2048.Idx) = (ix2 0 l : S1x2048.Idx) := by
    obtain ⟨-, -, -, -, -, -, e0, e1, -⟩ := idx0 t
    funext a
    apply Fin.ext
    match a with
    | ⟨0, _⟩ => show win0_3.index t 0 * 1 + 1 * 0 = 0; rw [e0]
    | ⟨1, _⟩ => show win0_3.index t 1 * 2048 + 1 * l.val = l.val; rw [e1]; omega
  rw [hj]
  exact row_apply _ l

/-- The accumulator at a point: the residual plus the products of the columns so far. -/
theorem acc_eq (c : Dev nD) (r : Fin 1024) (l : Fin 2048) : ∀ (n : ℕ) (h : n < cfg0.N) (hn : n < 88),
    ((outsAt0 m c n h).1 : Vec Ideal S1024x2048 .f32) (ix2 r l)
      = (show EReal from (m ((c : Thread nD τ).loc main_arg2) : Vec Ideal S8192x2048 .f32) (ix2 ⟨(n / 11) * 1024 + r.val, by omega⟩ l))
        + ∑ k ∈ Finset.range (512 * (n % 11) + 512), term (m ((c : Thread nD τ).loc main_arg0))
            (m ((c : Thread nD τ).loc main_arg1)) ⟨(n / 11) * 1024 + r.val, by omega⟩ l k := by
  have block : ∀ (n : ℕ) (h : n < cfg0.N) (hn : n < 88),
      ∑ k : Fin 512, (show EReal from (iblk m c 0 ⟨n, h⟩ : Vec Ideal S1024x512 .bf16) (ix2 r k))
          * (show EReal from (iblk m c 1 ⟨n, h⟩ : Vec Ideal S512x2048 .bf16) (ix2 k l))
        = ∑ k ∈ Finset.range 512, term (m ((c : Thread nD τ).loc main_arg0)) (m ((c : Thread nD τ).loc main_arg1))
            ⟨(n / 11) * 1024 + r.val, by omega⟩ l (512 * (n % 11) + k) := by
    intro n h hn
    rw [Finset.sum_range]
    refine Finset.sum_congr rfl fun k _ => ?_
    have hk : 512 * (n % 11) + k.val < 5632 := by omega
    unfold term
    rw [dif_pos hk, iblk0_apply m c ⟨n, h⟩ hn, iblk1_apply]
    have e : ∀ h, (⟨n % 11 * 512 + k.val, h⟩ : Fin 5632) = ⟨512 * (n % 11) + k.val, hk⟩ := fun h => Fin.ext (by
      show n % 11 * 512 + k.val = 512 * (n % 11) + k.val; omega)
    simp only [e]
  have start : ∀ (n : ℕ) (h : n < cfg0.N) (hn : n < 88), n % 11 = 0 →
      ((outsAt0 m c n h).1 : Vec Ideal S1024x2048 .f32) (ix2 r l)
        = (show EReal from (m ((c : Thread nD τ).loc main_arg2) : Vec Ideal S8192x2048 .f32) (ix2 ⟨(n / 11) * 1024 + r.val, by omega⟩ l))
          + ∑ k ∈ Finset.range (512 * (n % 11) + 512), term (m ((c : Thread nD τ).loc main_arg0))
            (m ((c : Thread nD τ).loc main_arg1)) ⟨(n / 11) * 1024 + r.val, by omega⟩ l k := by
    intro n h hn h0
    rw [point_A m c ⟨n, h⟩ h0]
    refine (Cert.Kernel4Ideal.FfnDown.pay1_apply _ _ _ r l).trans ?_
    rw [iblk2_apply m c ⟨n, h⟩ hn]
    refine congrArg₂ (· + ·) rfl ((block n h hn).trans ?_)
    simp only [h0, Nat.mul_zero, Nat.zero_add]
  intro n
  induction n with
  | zero => intro h hn; exact start 0 h hn rfl
  | succ n ih =>
    intro h hn
    by_cases h0 : (n + 1) % 11 = 0
    · exact start (n + 1) h hn h0
    · have hd : (n + 1) / 11 = n / 11 := by omega
      have hm : (n + 1) % 11 = n % 11 + 1 := by omega
      rw [point_B m c n h h0]
      refine (Cert.Kernel4Ideal.FfnDown.pay2_apply _ _ _ r l).trans ?_
      refine (congrArg₂ (· + ·) (ih (Nat.lt_of_succ_lt h) (by omega)) (block (n + 1) h hn)).trans ?_
      rw [add_assoc]
      simp only [hd, hm]
      rw [show 512 * (n % 11 + 1) + 512 = (512 * (n % 11) + 512) + 512 by omega,
        Finset.sum_range_add _ (512 * (n % 11) + 512) 512, show 512 * (n % 11 + 1) = 512 * (n % 11) + 512 by omega]

/-- After a row block's last point the accumulator is the residual stream. -/
theorem last1 (c : Dev nD) (n : ℕ) (h : n < cfg0.N) (hn : n < 88) (h2 : n % 11 = 10) (r : Fin 1024) (l : Fin 2048) :
    ((outsAt0 m c n h).1 : Vec Ideal S1024x2048 .f32) (ix2 r l)
      = xs (m ((c : Thread nD τ).loc main_arg0)) (m ((c : Thread nD τ).loc main_arg1)) (m ((c : Thread nD τ).loc main_arg2))
          ⟨(n / 11) * 1024 + r.val, by omega⟩ l := by
  rw [acc_eq m c r l n h hn]
  unfold xs
  rw [← sum_term]
  simp only [h2]

/-- After a row block's last point the second block holds the normed rows. -/
theorem last2 (c : Dev nD) (n : ℕ) (h : n + 1 < cfg0.N) (hn : n + 1 < 88) (h2 : (n + 1) % 11 = 10) (r : Fin 1024) (l : Fin 2048) :
    ((outsAt0 m c (n + 1) h).2 : Vec Ideal S1024x2048 .bf16) (ix2 r l)
      = out2 (m ((c : Thread nD τ).loc main_arg0)) (m ((c : Thread nD τ).loc main_arg1)) (m ((c : Thread nD τ).loc main_arg2))
          (m ((c : Thread nD τ).loc main_arg3)) (ix2 ⟨((n + 1) / 11) * 1024 + r.val, by omega⟩ l) := by
  rw [point_C m c n h h2]
  have hp : ∀ (v : Vec Ideal S1024x2048 .f32) (w : Vec Ideal S1x2048 .f32), (k0_pay3 v w : Vec Ideal S1024x2048 .bf16) (ix2 r l)
      = rms (fun k => (v (ix2 r k) : EReal)) (fun k => (w (ix2 0 k) : EReal)) l := by
    intro v w
    pointwise [k0_pay3]
    rfl
  rw [hp]
  unfold out2
  exact congrArg₂ (fun a b => rms a b l) (funext fun k => last1 m c (n + 1) h hn h2 r k) (funext fun k => iblk3_apply m c _ k)

/-- The blocks of the results a point writes back. -/
theorem mem_blk4 (t : Fin cfg0.N) (i : S8192x2048.Idx) : i ∈ ((cfg0.win 4).blk t).view.set
    ↔ ∀ a : Fin 2, win0_4.index t a * S1024x2048.size a ≤ (i a).val ∧ (i a).val < win0_4.index t a * S1024x2048.size a + S1024x2048.size a := by
  show i ∈ ((View.whole main_v3_0).slice (win0_4.rect t)).set ↔ _
  rw [View.set_slice_whole, Rect.mem_set_unit]
  exact Iff.rfl

theorem mem_blk5 (t : Fin cfg0.N) (i : S8192x2048.Idx) : i ∈ ((cfg0.win 5).blk t).view.set
    ↔ ∀ a : Fin 2, win0_5.index t a * S1024x2048.size a ≤ (i a).val ∧ (i a).val < win0_5.index t a * S1024x2048.size a + S1024x2048.size a := by
  show i ∈ ((View.whole main_v3_1).slice (win0_5.rect t)).set ↔ _
  rw [View.set_slice_whole, Rect.mem_set_unit]
  exact Iff.rfl

/-- The residual stream after the run. -/
theorem G4_eq (c : Dev nD) : (dats m 0 c).arrAt 4 cfg0.N = out1 (m ((c : Thread nD τ).loc main_arg0))
    (m ((c : Thread nD τ).loc main_arg1)) (m ((c : Thread nD τ).loc main_arg2)) := by
  have hN : cfg0.N = 88 := N_0
  refine (dats m 0 c).arrAt_eq_of_cover 4 _ (fun t hf => ?_) (fun i => ?_)
  · have h2 := (flush0_4 t).1 hf
    rw [Value.flushed4]
    funext y
    rw [View.read_apply]
    obtain ⟨r, l, rfl⟩ : ∃ (r : Fin 1024) (l : Fin 2048), y = ix2 r l := exists_ix2 y
    have ht : t.val < 88 := hN ▸ t.isLt
    refine (last1 m c t.val t.isLt ht h2 r l).trans ?_
    obtain ⟨-, -, -, -, -, -, -, -, e0, e1, -⟩ := idx0 t
    have hi : ((cfg0.win 4).blk t).view.emb (ix2 r l : S1024x2048.Idx) = (ix2 ⟨t.val / 11 * 1024 + r.val, by omega⟩ l : S8192x2048.Idx) := by
      funext a
      apply Fin.ext
      match a with
      | ⟨0, _⟩ => show win0_4.index t 0 * 1024 + 1 * r.val = t.val / 11 * 1024 + r.val; rw [e0]; omega
      | ⟨1, _⟩ => show win0_4.index t 1 * 2048 + 1 * l.val = l.val; rw [e1]; omega
    exact (congrArg (out1 _ _ _) hi).symm
  · have hi0 : (i 0).val < 8192 := (i 0).isLt
    have hi1 : (i 1).val < 2048 := (i 1).isLt
    have ht : 11 * ((i 0).val / 1024) + 10 < cfg0.N := by rw [hN]; omega
    refine ⟨⟨_, ht⟩, (flush0_4 _).2 (by show (11 * ((i 0).val / 1024) + 10) % 11 = 10; omega), ?_⟩
    obtain ⟨-, -, -, -, -, -, -, -, e0, e1, -⟩ := idx0 ⟨_, ht⟩
    have e0' : win0_4.index ⟨_, ht⟩ (0 : Fin 2) = (i 0).val / 1024 := by rw [e0]; show (11 * ((i 0).val / 1024) + 10) / 11 = _; omega
    rw [mem_blk4]
    intro a
    match a with
    | ⟨0, _⟩ => show win0_4.index ⟨_, ht⟩ (0 : Fin 2) * 1024 ≤ (i 0).val ∧ (i 0).val < win0_4.index ⟨_, ht⟩ (0 : Fin 2) * 1024 + 1024; omega
    | ⟨1, _⟩ => show win0_4.index ⟨_, ht⟩ (1 : Fin 2) * 2048 ≤ (i 1).val ∧ (i 1).val < win0_4.index ⟨_, ht⟩ (1 : Fin 2) * 2048 + 2048; omega

/-- The normed rows after the run. -/
theorem G5_eq (c : Dev nD) : (dats m 0 c).arrAt 5 cfg0.N = out2 (m ((c : Thread nD τ).loc main_arg0))
    (m ((c : Thread nD τ).loc main_arg1)) (m ((c : Thread nD τ).loc main_arg2)) (m ((c : Thread nD τ).loc main_arg3)) := by
  have hN : cfg0.N = 88 := N_0
  refine (dats m 0 c).arrAt_eq_of_cover 5 _ (fun t hf => ?_) (fun i => ?_)
  · have h2 := (flush0_5 t).1 hf
    obtain ⟨n, hn⟩ := t
    obtain _ | n := n
    · exact absurd (show 0 % 11 = 10 from h2) (by decide)
    have hn' : n + 1 < 88 := hN ▸ hn
    rw [Value.flushed5]
    funext y
    rw [View.read_apply]
    obtain ⟨r, l, rfl⟩ : ∃ (r : Fin 1024) (l : Fin 2048), y = ix2 r l := exists_ix2 y
    refine (last2 m c n hn hn' h2 r l).trans ?_
    congr 1
    obtain ⟨-, -, -, -, -, -, -, -, -, -, e0, e1⟩ := idx0 ⟨n + 1, hn⟩
    funext a
    apply Fin.ext
    match a with
    | ⟨0, _⟩ => show (n + 1) / 11 * 1024 + r.val = win0_5.index ⟨n + 1, hn⟩ 0 * 1024 + 1 * r.val; rw [e0, Nat.one_mul]
    | ⟨1, _⟩ => show l.val = win0_5.index ⟨n + 1, hn⟩ 1 * 2048 + 1 * l.val; rw [e1]; omega
  · have hi0 : (i 0).val < 8192 := (i 0).isLt
    have hi1 : (i 1).val < 2048 := (i 1).isLt
    have ht : 11 * ((i 0).val / 1024) + 10 < cfg0.N := by rw [hN]; omega
    refine ⟨⟨_, ht⟩, (flush0_5 _).2 (by show (11 * ((i 0).val / 1024) + 10) % 11 = 10; omega), ?_⟩
    obtain ⟨-, -, -, -, -, -, -, -, -, -, e0, e1⟩ := idx0 ⟨_, ht⟩
    have e0' : win0_5.index ⟨_, ht⟩ (0 : Fin 2) = (i 0).val / 1024 := by rw [e0]; show (11 * ((i 0).val / 1024) + 10) / 11 = _; omega
    rw [mem_blk5]
    intro a
    match a with
    | ⟨0, _⟩ => show win0_5.index ⟨_, ht⟩ (0 : Fin 2) * 1024 ≤ (i 0).val ∧ (i 0).val < win0_5.index ⟨_, ht⟩ (0 : Fin 2) * 1024 + 1024; omega
    | ⟨1, _⟩ => show win0_5.index ⟨_, ht⟩ (1 : Fin 2) * 2048 ≤ (i 1).val ∧ (i 1).val < win0_5.index ⟨_, ht⟩ (1 : Fin 2) * 2048 + 2048; omega

section Reference

open Cert.Reference8Ideal.Read

/-- The reference's residual stream is the same function of its arguments. -/
theorem ref1_eq (a : Vec Ideal S8192x5632 .bf16) (w : Vec Ideal S5632x2048 .bf16) (x : Vec Ideal S8192x2048 .f32) :
    (val_main_v3 (F := Ideal) a w x : Vec Ideal S8192x2048 .f32) = out1 a w x := by
  funext i
  obtain ⟨r, l, rfl⟩ : ∃ (r : Fin 8192) (l : Fin 2048), i = ix2 r l := exists_ix2 i
  pointwise [val_main_v3, val_main_v2, val_main_v1, val_main_v0]
  rfl

/-- The reference's normed rows are the same function of its arguments. -/
theorem ref2_eq (a : Vec Ideal S8192x5632 .bf16) (w : Vec Ideal S5632x2048 .bf16) (x : Vec Ideal S8192x2048 .f32)
    (nw : Vec Ideal S4x2048 .f32) : (val_main_v19 (F := Ideal) a w x nw : Vec Ideal S8192x2048 .bf16) = out2 a w x nw := by
  funext i
  obtain ⟨r, l, rfl⟩ : ∃ (r : Fin 8192) (l : Fin 2048), i = ix2 r l := exists_ix2 i
  have key : ∀ k : Fin 2048, (val_main_v3 (F := Ideal) a w x : Vec Ideal S8192x2048 .f32) (ix2 r k) = xs a w x r k :=
    fun k => congrFun (ref1_eq a w x) _
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_cst,
    val_main_cst_0, val_main_cst_1, key]
  rfl

end Reference

end Cert.Kernel8Ideal.FfnDownMid

end
-- ==== Proof.S5Disc.lean ====
/-
  The discretised S5 parameters of all layers: one point that computes every entry from the step size, the eigenvalue and
  the input weight of its group and state. The host code before it lays the four layers' groups out as one axis.
-/
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Common

@[expose] public section

noncomputable section

namespace Cert.Kernel9Ideal.S5Disc

open Cert.Common Cert.Kernel9Ideal Cert.Kernel9Ideal.Gen Idealize.ShloMosaic Idealize.ShloMosaic.TcCoe Idealize.SL.Sem

/-- The discretised eigenvalue and the input coefficient, from the logarithm of the step and the eigenvalue. -/
def abRe (d lr li : EReal) : EReal := Ideal.exp (lr * Ideal.exp d) * Ideal.cos (li * Ideal.exp d)
def abIm (d lr li : EReal) : EReal := Ideal.exp (lr * Ideal.exp d) * Ideal.sin (li * Ideal.exp d)
def coRe (d lr li : EReal) : EReal := Ideal.div ((abRe d lr li - 1) * lr + abIm d lr li * li) (lr * lr + li * li)
def coIm (d lr li : EReal) : EReal := Ideal.div (abIm d lr li * lr - (abRe d lr li - 1) * li) (lr * lr + li * li)

/-- The layer and the group of a place on the joint axis. -/
def lay (g : Fin 256) : Fin 4 := ⟨g.val / 64, by omega⟩
def grp (g : Fin 256) : Fin 64 := ⟨g.val % 64, by omega⟩

theorem exists_ix3 {a b c : ℕ} (i : Shape.Idx ⟨3, ![a, b, c]⟩) : ∃ (r : Fin a) (s : Fin b) (l : Fin c), i = ix3 r s l :=
  ⟨i 0, i 1, i 2, by funext d; match d with | ⟨0, _⟩ => rfl | ⟨1, _⟩ => rfl | ⟨2, _⟩ => rfl⟩

/-- The results, entry by entry. -/
def out5 (x0 : Vec Ideal S4x64 .f32) (x1 x2 : Vec Ideal S4x64x64 .f32) : Vec Ideal S256x1x64 .f32 := fun i =>
  abRe (x0 (ix2 (lay (i 0)) (grp (i 0)))) (x1 (ix3 (lay (i 0)) (grp (i 0)) (i 2))) (x2 (ix3 (lay (i 0)) (grp (i 0)) (i 2)))
def out6 (x0 : Vec Ideal S4x64 .f32) (x1 x2 : Vec Ideal S4x64x64 .f32) : Vec Ideal S256x1x64 .f32 := fun i =>
  abIm (x0 (ix2 (lay (i 0)) (grp (i 0)))) (x1 (ix3 (lay (i 0)) (grp (i 0)) (i 2))) (x2 (ix3 (lay (i 0)) (grp (i 0)) (i 2)))
def out7 (x0 : Vec Ideal S4x64 .f32) (x1 x2 : Vec Ideal S4x64x64 .f32) (x3 x4 : Vec Ideal S4x64x64x16 .f32) : Vec Ideal S256x16x64 .f32 := fun i =>
  coRe (x0 (ix2 (lay (i 0)) (grp (i 0)))) (x1 (ix3 (lay (i 0)) (grp (i 0)) (i 2))) (x2 (ix3 (lay (i 0)) (grp (i 0)) (i 2)))
      * x3 (ix4 (lay (i 0)) (grp (i 0)) (i 2) (i 1))
    - coIm (x0 (ix2 (lay (i 0)) (grp (i 0)))) (x1 (ix3 (lay (i 0)) (grp (i 0)) (i 2))) (x2 (ix3 (lay (i 0)) (grp (i 0)) (i 2)))
      * x4 (ix4 (lay (i 0)) (grp (i 0)) (i 2) (i 1))
def out8 (x0 : Vec Ideal S4x64 .f32) (x1 x2 : Vec Ideal S4x64x64 .f32) (x3 x4 : Vec Ideal S4x64x64x16 .f32) : Vec Ideal S256x16x64 .f32 := fun i =>
  coRe (x0 (ix2 (lay (i 0)) (grp (i 0)))) (x1 (ix3 (lay (i 0)) (grp (i 0)) (i 2))) (x2 (ix3 (lay (i 0)) (grp (i 0)) (i 2)))
      * x4 (ix4 (lay (i 0)) (grp (i 0)) (i 2) (i 1))
    + coIm (x0 (ix2 (lay (i 0)) (grp (i 0)))) (x1 (ix3 (lay (i 0)) (grp (i 0)) (i 2))) (x2 (ix3 (lay (i 0)) (grp (i 0)) (i 2)))
      * x3 (ix4 (lay (i 0)) (grp (i 0)) (i 2) (i 1))

/-! ## Laying the groups of all layers out as one axis -/

theorem lay_state (v : Vec Ideal S4x64x64 .f32) (h : S4x64x64.ShapeCasts S256x1x64) (g : Fin 256) (p : Fin 64) :
    (shapeCast S256x1x64 v h : Vec Ideal S256x1x64 .f32) (ix3 g 0 p) = v (ix3 (lay g) (grp g) p) :=
  shapeCast_apply v h _ _ (by
    rw [Shape.rowMajor_val_three, Shape.rowMajor_val_three]
    show ((g.val / 64) * 64 + g.val % 64) * 64 + p.val = (g.val * 1 + 0) * 64 + p.val
    omega)

theorem lay_step (v : Vec Ideal S4x64 .f32) (g : Fin 256) (p : Fin 64) :
    (broadcastInDim S256x1x64 ![0, 1, 2] bcast_S256x1x1_S256x1x64_0_1_2 (shapeCast S256x1x1 v shapeCasts_S4x64_S256x1x1)
      : Vec Ideal S256x1x64 .f32) (ix3 g 0 p) = v (ix2 (lay g) (grp g)) := by
  rw [broadcastInDim_apply _ _ _ _ (ix3 g 0 0 : S256x1x1.Idx) (fun a => match a with | ⟨0, _⟩ => rfl | ⟨1, _⟩ => rfl | ⟨2, _⟩ => rfl)]
  exact shapeCast_apply v _ _ _ (by
    rw [Shape.rowMajor_val_two, Shape.rowMajor_val_three]
    show (g.val / 64) * 64 + g.val % 64 = (g.val * 1 + 0) * 1 + 0
    omega)

theorem lay_chan (v : Vec Ideal S4x64x64x16 .f32) (g : Fin 256) (h : Fin 16) (p : Fin 64) :
    (transpose S256x16x64 [0, 2, 1] (shapeCast S256x64x16 v shapeCasts_S4x64x64x16_S256x64x16) transposes_S256x64x16_S256x16x64_0_2_1
      : Vec Ideal S256x16x64 .f32) (ix3 g h p) = v (ix4 (lay g) (grp g) p h) := by
  rw [transpose_apply _ _ _ _ (ix3 g p h : S256x64x16.Idx) (fun b => match b with | ⟨0, _⟩ => rfl | ⟨1, _⟩ => rfl | ⟨2, _⟩ => rfl)]
  exact shapeCast_apply v _ _ _ (by
    rw [Shape.rowMajor_val_four, Shape.rowMajor_val_three]
    show (((g.val / 64) * 64 + g.val % 64) * 64 + p.val) * 16 + h.val = (g.val * 64 + p.val) * 16 + h.val
    omega)

/-! ## What the point leaves -/

theorem out5_apply (x0 x1 x2 : Vec Ideal S256x1x64 .f32) (x3 x4 : Vec Ideal S256x16x64 .f32) (g : Fin 256) (p : Fin 64) :
    (out0_5 x0 x1 x2 x3 x4 : Vec Ideal S256x1x64 .f32) (ix3 g 0 p) = abRe (x0 (ix3 g 0 p)) (x1 (ix3 g 0 p)) (x2 (ix3 g 0 p)) := by
  unfold out0_5
  rw [View.canon_unit_zero hz3]
  simp only [View.ld_unit_zero (S := S256x1x64) hz3]
  pointwise [k0_pay7, k0_pay6, k0_pay5, k0_pay4, k0_pay3]
  rfl

theorem out6_apply (x0 x1 x2 : Vec Ideal S256x1x64 .f32) (x3 x4 : Vec Ideal S256x16x64 .f32) (g : Fin 256) (p : Fin 64) :
    (out0_6 x0 x1 x2 x3 x4 : Vec Ideal S256x1x64 .f32) (ix3 g 0 p) = abIm (x0 (ix3 g 0 p)) (x1 (ix3 g 0 p)) (x2 (ix3 g 0 p)) := by
  unfold out0_6
  rw [View.canon_unit_zero hz3]
  simp only [View.ld_unit_zero (S := S256x1x64) hz3]
  pointwise [k0_pay8, k0_pay6, k0_pay5, k0_pay4, k0_pay3]
  rfl

theorem coef (x0 x1 x2 : Vec Ideal S256x1x64 .f32) (g : Fin 256) (p : Fin 64) :
    (k0_pay11 x1 x2 x0 : Vec Ideal S256x1x64 .f32) (ix3 g 0 p) = coRe (x0 (ix3 g 0 p)) (x1 (ix3 g 0 p)) (x2 (ix3 g 0 p))
    ∧ (k0_pay12 x1 x2 x0 : Vec Ideal S256x1x64 .f32) (ix3 g 0 p) = coIm (x0 (ix3 g 0 p)) (x1 (ix3 g 0 p)) (x2 (ix3 g 0 p)) := by
  constructor <;> pointwise [k0_pay12, k0_pay11, k0_pay10, k0_pay9, k0_pay8, k0_pay7, k0_pay6, k0_pay5, k0_pay4, k0_pay3] <;> rfl

theorem out7_apply (x0 x1 x2 : Vec Ideal S256x1x64 .f32) (x3 x4 : Vec Ideal S256x16x64 .f32) (g : Fin 256) (h : Fin 16) (p : Fin 64) :
    (out0_7 x0 x1 x2 x3 x4 : Vec Ideal S256x16x64 .f32) (ix3 g h p)
      = coRe (x0 (ix3 g 0 p)) (x1 (ix3 g 0 p)) (x2 (ix3 g 0 p)) * x3 (ix3 g h p)
        - coIm (x0 (ix3 g 0 p)) (x1 (ix3 g 0 p)) (x2 (ix3 g 0 p)) * x4 (ix3 g h p) := by
  unfold out0_7
  rw [View.canon_unit_zero hz3]
  simp only [k0_pay16, k0_pay17, View.ld_unit_zero (S := S256x1x64) hz3, View.ld_unit_zero (S := S256x16x64) hz3]
  rw [← (coef x0 x1 x2 g p).1, ← (coef x0 x1 x2 g p).2]
  pointwise [k0_pay1, k0_pay15, k0_pay14, k0_pay13]

theorem out8_apply (x0 x1 x2 : Vec Ideal S256x1x64 .f32) (x3 x4 : Vec Ideal S256x16x64 .f32) (g : Fin 256) (h : Fin 16) (p : Fin 64) :
    (out0_8 x0 x1 x2 x3 x4 : Vec Ideal S256x16x64 .f32) (ix3 g h p)
      = coRe (x0 (ix3 g 0 p)) (x1 (ix3 g 0 p)) (x2 (ix3 g 0 p)) * x4 (ix3 g h p)
        + coIm (x0 (ix3 g 0 p)) (x1 (ix3 g 0 p)) (x2 (ix3 g 0 p)) * x3 (ix3 g h p) := by
  unfold out0_8
  rw [View.canon_unit_zero hz3]
  simp only [k0_pay16, k0_pay17, View.ld_unit_zero (S := S256x1x64) hz3, View.ld_unit_zero (S := S256x16x64) hz3]
  rw [← (coef x0 x1 x2 g p).1, ← (coef x0 x1 x2 g p).2]
  pointwise [k0_pay2, k0_pay14, k0_pay13]

/-! ## The arrays as the region finds them -/

variable (m : (ℓ : Loc nD τ sig) → Buf (Elt Ideal) ℓ)

theorem V_all (c : Dev nD) :
    V m c main_v5 = broadcastInDim S256x1x64 ![0, 1, 2] bcast_S256x1x1_S256x1x64_0_1_2
        (shapeCast S256x1x1 (m ((c : Thread nD τ).loc main_arg0)) shapeCasts_S4x64_S256x1x1)
    ∧ V m c main_v6 = shapeCast S256x1x64 (m ((c : Thread nD τ).loc main_arg1)) shapeCasts_S4x64x64_S256x1x64
    ∧ V m c main_v7 = shapeCast S256x1x64 (m ((c : Thread nD τ).loc main_arg2)) shapeCasts_S4x64x64_S256x1x64
    ∧ V m c main_v1 = transpose S256x16x64 [0, 2, 1] (shapeCast S256x64x16 (m ((c : Thread nD τ).loc main_arg3))
        shapeCasts_S4x64x64x16_S256x64x16) transposes_S256x64x16_S256x16x64_0_2_1
    ∧ V m c main_v3 = transpose S256x16x64 [0, 2, 1] (shapeCast S256x64x16 (m ((c : Thread nD τ).loc main_arg4))
        shapeCasts_S4x64x64x16_S256x64x16) transposes_S256x64x16_S256x16x64_0_2_1 := by
  refine ⟨?_, ?_, ?_, ?_, ?_⟩
  · show StableHlo.after hostOps0 (fun b => m (c, b)) (Proc.devRef .tc main_v5) = _
    simp only [hostOps0]
    after_results <;> rfl
  · show StableHlo.after hostOps0 (fun b => m (c, b)) (Proc.devRef .tc main_v6) = _
    simp only [hostOps0]
    after_results <;> rfl
  · show StableHlo.after hostOps0 (fun b => m (c, b)) (Proc.devRef .tc main_v7) = _
    simp only [hostOps0]
    after_results <;> rfl
  · show StableHlo.after hostOps0 (fun b => m (c, b)) (Proc.devRef .tc main_v1) = _
    simp only [hostOps0]
    after_results <;> rfl
  · show StableHlo.after hostOps0 (fun b => m (c, b)) (Proc.devRef .tc main_v3) = _
    simp only [hostOps0]
    after_results <;> rfl

/-- Every window is its whole array. -/
theorem idx0 : ∀ t : Fin cfg0.N, (∀ a : Fin 3, win0_0.index t a = 0) ∧ (∀ a : Fin 3, win0_1.index t a = 0)
    ∧ (∀ a : Fin 3, win0_2.index t a = 0) ∧ (∀ a : Fin 3, win0_3.index t a = 0) ∧ (∀ a : Fin 3, win0_4.index t a = 0)
    ∧ (∀ a : Fin 3, win0_5.index t a = 0) ∧ (∀ a : Fin 3, win0_6.index t a = 0) ∧ (∀ a : Fin 3, win0_7.index t a = 0)
    ∧ (∀ a : Fin 3, win0_8.index t a = 0)
    ∧ (cfg0.win 5).flush t = true ∧ (cfg0.win 6).flush t = true ∧ (cfg0.win 7).flush t = true ∧ (cfg0.win 8).flush t = true :=
  (by decide +kernel : ∀ t : Fin grid0.N, _)

/-- The only point. -/
def one_pt : Fin cfg0.N := (⟨0, by decide⟩ : Fin grid0.N)

theorem iblk_eq (c : Dev nD) (t : Fin cfg0.N) :
    (iblk m c 0 t : Vec Ideal S256x1x64 .f32) = V m c main_v5 ∧ (iblk m c 1 t : Vec Ideal S256x1x64 .f32) = V m c main_v6
    ∧ (iblk m c 2 t : Vec Ideal S256x1x64 .f32) = V m c main_v7 ∧ (iblk m c 3 t : Vec Ideal S256x16x64 .f32) = V m c main_v1
    ∧ (iblk m c 4 t : Vec Ideal S256x16x64 .f32) = V m c main_v3 := by
  obtain ⟨e0, e1, e2, e3, e4, -⟩ := idx0 t
  refine ⟨?_, ?_, ?_, ?_, ?_⟩ <;> funext y <;> unfold iblk <;> rw [View.read_apply]
  · exact congrArg (V m c main_v5) (funext fun a => Fin.ext (by
      show win0_0.index t a * _ + 1 * (y a).val = (y a).val; rw [e0 a]; omega))
  · exact congrArg (V m c main_v6) (funext fun a => Fin.ext (by
      show win0_1.index t a * _ + 1 * (y a).val = (y a).val; rw [e1 a]; omega))
  · exact congrArg (V m c main_v7) (funext fun a => Fin.ext (by
      show win0_2.index t a * _ + 1 * (y a).val = (y a).val; rw [e2 a]; omega))
  · exact congrArg (V m c main_v1) (funext fun a => Fin.ext (by
      show win0_3.index t a * _ + 1 * (y a).val = (y a).val; rw [e3 a]; omega))
  · exact congrArg (V m c main_v3) (funext fun a => Fin.ext (by
      show win0_4.index t a * _ + 1 * (y a).val = (y a).val; rw [e4 a]; omega))

/-! ## The result arrays after the run -/

theorem G5_eq (c : Dev nD) : (dats m 0 c).arrAt 5 cfg0.N = out5 (m ((c : Thread nD τ).loc main_arg0))
    (m ((c : Thread nD τ).loc main_arg1)) (m ((c : Thread nD τ).loc main_arg2)) := by
  refine (dats m 0 c).arrAt_eq_of_cover 5 _ (fun t hf => ?_) (fun i => ?_)
  · rw [Value.flushed5]
    funext y
    rw [View.read_apply]
    obtain ⟨g, z, p, rfl⟩ : ∃ (g : Fin 256) (z : Fin 1) (p : Fin 64), y = ix3 g z p := exists_ix3 y
    obtain rfl : z = 0 := Subsingleton.elim _ _
    obtain ⟨b0, b1, b2, b3, b4⟩ := iblk_eq m c t
    obtain ⟨v0, v1, v2, v3, v4⟩ := V_all m c
    refine (out5_apply _ _ _ _ _ g p).trans ?_
    rw [b0, b1, b2, v0, v1, v2, lay_step, lay_state, lay_state]
    have hi : ((cfg0.win 5).blk t).view.emb (ix3 g 0 p : S256x1x64.Idx) = (ix3 g 0 p : S256x1x64.Idx) := by
      obtain ⟨-, -, -, -, -, e, -⟩ := idx0 t
      exact funext fun a => Fin.ext (by show win0_5.index t a * _ + 1 * ((ix3 g 0 p : S256x1x64.Idx) a).val = _; rw [e a]; omega)
    exact (congrArg (out5 _ _ _) hi).symm
  · obtain ⟨-, -, -, -, -, e, -, -, -, f, -⟩ := idx0 one_pt
    refine ⟨one_pt, f, ?_⟩
    show i ∈ ((View.whole main_v8_0).slice (win0_5.rect one_pt)).set
    rw [View.set_slice_whole, Rect.mem_set_unit]
    intro a
    show win0_5.index _ a * _ ≤ (i a).val ∧ (i a).val < win0_5.index _ a * _ + S256x1x64.size a
    rw [e a, Nat.zero_mul]
    exact ⟨Nat.zero_le _, by rw [Nat.zero_add]; exact (i a).isLt⟩

theorem G6_eq (c : Dev nD) : (dats m 0 c).arrAt 6 cfg0.N = out6 (m ((c : Thread nD τ).loc main_arg0))
    (m ((c : Thread nD τ).loc main_arg1)) (m ((c : Thread nD τ).loc main_arg2)) := by
  refine (dats m 0 c).arrAt_eq_of_cover 6 _ (fun t hf => ?_) (fun i => ?_)
  · rw [Value.flushed6]
    funext y
    rw [View.read_apply]
    obtain ⟨g, z, p, rfl⟩ : ∃ (g : Fin 256) (z : Fin 1) (p : Fin 64), y = ix3 g z p := exists_ix3 y
    obtain rfl : z = 0 := Subsingleton.elim _ _
    obtain ⟨b0, b1, b2, b3, b4⟩ := iblk_eq m c t
    obtain ⟨v0, v1, v2, v3, v4⟩ := V_all m c
    refine (out6_apply _ _ _ _ _ g p).trans ?_
    rw [b0, b1, b2, v0, v1, v2, lay_step, lay_state, lay_state]
    have hi : ((cfg0.win 6).blk t).view.emb (ix3 g 0 p : S256x1x64.Idx) = (ix3 g 0 p : S256x1x64.Idx) := by
      obtain ⟨-, -, -, -, -, -, e, -⟩ := idx0 t
      exact funext fun a => Fin.ext (by show win0_6.index t a * _ + 1 * ((ix3 g 0 p : S256x1x64.Idx) a).val = _; rw [e a]; omega)
    exact (congrArg (out6 _ _ _) hi).symm
  · obtain ⟨-, -, -, -, -, -, e, -, -, -, f, -⟩ := idx0 one_pt
    refine ⟨one_pt, f, ?_⟩
    show i ∈ ((View.whole main_v8_1).slice (win0_6.rect one_pt)).set
    rw [View.set_slice_whole, Rect.mem_set_unit]
    intro a
    show win0_6.index _ a * _ ≤ (i a).val ∧ (i a).val < win0_6.index _ a * _ + S256x1x64.size a
    rw [e a, Nat.zero_mul]
    exact ⟨Nat.zero_le _, by rw [Nat.zero_add]; exact (i a).isLt⟩

theorem G7_eq (c : Dev nD) : (dats m 0 c).arrAt 7 cfg0.N = out7 (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_cover 7 _ (fun t hf => ?_) (fun i => ?_)
  · rw [Value.flushed7]
    funext y
    rw [View.read_apply]
    obtain ⟨g, h, p, rfl⟩ : ∃ (g : Fin 256) (h : Fin 16) (p : Fin 64), y = ix3 g h p := exists_ix3 y
    obtain ⟨b0, b1, b2, b3, b4⟩ := iblk_eq m c t
    obtain ⟨v0, v1, v2, v3, v4⟩ := V_all m c
    refine (out7_apply _ _ _ _ _ g h p).trans ?_
    rw [b0, b1, b2, b3, b4, v0, v1, v2, v3, v4, lay_step, lay_state, lay_state, lay_chan, lay_chan]
    have hi : ((cfg0.win 7).blk t).view.emb (ix3 g h p : S256x16x64.Idx) = (ix3 g h p : S256x16x64.Idx) := by
      obtain ⟨-, -, -, -, -, -, -, e, -⟩ := idx0 t
      exact funext fun a => Fin.ext (by show win0_7.index t a * _ + 1 * ((ix3 g h p : S256x16x64.Idx) a).val = _; rw [e a]; omega)
    exact (congrArg (out7 _ _ _ _ _) hi).symm
  · obtain ⟨-, -, -, -, -, -, -, e, -, -, -, f, -⟩ := idx0 one_pt
    refine ⟨one_pt, f, ?_⟩
    show i ∈ ((View.whole main_v8_2).slice (win0_7.rect one_pt)).set
    rw [View.set_slice_whole, Rect.mem_set_unit]
    intro a
    show win0_7.index _ a * _ ≤ (i a).val ∧ (i a).val < win0_7.index _ a * _ + S256x16x64.size a
    rw [e a, Nat.zero_mul]
    exact ⟨Nat.zero_le _, by rw [Nat.zero_add]; exact (i a).isLt⟩

theorem G8_eq (c : Dev nD) : (dats m 0 c).arrAt 8 cfg0.N = out8 (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_cover 8 _ (fun t hf => ?_) (fun i => ?_)
  · rw [Value.flushed8]
    funext y
    rw [View.read_apply]
    obtain ⟨g, h, p, rfl⟩ : ∃ (g : Fin 256) (h : Fin 16) (p : Fin 64), y = ix3 g h p := exists_ix3 y
    obtain ⟨b0, b1, b2, b3, b4⟩ := iblk_eq m c t
    obtain ⟨v0, v1, v2, v3, v4⟩ := V_all m c
    refine (out8_apply _ _ _ _ _ g h p).trans ?_
    rw [b0, b1, b2, b3, b4, v0, v1, v2, v3, v4, lay_step, lay_state, lay_state, lay_chan, lay_chan]
    have hi : ((cfg0.win 8).blk t).view.emb (ix3 g h p : S256x16x64.Idx) = (ix3 g h p : S256x16x64.Idx) := by
      obtain ⟨-, -, -, -, -, -, -, -, e, -⟩ := idx0 t
      exact funext fun a => Fin.ext (by show win0_8.index t a * _ + 1 * ((ix3 g h p : S256x16x64.Idx) a).val = _; rw [e a]; omega)
    exact (congrArg (out8 _ _ _ _ _) hi).symm
  · obtain ⟨-, -, -, -, -, -, -, -, e, -, -, -, f⟩ := idx0 one_pt
    refine ⟨one_pt, f, ?_⟩
    show i ∈ ((View.whole main_v8_3).slice (win0_8.rect one_pt)).set
    rw [View.set_slice_whole, Rect.mem_set_unit]
    intro a
    show win0_8.index _ a * _ ≤ (i a).val ∧ (i a).val < win0_8.index _ a * _ + S256x16x64.size a
    rw [e a, Nat.zero_mul]
    exact ⟨Nat.zero_le _, by rw [Nat.zero_add]; exact (i a).isLt⟩

/-! ## The reference -/

section Reference

open Cert.Reference9Ideal.Read

variable (x0 : Vec Ideal S4x64 .f32) (x1 x2 : Vec Ideal S4x64x64 .f32) (x3 x4 : Vec Ideal S4x64x64x16 .f32)

theorem ref_ab (l : Fin 4) (q p : Fin 64) :
    (val_main_v8 (F := Ideal) x0 x1 x2 : Vec Ideal S4x64x64 .f32) (ix3 l q p) = abRe (x0 (ix2 l q)) (x1 (ix3 l q p)) (x2 (ix3 l q p))
    ∧ (val_main_v12 (F := Ideal) x0 x1 x2 : Vec Ideal S4x64x64 .f32) (ix3 l q p) = abIm (x0 (ix2 l q)) (x1 (ix3 l q p)) (x2 (ix3 l q p)) := by
  constructor <;> pointwise [val_main_v12, val_main_v11, val_main_v10, val_main_v9, val_main_v8, val_main_v7, val_main_v6,
    val_main_v5, val_main_v4, val_main_v3, val_main_v2, val_main_v1, val_main_v0] <;> rfl

theorem ref_co (l : Fin 4) (q p : Fin 64) :
    (val_main_v21 (F := Ideal) x0 x1 x2 : Vec Ideal S4x64x64 .f32) (ix3 l q p) = coRe (x0 (ix2 l q)) (x1 (ix3 l q p)) (x2 (ix3 l q p))
    ∧ (val_main_v25 (F := Ideal) x0 x1 x2 : Vec Ideal S4x64x64 .f32) (ix3 l q p) = coIm (x0 (ix2 l q)) (x1 (ix3 l q p)) (x2 (ix3 l q p)) := by
  unfold coRe coIm
  rw [← (ref_ab x0 x1 x2 l q p).1, ← (ref_ab x0 x1 x2 l q p).2]
  constructor <;> pointwise [val_main_v25, val_main_v24, val_main_v23, val_main_v22, val_main_v21, val_main_v20, val_main_v19,
    val_main_v18, val_main_v17, val_main_v16, val_main_v15, val_main_v14, val_main_v13, val_main_cst]

theorem ref5_eq : (val_main_v40 (F := Ideal) x0 x1 x2 : Vec Ideal S256x1x64 .f32) = out5 x0 x1 x2 := by
  funext i
  obtain ⟨g, z, p, rfl⟩ : ∃ (g : Fin 256) (z : Fin 1) (p : Fin 64), i = ix3 g z p := exists_ix3 i
  obtain rfl : z = 0 := Subsingleton.elim _ _
  exact (lay_state _ _ g p).trans (ref_ab x0 x1 x2 _ _ p).1

theorem ref6_eq : (val_main_v41 (F := Ideal) x0 x1 x2 : Vec Ideal S256x1x64 .f32) = out6 x0 x1 x2 := by
  funext i
  obtain ⟨g, z, p, rfl⟩ : ∃ (g : Fin 256) (z : Fin 1) (p : Fin 64), i = ix3 g z p := exists_ix3 i
  obtain rfl : z = 0 := Subsingleton.elim _ _
  exact (lay_state _ _ g p).trans (ref_ab x0 x1 x2 _ _ p).2

/-- The channel and state axes change places before the groups are laid out. -/
theorem lay_swap (v : Vec Ideal Cert.Reference9Ideal.S4x64x16x64 .f32) (h : Cert.Reference9Ideal.S4x64x16x64.ShapeCasts S256x16x64) (g : Fin 256) (c : Fin 16) (p : Fin 64) :
    (shapeCast S256x16x64 v h : Vec Ideal S256x16x64 .f32) (ix3 g c p) = v (ix4 (lay g) (grp g) c p) :=
  shapeCast_apply v h _ _ (by
    rw [Shape.rowMajor_val_four, Shape.rowMajor_val_three]
    show (((g.val / 64) * 64 + g.val % 64) * 16 + c.val) * 64 + p.val = (g.val * 16 + c.val) * 64 + p.val
    omega)

theorem ref7_eq : (val_main_v43 (F := Ideal) x0 x1 x2 x3 x4 : Vec Ideal S256x16x64 .f32) = out7 x0 x1 x2 x3 x4 := by
  funext i
  obtain ⟨g, h, p, rfl⟩ : ∃ (g : Fin 256) (h : Fin 16) (p : Fin 64), i = ix3 g h p := exists_ix3 i
  refine (lay_swap _ _ g h p).trans ?_
  show _ = coRe (x0 (ix2 (lay g) (grp g))) (x1 (ix3 (lay g) (grp g) p)) (x2 (ix3 (lay g) (grp g) p)) * x3 (ix4 (lay g) (grp g) p h)
    - coIm (x0 (ix2 (lay g) (grp g))) (x1 (ix3 (lay g) (grp g) p)) (x2 (ix3 (lay g) (grp g) p)) * x4 (ix4 (lay g) (grp g) p h)
  rw [← (ref_co x0 x1 x2 _ _ p).1, ← (ref_co x0 x1 x2 _ _ p).2]
  pointwise [val_main_v42, val_main_v32, val_main_v31, val_main_v30, val_main_v29, val_main_v28, val_main_v27, val_main_v26]

theorem ref8_eq : (val_main_v45 (F := Ideal) x0 x1 x2 x3 x4 : Vec Ideal S256x16x64 .f32) = out8 x0 x1 x2 x3 x4 := by
  funext i
  obtain ⟨g, h, p, rfl⟩ : ∃ (g : Fin 256) (h : Fin 16) (p : Fin 64), i = ix3 g h p := exists_ix3 i
  refine (lay_swap _ _ g h p).trans ?_
  show _ = coRe (x0 (ix2 (lay g) (grp g))) (x1 (ix3 (lay g) (grp g) p)) (x2 (ix3 (lay g) (grp g) p)) * x4 (ix4 (lay g) (grp g) p h)
    + coIm (x0 (ix2 (lay g) (grp g))) (x1 (ix3 (lay g) (grp g) p)) (x2 (ix3 (lay g) (grp g) p)) * x3 (ix4 (lay g) (grp g) p h)
  rw [← (ref_co x0 x1 x2 _ _ p).1, ← (ref_co x0 x1 x2 _ _ p).2]
  pointwise [val_main_v44, val_main_v39, val_main_v38, val_main_v37, val_main_v36, val_main_v35, val_main_v34, val_main_v33]

end Reference

end Cert.Kernel9Ideal.S5Disc

end
-- ==== Proof.Values.lean ====
/-
  The value claims: each call's results are the reference's, at ideal arithmetic.
-/
module

public import proofs.«01_k».proof.Defs
public import proofs.«01_k».proof.Proof.InProj
public import proofs.«01_k».proof.Proof.FfnUp
public import proofs.«01_k».proof.Proof.FfnDown
public import proofs.«01_k».proof.Proof.Merge
public import proofs.«01_k».proof.Proof.OutProj
public import proofs.«01_k».proof.Proof.RmsNorm
public import proofs.«01_k».proof.Proof.FfnDownMid
public import proofs.«01_k».proof.Proof.S5Disc
public import proofs.«01_k».proof.Proof.Gen.Pre_finite

@[expose] public section

noncomputable section

open Idealize.ShloMosaic Idealize.ShloMosaic.TcCoe Idealize.SL.Sem

namespace Cert.Kernel2Ideal.InProj

open Cert.Kernel2Ideal Cert.Kernel2Ideal.Gen

/-- The value claim of the input projection. -/
theorem algebraic : Cert.algebraic_Kernel2Ideal_Reference2Ideal := by
  intro m g m' g' _ hagree
  refine ⟨fun c => out (m ((c : Thread nD τ).loc main_arg0)) (m ((c : Thread nD τ).loc main_arg1)), ?_, ?_⟩
  · exact (θ_run defs _ _).mono (fun r h c => ⟨(h c).1.trans (G_eq m c), (h c).2⟩) (Value.run m g)
  · refine (θ_run Cert.Reference2Ideal.defs _ _).mono (fun r h c => ⟨?_, (h c).2⟩) (Cert.Reference2Ideal.Value.run m' g')
    refine (h c).1.trans ?_
    rw [(hagree c).1, (hagree c).2]
    exact ref_eq _ _

end Cert.Kernel2Ideal.InProj

namespace Cert.Kernel4Ideal.FfnDown

open Cert.Kernel4Ideal Cert.Kernel4Ideal.Gen

/-- The value claim of the down projection with the residual and the final norm. -/
theorem algebraic : Cert.algebraic_Kernel4Ideal_Reference4Ideal := by
  intro m g m' g' _ hagree
  refine ⟨fun c => out (m ((c : Thread nD τ).loc main_arg0)) (m ((c : Thread nD τ).loc main_arg1)) (m ((c : Thread nD τ).loc main_arg2)) (m ((c : Thread nD τ).loc main_arg3)), ?_, ?_⟩
  · exact (θ_run defs _ _).mono (fun r h c => ⟨(h c).1.trans (G_eq m c), (h c).2⟩) (Value.run_blocks m g)
  · refine (θ_run Cert.Reference4Ideal.defs _ _).mono (fun r h c => ⟨?_, (h c).2⟩) (Cert.Reference4Ideal.Value.run m' g')
    refine (h c).1.trans ?_
    rw [(hagree c).1, (hagree c).2.1, (hagree c).2.2.1, (hagree c).2.2.2]
    exact ref_eq _ _ _ _

end Cert.Kernel4Ideal.FfnDown

namespace Cert.Kernel5Ideal.Merge

open Cert.Kernel5Ideal Cert.Kernel5Ideal.Gen

/-- The value claim of the gated merge. -/
theorem algebraic : Cert.algebraic_Kernel5Ideal_Reference5Ideal := by
  intro m g m' g' _ hagree
  refine ⟨fun c => out (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · exact (θ_run defs _ _).mono (fun r h c => ⟨(h c).1.trans (G_eq m c), (h c).2⟩) (Value.run m g)
  · refine (θ_run Cert.Reference5Ideal.defs _ _).mono (fun r h c => ⟨?_, (h c).2⟩) (Cert.Reference5Ideal.Value.run m' g')
    refine (h c).1.trans ?_
    rw [(hagree c).1, (hagree c).2.1, (hagree c).2.2.1, (hagree c).2.2.2.1, (hagree c).2.2.2.2]
    exact ref_eq _ _ _ _ _

end Cert.Kernel5Ideal.Merge

namespace Cert.Kernel7Ideal.RmsNorm

open Cert.Kernel7Ideal Cert.Kernel7Ideal.Gen

/-- The value claim of the norm before the layer. -/
theorem algebraic : Cert.algebraic_Kernel7Ideal_Reference7Ideal := by
  intro m g m' g' _ hagree
  refine ⟨fun c => out (m ((c : Thread nD τ).loc main_arg0)) (m ((c : Thread nD τ).loc main_arg1)), ?_, ?_⟩
  · exact (θ_run defs _ _).mono (fun r h c => ⟨(h c).1.trans (G_eq m c), (h c).2⟩) (Value.run_blocks m g)
  · refine (θ_run Cert.Reference7Ideal.defs _ _).mono (fun r h c => ⟨?_, (h c).2⟩) (Cert.Reference7Ideal.Value.run m' g')
    refine (h c).1.trans ?_
    rw [(hagree c).1, (hagree c).2]
    exact ref_eq _ _

end Cert.Kernel7Ideal.RmsNorm

namespace Cert.Kernel6Ideal.OutProj

open Cert.Kernel6Ideal Cert.Kernel6Ideal.Gen

/-- The value claim of the output projection with the residual and the norm before the feed-forward half. -/
theorem algebraic : Cert.algebraic_Kernel6Ideal_Reference6Ideal := by
  intro m g m' g' _ hagree
  refine ⟨fun c => out1 (m ((c : Thread nD τ).loc main_arg0)) (m ((c : Thread nD τ).loc main_arg1)) (m ((c : Thread nD τ).loc main_arg2)),
    fun c => out2 (m ((c : Thread nD τ).loc main_arg0)) (m ((c : Thread nD τ).loc main_arg1)) (m ((c : Thread nD τ).loc main_arg2))
      (m ((c : Thread nD τ).loc main_arg3)), ?_, ?_⟩
  · exact (θ_run defs _ _).mono (fun r h c => ⟨(h c).1.trans (G4_eq m c), (h c).2.1.trans (G5_eq m c), (h c).2.2⟩) (Value.run m g)
  · refine (θ_run Cert.Reference6Ideal.defs _ _).mono (fun r h c => ⟨?_, ?_, (h c).2.2⟩) (Cert.Reference6Ideal.Value.run m' g')
    · refine (h c).1.trans ?_
      rw [(hagree c).1, (hagree c).2.1, (hagree c).2.2.1]
      exact ref1_eq _ _ _
    · refine (h c).2.1.trans ?_
      rw [(hagree c).1, (hagree c).2.1, (hagree c).2.2.1, (hagree c).2.2.2]
      exact ref2_eq _ _ _ _

end Cert.Kernel6Ideal.OutProj

namespace Cert.Kernel3Ideal.FfnUp

open Cert.Common Cert.Kernel3Ideal Cert.Kernel3Ideal.Gen

/-- The value claim of the up projection with the convolution and the gated activation: at finite arguments the kernel's
    hyperbolic tangent spells the logistic function. -/
theorem algebraic : Cert.algebraic_Kernel3Ideal_Reference3Ideal_pre_finite := by
  intro m g m' g' hpre hagree
  refine ⟨fun c => out1 (m ((c : Thread nD τ).loc main_arg0)) (m ((c : Thread nD τ).loc main_arg1)) (m ((c : Thread nD τ).loc main_arg2)),
    fun c => out2 (m ((c : Thread nD τ).loc main_arg3)), ?_, ?_⟩
  · refine (θ_run defs _ _).mono (fun r h c => ⟨(h c).1.trans ((G6_eq m c).trans ?_), (h c).2.1.trans (G7_eq m c), (h c).2.2⟩)
      (Value.run m g)
    exact out1K_eq _ _ _ (fun i => real_of_olt inf_bf16 (congrFun (hpre c).1 i)) (fun i => real_of_olt inf_f32 (congrFun (hpre c).2.1 i))
      (fun i => real_of_olt inf_f32 (congrFun (hpre c).2.2 i))
  · refine (θ_run Cert.Reference3Ideal.defs _ _).mono (fun r h c => ⟨?_, ?_, (h c).2.2⟩) (Cert.Reference3Ideal.Value.run m' g')
    · refine (h c).1.trans ((Cert.Reference3Ideal.Read.val_main_v36_eq m' c).trans ?_)
      rw [(hagree c).1, (hagree c).2.1, (hagree c).2.2.1]
      exact ref1_eq _ _ _
    · refine (h c).2.1.trans ?_
      rw [(hagree c).2.2.2]
      exact ref2_eq _

end Cert.Kernel3Ideal.FfnUp

namespace Cert.Kernel8Ideal.FfnDownMid

open Cert.Kernel8Ideal Cert.Kernel8Ideal.Gen

/-- The value claim of the down projection between two layers. -/
theorem algebraic : Cert.algebraic_Kernel8Ideal_Reference8Ideal := by
  intro m g m' g' _ hagree
  refine ⟨fun c => out1 (m ((c : Thread nD τ).loc main_arg0)) (m ((c : Thread nD τ).loc main_arg1))
      (m ((c : Thread nD τ).loc main_arg2)),
    fun c => out2 (m ((c : Thread nD τ).loc main_arg0)) (m ((c : Thread nD τ).loc main_arg1))
      (m ((c : Thread nD τ).loc main_arg2)) (m ((c : Thread nD τ).loc main_arg3)), ?_, ?_⟩
  · exact (θ_run defs _ _).mono (fun r h c => ⟨(h c).1.trans (G4_eq m c), (h c).2.1.trans (G5_eq m c), (h c).2.2⟩)
      (Value.run_blocks m g)
  · refine (θ_run Cert.Reference8Ideal.defs _ _).mono (fun r h c => ⟨?_, ?_, (h c).2.2⟩) (Cert.Reference8Ideal.Value.run m' g')
    · refine (h c).1.trans ?_
      rw [(hagree c).1, (hagree c).2.1, (hagree c).2.2.1]
      exact ref1_eq _ _ _
    · refine (h c).2.1.trans ?_
      rw [(hagree c).1, (hagree c).2.1, (hagree c).2.2.1, (hagree c).2.2.2]
      exact ref2_eq _ _ _ _

end Cert.Kernel8Ideal.FfnDownMid

namespace Cert.Kernel9Ideal.S5Disc

open Cert.Kernel9Ideal Cert.Kernel9Ideal.Gen

/-- The value claim of the discretisation. -/
theorem algebraic : Cert.algebraic_Kernel9Ideal_Reference9Ideal := by
  intro m g m' g' _ hagree
  refine ⟨fun c => out5 (m ((c : Thread nD τ).loc main_arg0)) (m ((c : Thread nD τ).loc main_arg1))
      (m ((c : Thread nD τ).loc main_arg2)),
    fun c => out6 (m ((c : Thread nD τ).loc main_arg0)) (m ((c : Thread nD τ).loc main_arg1))
      (m ((c : Thread nD τ).loc main_arg2)),
    fun c => out7 (m ((c : Thread nD τ).loc main_arg0)) (m ((c : Thread nD τ).loc main_arg1))
      (m ((c : Thread nD τ).loc main_arg2)) (m ((c : Thread nD τ).loc main_arg3)) (m ((c : Thread nD τ).loc main_arg4)),
    fun c => out8 (m ((c : Thread nD τ).loc main_arg0)) (m ((c : Thread nD τ).loc main_arg1))
      (m ((c : Thread nD τ).loc main_arg2)) (m ((c : Thread nD τ).loc main_arg3)) (m ((c : Thread nD τ).loc main_arg4)), ?_, ?_⟩
  · exact (θ_run defs _ _).mono (fun r h c => ⟨(h c).1.trans (G5_eq m c), (h c).2.1.trans (G6_eq m c),
      (h c).2.2.1.trans (G7_eq m c), (h c).2.2.2.1.trans (G8_eq m c), (h c).2.2.2.2⟩) (Value.run_blocks m g)
  · refine (θ_run Cert.Reference9Ideal.defs _ _).mono (fun r h c => ?_) (Cert.Reference9Ideal.Value.run m' g')
    obtain ⟨a0, a1, a2, a3, a4⟩ := hagree c
    refine ⟨(h c).1.trans ?_, (h c).2.1.trans ?_, (h c).2.2.1.trans ?_, (h c).2.2.2.1.trans ?_, (h c).2.2.2.2⟩
    · rw [a0, a1, a2]
      exact ref5_eq _ _ _
    · rw [a0, a1, a2]
      exact ref6_eq _ _ _
    · rw [a0, a1, a2, a3, a4]
      exact ref7_eq _ _ _ _ _
    · rw [a0, a1, a2, a3, a4]
      exact ref8_eq _ _ _ _ _

end Cert.Kernel9Ideal.S5Disc

end
-- ==== Proof.Held.lean ====
/-
  Programs that only read and write buffers they hold.

  `Keeps c l p`: run on core `c` holding every memref of the list `l` whole, each at some contents, the program `p`
  terminates without fault and hands them all back, each at some contents. It is closed under everything a kernel
  body is made of: a result, a sequence, a load from and a store into a memref of the list, a counted loop and a
  conditional. What the buffers hold is not followed, so the lemmas take no values: they prove that a body RUNS,
  which is what a frame asks of it.
-/
module

public import Idealize.ShloMosaic.Lib.Pipeline.FrameBody
public import Idealize.ShloMosaic.Lib.Pipeline.FrameSuffix
public import Idealize.ShloMosaic.Lib.Tactic

@[expose] public section

noncomputable section

namespace Cert.Held

open Idealize.ShloMosaic Idealize.ShloMosaic.TcCoe
open Idealize.SL Idealize.SL.RA
open Idealize.SL.BI (sProp)
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}

local notation "𝕄" => MT nD τ sig Unit Val ℕ U ℕ

/-- A memref of the TensorCore's vector memory, with its shape and element type. -/
structure Buffer (sig : RefSig) where
  shape : Shape
  elt : EltTy
  mem : Memref sig .tc .vmem shape elt

/-- The buffer of a memref. -/
abbrev buf {s : Shape} {e : EltTy} (m : Memref sig .tc .vmem s e) : Buffer sig := ⟨s, e, m⟩

/-- Core `c` holds a memref's elements whole, at some contents. -/
def one (c : Dev nD) (b : Buffer sig) : sProp 𝕄 :=
  iprop(∃ f, b.mem.view.loc (c : Thread nD τ) ↦[b.mem.view.set]{fullShare} f)

/-- Core `c` holds every memref of the list. -/
def held (c : Dev nD) : List (Buffer sig) → sProp 𝕄
  | [] => emp
  | b :: l => iprop(one c b ∗ held c l)

/-- To hold a memref at some contents is to own it at what it reads. -/
theorem one_owns (c : Dev nD) {s : Shape} {e : EltTy} (m : Memref sig .tc .vmem s e) :
    (one (τ := τ) (Val := Val) (U := U) c (buf m) : sProp 𝕄) ⊢ iprop(∃ X, owns (c : Thread nD τ) m fullShare X) := by
  unfold one owns
  iintro ⟨%f, H⟩
  iexists _; iexists f
  isplitr
  · ipureintro; rfl
  iexact H

theorem owns_one (c : Dev nD) {s : Shape} {e : EltTy} (m : Memref sig .tc .vmem s e) (X : s.Idx → Val e) :
    (owns (c : Thread nD τ) m fullShare X : sProp 𝕄) ⊢ one c (buf m) := by
  unfold one owns
  iintro ⟨%f, -, H⟩
  iexists f; iexact H

/-- One memref of the list, and the rest waiting for it. -/
theorem held_take (c : Dev nD) {b : Buffer sig} : ∀ {l : List (Buffer sig)}, b ∈ l →
    (held (τ := τ) (Val := Val) (U := U) c l : sProp 𝕄) ⊢ iprop(one c b ∗ (one c b -∗ held c l))
  | _, .head l => by
    unfold held
    iintro ⟨H, Hl⟩
    isplitl [H]; · iexact H
    iintro H
    isplitl [H]; · iexact H
    iexact Hl
  | _, .tail a h => by
    unfold held
    iintro ⟨Ha, Hl⟩
    ihave ⟨H, Hk⟩ := (held_take c h) $$ Hl
    isplitl [H]; · iexact H
    iintro H
    isplitl [Ha]; · iexact Ha
    iapply Hk; iexact H

/-- The program runs on the memrefs of the list and hands them back. -/
def Keeps (defs : Defs nD τ sig Val Λ) (c : Dev nD) (l : List (Buffer sig)) {α : Type}
    (p : Prog (TpuEff nD τ sig Val Λ .tc) α) : Prop :=
  ∀ E : Set ℕ, (held c l : sProp 𝕄) ⊢ wp frame (wpE defs Variants.none (c : Thread nD τ) none) E p (fun _ => held c l)

variable {defs : Defs nD τ sig Val Λ} {c : Dev nD} {l : List (Buffer sig)}

theorem Keeps.pure {α : Type} (a : α) : Keeps (U := U) defs c l (Pure.pure a : Prog (TpuEff nD τ sig Val Λ .tc) α) := fun E => by
  rw [wp_pure]
  iintro H
  imodintro
  iexact H

theorem Keeps.bind {α β : Type} {p : Prog (TpuEff nD τ sig Val Λ .tc) α} {k : α → Prog (TpuEff nD τ sig Val Λ .tc) β}
    (hp : Keeps (U := U) defs c l p) (hk : ∀ a, Keeps (U := U) defs c l (k a)) : Keeps (U := U) defs c l (p >>= k) := fun E => by
  rw [wp_bind]
  exact (hp E).trans (wp_mono _ _ _ fun a => hk a E)

theorem Keeps.load {s : Shape} {e : EltTy} {m : Memref sig .tc .vmem s e} {r : LoadRect s} {hl : m.view.LoadsAt r}
    (h : buf m ∈ l) : Keeps (U := U) defs c l (Prog.lift (.load m r hl) : Prog (TpuEff nD τ sig Val Λ .tc) (r.shape.Idx → Val e)) := fun E => by
  unfold Prog.lift
  iintro Hl
  ihave ⟨H, Hk⟩ := (held_take c h) $$ Hl
  unfold one
  icases H with ⟨%f, H⟩
  iapply (wp_load Variants.none (c : Thread nD τ) none E (hl := hl) (m.view.setOn_subset_set _)) $$ H
  iintro H
  rw [wp_ret]
  imodintro
  iapply Hk
  iexists f; iexact H

theorem Keeps.store {s : Shape} {e : EltTy} {m : Memref sig .tc .vmem s e} {r : Rect s} {w : r.shape.Idx → Val e}
    {Mk : Finset r.shape.Idx} {hx : (m.access r).Stores Mk} {hm : Mk = Finset.univ ∨ ∀ a, r.stride a = 1}
    (h : buf m ∈ l) : Keeps (U := U) defs c l (Prog.lift (.store m r w Mk hx hm) : Prog (TpuEff nD τ sig Val Λ .tc) PUnit) := fun E => by
  unfold Prog.lift
  iintro Hl
  ihave ⟨H, Hk⟩ := (held_take c h) $$ Hl
  unfold one
  icases H with ⟨%f, H⟩
  iapply (wp_store Variants.none (c : Thread nD τ) none E (hx := hx) (hm := hm) (S := m.view.set) (Memref.setOn_access_subset m r Mk)) $$ H
  iintro H
  rw [wp_ret]
  imodintro
  iapply Hk
  iexists _; iexact H

theorem Keeps.loop {w : Nat} {lb ub st : BitVec w} {hok : Scf.OK lb ub st} {σ : Type} {init : σ}
    {body : Fin (Scf.trips lb ub st) → σ → Prog (TpuEff nD τ sig Val Λ .tc) σ}
    (h : ∀ k acc, Keeps (U := U) defs c l (body k acc)) : Keeps (U := U) defs c l (Scf.for lb ub st hok init body) := fun E => by
  refine Entails.trans ?_ (Scf.wp_for _ _ _ lb ub st hok init body (fun _ _ => held c l) fun k acc => h k acc E)
  iintro H
  isplitl [H]; · iexact H
  iintro %_ H
  iexact H

theorem Keeps.ite {α : Type} {P : Prop} [Decidable P] {p : P → Prog (TpuEff nD τ sig Val Λ .tc) α}
    {q : ¬P → Prog (TpuEff nD τ sig Val Λ .tc) α}
    (hp : ∀ h, Keeps (U := U) defs c l (p h)) (hq : ∀ h, Keeps (U := U) defs c l (q h)) :
    Keeps (U := U) defs c l (if h : P then p h else q h) := by
  by_cases h : P
  · rw [dif_pos h]; exact hp h
  · rw [dif_neg h]; exact hq h

end Cert.Held

end
-- ==== Proof.S5FrameIdeal.lean ====
/-
  The frame of `s5_scan` read at the extended reals (as S5Frame.lean, of the idealized program): the body at a grid point only reads and writes the nine staging buffers and the four
  scratch buffers it is given (`Cert.Held.Keeps`), whatever they hold, so the run terminates and the argument
  arrays, which no window stages and no later line writes, end as they were.
-/
module

public import proofs.«01_k».proof.Proof.Held
public import proofs.«01_k».proof.Proof.Gen.Kernel10Ideal.Frame

@[expose] public section

set_option maxRecDepth 16384

noncomputable section

namespace Cert.S5FrameIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)
open Cert.Held Cert.Kernel10Ideal Cert.Kernel10Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body runs on the buffers it is given and hands them back: each of its parts is opened where the run meets
    it, and its statements are a load, a store, a loop, a conditional or a result. -/
theorem body_keeps (c : Dev nD) (i : grid0.Coords) (arg2 : Memref sig .tc .vmem S8x32x1024 .f32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x8x128x1024 .bf16) (harg5 : arg5.IsWhole) (arg6 : Memref sig .tc .vmem S1x8x4096 .f32) (harg6 : arg6.IsWhole) (arg7 : Memref sig .tc .vmem S1x8x4096 .f32) (harg7 : arg7.IsWhole) (arg8 : Memref sig .tc .vmem S1x8x1024x128 .bf16) (harg8 : arg8.IsWhole) (arg9 : Memref sig .tc .vmem S1x1x1024 .f32) (harg9 : arg9.IsWhole) (arg10 : Memref sig .tc .vmem S8x32x1024 .bf16) (harg10 : arg10.IsWhole) (arg11 : Memref sig .tc .vmem S256x8192 .f32) (harg11 : arg11.IsWhole) (arg12 : Memref sig .tc .vmem S256x8192 .f32) (harg12 : arg12.IsWhole) (arg13 : Memref sig .tc .vmem S8x4096 .f32) (harg13 : arg13.IsWhole) (arg14 : Memref sig .tc .vmem S8x4096 .f32) (harg14 : arg14.IsWhole) :
    Keeps (U := UR sig nD τ) (defs₀ (F := F)) c [buf arg2, buf arg3, buf arg4, buf arg5, buf arg6, buf arg7, buf arg8, buf arg9, buf arg10, buf arg11, buf arg12, buf arg13, buf arg14]
      (cc0_s5_scan i arg2 harg2 arg3 harg3 arg4 harg4 arg5 harg5 arg6 harg6 arg7 harg7 arg8 harg8 arg9 harg9 arg10 harg10 arg11 harg11 arg12 harg12 arg13 harg13 arg14 harg14) := by
  unfold cc0_s5_scan
  repeat' with_reducible first
    | exact Keeps.pure _
    | refine Keeps.bind ?_ fun _ => ?_
    | refine Keeps.load ?_
    | refine Keeps.store ?_
    | refine Keeps.loop fun _ _ => ?_
    | refine Keeps.ite (fun _ => ?_) fun _ => ?_
    | exact List.mem_cons_self
    | refine List.mem_cons_of_mem _ ?_
    | unfold k0_part1
    | unfold k0_part2
    | unfold k0_part3
    | unfold k0_part4
    | unfold k0_part5
    | unfold k0_part6
    | unfold k0_part7
    | unfold k0_part8
    | unfold k0_part9
    | unfold k0_part10
    | unfold k0_part11
    | unfold k0_part12
    | unfold k0_part13
    | unfold k0_part14
    | unfold k0_part15
    | unfold k0_part16

/-! ## The body at a grid point -/

/-- The launch's invariant is the four scratch buffers, each at some contents, and the register of random bits. -/
theorem PhiA0_held (c : Dev nD) :
    (Pipeline.ΦA spec0 c : sProp 𝕄)
      = iprop(iprop((∃ d, owns (c : Thread nD τ) (Memref.whole cc0_scratch0 : Memref sig .tc .vmem S256x8192 .f32) fullShare d)
          ∗ (∃ d, owns (c : Thread nD τ) (Memref.whole cc0_scratch1 : Memref sig .tc .vmem S256x8192 .f32) fullShare d)
          ∗ (∃ d, owns (c : Thread nD τ) (Memref.whole cc0_scratch2 : Memref sig .tc .vmem S8x4096 .f32) fullShare d)
          ∗ (∃ d, owns (c : Thread nD τ) (Memref.whole cc0_scratch3 : Memref sig .tc .vmem S8x4096 .f32) fullShare d))
        ∗ (∃ r, prngReg c r)) := by
  unfold Pipeline.ΦA; rw [scopedRest0_eq]; simp only [owns_whole]; try rfl

/-- The pipeline's data: the arrays as the region finds them, and nothing said of what the body leaves. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body's row of the table at point `t`. -/
theorem row_body (t : Fin cfg0.N) :
    defs₀ (F := F) .tc cfg0.body (cfg0.bodyArgs t (cfg0.slots t)) = bodyAt0 t := by
  unfold defs₀; rw [Defs.onTc_tc]

/-- What the body leaves in a buffer: some contents, of which nothing is asked. -/
theorem leave (c : Dev nD) {s : Shape} {e : EltTy} (b : Memref sig .tc .vmem s e) :
    (one c (buf b) : sProp 𝕄) ⊢ iprop(∃ X : s.Idx → Elt F e, ⌜True⌝ ∗ owns (c : Thread nD τ) b fullShare X) := by
  iintro H
  ihave ⟨%X, H⟩ := (one_owns c b) $$ H
  iexists X
  isplitr
  · ipureintro; trivial
  iexact H

/-- The body at any point, whatever the staging buffers hold. -/
theorem body_obligation (c : Dev nD) : (rdat m c).BodyObligation (defs₀ (F := F)) Variants.none () Set.univ := fun t Y _ => by
  rw [bigSep_W0, bigSep_W0, row_body]
  show iprop(Pipeline.ΦA spec0 c ∗ _ ∗ _) ⊢ wp _ _ _ _ fun _ => iprop(Pipeline.ΦA spec0 c ∗ _ ∗ _)
  rw [PhiA0_held]
  iintro ⟨⟨⟨⟨%s0, S0⟩, ⟨%s1, S1⟩, ⟨%s2, S2⟩, ⟨%s3, S3⟩⟩, HP⟩, Ho, H0, H1, H2, H3, H4, H5, H6, H7, H8⟩
  iapply (wp_wand_r _ _ _)
  isplitl [S0 S1 S2 S3 H0 H1 H2 H3 H4 H5 H6 H7 H8]
  · iapply (body_keeps (F := F) c _ _ _ _ _ _ _ _ _ _ _ _ _ _ _ _ _ _ _ _ _ _ _ _ _ _ _ Set.univ)
    unfold held held held held held held held held held held held held held held
    isplitl [H0]; · iapply (owns_one c _ _); iexact H0
    isplitl [H1]; · iapply (owns_one c _ _); iexact H1
    isplitl [H2]; · iapply (owns_one c _ _); iexact H2
    isplitl [H3]; · iapply (owns_one c _ _); iexact H3
    isplitl [H4]; · iapply (owns_one c _ _); iexact H4
    isplitl [H5]; · iapply (owns_one c _ _); iexact H5
    isplitl [H6]; · iapply (owns_one c _ _); iexact H6
    isplitl [H7]; · iapply (owns_one c _ _); iexact H7
    isplitl [H8]; · iapply (owns_one c _ _); iexact H8
    isplitl [S0]; · iapply (owns_one c _ _); iexact S0
    isplitl [S1]; · iapply (owns_one c _ _); iexact S1
    isplitl [S2]; · iapply (owns_one c _ _); iexact S2
    isplitl [S3]; · iapply (owns_one c _ _); iexact S3
    exact .rfl
  iintro %_
  unfold held held held held held held held held held held held held held held
  iintro ⟨H0, H1, H2, H3, H4, H5, H6, H7, H8, S0, S1, S2, S3, -⟩
  isplitl [HP S0 S1 S2 S3]
  · isplitl [S0 S1 S2 S3]
    · isplitl [S0]; · iapply (one_owns c _); iexact S0
      isplitl [S1]; · iapply (one_owns c _); iexact S1
      isplitl [S2]; · iapply (one_owns c _); iexact S2
      iapply (one_owns c _); iexact S3
    iexact HP
  isplitl [Ho]; · iexact Ho
  isplitl [H0]; · iapply (leave c _); iexact H0
  isplitl [H1]; · iapply (leave c _); iexact H1
  isplitl [H2]; · iapply (leave c _); iexact H2
  isplitl [H3]; · iapply (leave c _); iexact H3
  isplitl [H4]; · iapply (leave c _); iexact H4
  isplitl [H5]; · iapply (leave c _); iexact H5
  isplitl [H6]; · iapply (leave c _); iexact H6
  isplitl [H7]; · iapply (leave c _); iexact H7
  iapply (leave c _); iexact H8

/-! ## The launch and the frame -/

/-- The one line after the region writes the result only. -/
theorem tail_writes : ∀ ops ∈ ([hostOps1] : List (List (HloOp τ sig (Elt F)))), ∀ op ∈ ops, ∀ b : Ref sig .tc,
    Proc.devRef .tc b ∈ op.writes → b ∈ ({main_v68} : Finset (Ref sig .tc)) := by
  intro ops hops op hop b hb
  simp only [List.mem_singleton] at hops
  subst hops
  simp only [hostOps1, List.mem_singleton] at hop
  subst hop
  simp only [StableHlo.reshape_writes, Finset.mem_singleton] at hb ⊢
  exact Proc.devRef_injective .tc hb

set_option backward.isDefEq.respectTransparency.types false in
/-- The run: every weakly fair execution terminates, every buffer that is neither a windowed array nor the result is
    at every final state as the region found it, and every counter is zero again. -/
theorem run_held : θ_run defs (onTc (τ := τ) (main (F := F))) (s₀ m ρ)
    (fun r => RDat.FramePostR cfg0 (rdat m) {main_v68} (V m) r ∧ r.2.sem = fun _ => 0) :=
  RDat.θ_run_frame_around_T (Q' := _) cfgs (0 : Fin 1) launch0 defs₀ Variants.none (rdat m) {main_v68} m ρ main
    (hbody := body_obligation m) (hshare := fun c => (rdat m c).share_full fun _ => rfl) (howed := fun _ _ => rfl)
    (V₀ := V0 m) (opss := [hostOps1]) (hsub := sfx_sub) (hfresh := sfx_fresh) (hkeep := sfx_keeps) (hT := tail_writes)
    (hmain := hmain m Variants.none) (hA := fun _ _ => rfl) (hΦ := fun _ _ => rfl) (hQ' := fun _ h => h)

/-- An argument array is no window's array and not the result, so the run leaves it as the region found it. -/
theorem kept {r : PUnit × MemSt nD τ sig (Elt F)} (h : RDat.FramePostR cfg0 (rdat m) {main_v68} (V m) r) (c : Dev nD)
    (b : Ref sig .tc) (hs : b.isScoped = false) (ha : ∀ w, (spec0 w).arr.view.ref ≠ b) (hb : b ≠ main_v68) :
    r.2.mem ((c.tc : Thread nD τ).loc b) = V m c b :=
  (h c).2 b (Finset.mem_sdiff.mpr ⟨Pipeline.mem_restRefs_of b hs ha, by rwa [Finset.mem_singleton]⟩)

/-- The frame: the eight argument arrays end unchanged and the machine is quiet. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
    ⟨(kept m h.1 c main_arg0 (by decide) (by decide) (by decide)).trans (V_main_arg0 m c),
      (kept m h.1 c main_arg1 (by decide) (by decide) (by decide)).trans (V_main_arg1 m c),
      (kept m h.1 c main_arg2 (by decide) (by decide) (by decide)).trans (V_main_arg2 m c),
      (kept m h.1 c main_arg3 (by decide) (by decide) (by decide)).trans (V_main_arg3 m c),
      (kept m h.1 c main_arg4 (by decide) (by decide) (by decide)).trans (V_main_arg4 m c),
      (kept m h.1 c main_arg5 (by decide) (by decide) (by decide)).trans (V_main_arg5 m c),
      (kept m h.1 c main_arg6 (by decide) (by decide) (by decide)).trans (V_main_arg6 m c),
      (kept m h.1 c main_arg7 (by decide) (by decide) (by decide)).trans (V_main_arg7 m c)⟩, h.2⟩) (run_held m ρ)

end Cert.S5FrameIdeal

end
-- ==== Proof.lean ====
/-
  The certificate of one layer's calls: every program leaves its arguments and the semaphores as it found them, every ideal
  program is the lowered one with its roundings taken away, and the results of eight calls are the references'.
-/
module

public import proofs.«01_k».proof.Defs
public import proofs.«01_k».proof.Proof.Values
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.S5Frame
public import proofs.«01_k».proof.Proof.S5FrameIdeal
public import proofs.«01_k».proof.Proof.Gen.Reference10Ideal.Run

@[expose] public section

noncomputable section

namespace Cert.Proof

open Idealize.ShloMosaic Idealize.SL.Sem

/-- A reference writes its own arrays only and has no semaphore. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem frame_ref2 : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

theorem frame_ref3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run m g)

theorem frame_ref4 : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

theorem frame_ref5 : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

theorem frame_ref6 : Cert.quiescent_Reference6Ideal := fun m g _ =>
  (θ_run Cert.Reference6Ideal.defs _ _).mono (fun r h => ⟨fun c => (h c).2.2, sem_eq_zero_of_no_sems (by decide) r.2⟩)
    (Cert.Reference6Ideal.Value.run m g)

theorem frame_ref7 : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

theorem frame_ref8 : Cert.quiescent_Reference8Ideal := fun m g _ =>
  (θ_run Cert.Reference8Ideal.defs _ _).mono (fun r h => ⟨fun c => (h c).2.2, sem_eq_zero_of_no_sems (by decide) r.2⟩)
    (Cert.Reference8Ideal.Value.run m g)

theorem frame_ref9 : Cert.quiescent_Reference9Ideal := fun m g _ =>
  (θ_run Cert.Reference9Ideal.defs _ _).mono (fun r h => ⟨fun c => (h c).2.2.2.2, sem_eq_zero_of_no_sems (by decide) r.2⟩)
    (Cert.Reference9Ideal.Value.run m g)

theorem frame_ref10 : Cert.quiescent_Reference10Ideal := fun m g _ =>
  (θ_run Cert.Reference10Ideal.defs _ _).mono (fun r h => ⟨fun c => (h c).2, sem_eq_zero_of_no_sems (by decide) r.2⟩)
    (Cert.Reference10Ideal.Value.run m g)

/-- All the claims together. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.Gen.facts,
  fun m g _ => Cert.Kernel.Gen.frame m g,
  fun m g _ => Cert.KernelIdeal.Gen.frame m g,
  frame_ref,
  fun m g _ => Cert.Kernel2.Gen.frame m g,
  fun m g _ => Cert.Kernel2Ideal.Gen.frame m g,
  frame_ref2,
  fun m g _ => Cert.Kernel3.Gen.frame m g,
  fun m g _ => Cert.Kernel3Ideal.Gen.frame m g,
  fun m g _ => Cert.Kernel3Ideal.Gen.frame m g,
  frame_ref3,
  fun m g _ => frame_ref3 m g trivial,
  fun m g _ => Cert.Kernel4.Gen.frame m g,
  fun m g _ => Cert.Kernel4Ideal.Gen.frame m g,
  frame_ref4,
  fun m g _ => Cert.Kernel5.Gen.frame m g,
  fun m g _ => Cert.Kernel5Ideal.Gen.frame m g,
  frame_ref5,
  fun m g _ => Cert.Kernel6.Gen.frame m g,
  fun m g _ => Cert.Kernel6Ideal.Gen.frame m g,
  frame_ref6,
  fun m g _ => Cert.Kernel7.Gen.frame m g,
  fun m g _ => Cert.Kernel7Ideal.Gen.frame m g,
  frame_ref7,
  fun m g _ => Cert.Kernel8.Gen.frame m g,
  fun m g _ => Cert.Kernel8Ideal.Gen.frame m g,
  frame_ref8,
  fun m g _ => Cert.Kernel9.Gen.frame m g,
  fun m g _ => Cert.Kernel9Ideal.Gen.frame m g,
  frame_ref9,
  fun m g _ => Cert.S5Frame.frame m g,
  fun m g _ => Cert.S5FrameIdeal.frame m g,
  frame_ref10,
  trivial,
  trivial,
  Cert.Kernel2Ideal.InProj.algebraic,
  trivial,
  Cert.Kernel3Ideal.FfnUp.algebraic,
  trivial,
  Cert.Kernel4Ideal.FfnDown.algebraic,
  trivial,
  Cert.Kernel5Ideal.Merge.algebraic,
  trivial,
  Cert.Kernel6Ideal.OutProj.algebraic,
  trivial,
  Cert.Kernel7Ideal.RmsNorm.algebraic,
  trivial,
  Cert.Kernel8Ideal.FfnDownMid.algebraic,
  trivial,
  Cert.Kernel9Ideal.S5Disc.algebraic,
  trivial⟩

end Cert.Proof

end
